-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedRefIdeal (m : (ℓ : Loc Cert.SharedRefIdeal.nD Cert.SharedRefIdeal.τ Cert.SharedRefIdeal.sig) → Buf (Elt Ideal) ℓ) : Prop :=
  True

def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_named [hPre_experts_named : Cert.Pre_experts_named.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_named.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_sample_finite [hPre_sample_finite : Cert.Pre_sample_finite.Facts] (m : (ℓ : Loc Cert.SampleIdeal.nD Cert.SampleIdeal.τ Cert.SampleIdeal.sig) → Buf (Elt Ideal) ℓ) : Prop :=
  ∀ c : Dev Cert.SampleIdeal.nD,
    (Cert.Pre_sample_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3))) = (fun _ => 1#1)

def Pre_SampleRefIdeal (m : (ℓ : Loc Cert.SampleRefIdeal.nD Cert.SampleRefIdeal.τ Cert.SampleRefIdeal.sig) → Buf (Elt Ideal) ℓ) : Prop :=
  True

def Pre_SampleRefIdeal_sample_finite [hPre_sample_finite : Cert.Pre_sample_finite.Facts] (m : (ℓ : Loc Cert.SampleRefIdeal.nD Cert.SampleRefIdeal.τ Cert.SampleRefIdeal.sig) → Buf (Elt Ideal) ℓ) : Prop :=
  ∀ c : Dev Cert.SampleRefIdeal.nD,
    (Cert.Pre_sample_finite.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3))) = (fun _ => 1#1)

def Pre_SampleIn (m : (ℓ : Loc Cert.SampleIn.nD Cert.SampleIn.τ Cert.SampleIn.sig) → Buf (Elt Bits) ℓ) : Prop :=
  True

def Pre_SampleInIdeal (m : (ℓ : Loc Cert.SampleInIdeal.nD Cert.SampleInIdeal.τ Cert.SampleInIdeal.sig) → Buf (Elt Ideal) ℓ) : Prop :=
  True

def Pre_SampleInIdeal_samplein_finite [hPre_samplein_finite : Cert.Pre_samplein_finite.Facts] (m : (ℓ : Loc Cert.SampleInIdeal.nD Cert.SampleInIdeal.τ Cert.SampleInIdeal.sig) → Buf (Elt Ideal) ℓ) : Prop :=
  ∀ c : Dev Cert.SampleInIdeal.nD,
    (Cert.Pre_samplein_finite.fn (F := Ideal) (m ((c.tc : Thread Cert.SampleInIdeal.nD Cert.SampleInIdeal.τ).loc Cert.SampleInIdeal.main_arg0)) (m ((c.tc : Thread Cert.SampleInIdeal.nD Cert.SampleInIdeal.τ).loc Cert.SampleInIdeal.main_arg1)) (m ((c.tc : Thread Cert.SampleInIdeal.nD Cert.SampleInIdeal.τ).loc Cert.SampleInIdeal.main_arg2)) (m ((c.tc : Thread Cert.SampleInIdeal.nD Cert.SampleInIdeal.τ).loc Cert.SampleInIdeal.main_arg3))) = (fun _ => 1#1)

def Pre_SampleInRefIdeal (m : (ℓ : Loc Cert.SampleInRefIdeal.nD Cert.SampleInRefIdeal.τ Cert.SampleInRefIdeal.sig) → Buf (Elt Ideal) ℓ) : Prop :=
  True

def Pre_SampleInRefIdeal_samplein_finite [hPre_samplein_finite : Cert.Pre_samplein_finite.Facts] (m : (ℓ : Loc Cert.SampleInRefIdeal.nD Cert.SampleInRefIdeal.τ Cert.SampleInRefIdeal.sig) → Buf (Elt Ideal) ℓ) : Prop :=
  ∀ c : Dev Cert.SampleInRefIdeal.nD,
    (Cert.Pre_samplein_finite.fn (F := Ideal) (m ((c.tc : Thread Cert.SampleInRefIdeal.nD Cert.SampleInRefIdeal.τ).loc Cert.SampleInRefIdeal.main_arg0)) (m ((c.tc : Thread Cert.SampleInRefIdeal.nD Cert.SampleInRefIdeal.τ).loc Cert.SampleInRefIdeal.main_arg1)) (m ((c.tc : Thread Cert.SampleInRefIdeal.nD Cert.SampleInRefIdeal.τ).loc Cert.SampleInRefIdeal.main_arg2)) (m ((c.tc : Thread Cert.SampleInRefIdeal.nD Cert.SampleInRefIdeal.τ).loc Cert.SampleInRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1)
      ∧ r.2.mem ((c.tc : Thread Cert.AttOutRefIdeal.nD Cert.AttOutRefIdeal.τ).loc Cert.AttOutRefIdeal.main_arg2) = m ((c.tc : Thread Cert.AttOutRefIdeal.nD Cert.AttOutRefIdeal.τ).loc Cert.AttOutRefIdeal.main_arg2))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3)
      ∧ r.2.mem ((c.tc : Thread Cert.GdnOut.nD Cert.GdnOut.τ).loc Cert.GdnOut.main_arg4) = m ((c.tc : Thread Cert.GdnOut.nD Cert.GdnOut.τ).loc Cert.GdnOut.main_arg4))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
      ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1)
      ∧ r.2.mem ((c.tc : Thread Cert.GdnOutRefIdeal.nD Cert.GdnOutRefIdeal.τ).loc Cert.GdnOutRefIdeal.main_arg2) = m ((c.tc : Thread Cert.GdnOutRefIdeal.nD Cert.GdnOutRefIdeal.τ).loc Cert.GdnOutRefIdeal.main_arg2)
      ∧ r.2.mem ((c.tc : Thread Cert.GdnOutRefIdeal.nD Cert.GdnOutRefIdeal.τ).loc Cert.GdnOutRefIdeal.main_arg3) = m ((c.tc : Thread Cert.GdnOutRefIdeal.nD Cert.GdnOutRefIdeal.τ).loc Cert.GdnOutRefIdeal.main_arg3)
      ∧ r.2.mem ((c.tc : Thread Cert.GdnOutRefIdeal.nD Cert.GdnOutRefIdeal.τ).loc Cert.GdnOutRefIdeal.main_arg4) = m ((c.tc : Thread Cert.GdnOutRefIdeal.nD Cert.GdnOutRefIdeal.τ).loc Cert.GdnOutRefIdeal.main_arg4))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2))
      ∧ r.2.sem = fun _ => 0)

def quiescent_SharedRefIdeal [hSharedRefIdeal : Cert.SharedRefIdeal.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2))
      ∧ r.2.sem = fun _ => 0)

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_experts_named [hExpertsRefIdeal : Cert.ExpertsRefIdeal.Facts] [hPre_experts_named : Cert.Pre_experts_named.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_named m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ r.2.sem = fun _ => 0)

def quiescent_SampleIdeal_pre_sample_finite [hSampleIdeal : Cert.SampleIdeal.Facts] [hPre_sample_finite : Cert.Pre_sample_finite.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_sample_finite m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3))
      ∧ r.2.sem = fun _ => 0)

def quiescent_SampleRefIdeal_pre_sample_finite [hSampleRefIdeal : Cert.SampleRefIdeal.Facts] [hPre_sample_finite : Cert.Pre_sample_finite.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal_sample_finite m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3))
      ∧ r.2.sem = fun _ => 0)

def quiescent_SampleIn [hSampleIn : Cert.SampleIn.Facts] : Prop :=
  ∀ (m : (ℓ : Loc Cert.SampleIn.nD Cert.SampleIn.τ Cert.SampleIn.sig) → Buf (Elt Bits) ℓ) (g : Dev Cert.SampleIn.nD → PrngReg), Pre_SampleIn m →
    θ_run (Cert.SampleIn.defs (F := Bits)) (onTc (τ := Cert.SampleIn.τ) (Cert.SampleIn.main (F := Bits))) ⟨m, fun _ => 0, g⟩ (fun r => (∀ c : Dev Cert.SampleIn.nD,
      r.2.mem ((c.tc : Thread Cert.SampleIn.nD Cert.SampleIn.τ).loc Cert.SampleIn.main_arg0) = m ((c.tc : Thread Cert.SampleIn.nD Cert.SampleIn.τ).loc Cert.SampleIn.main_arg0)
      ∧ r.2.mem ((c.tc : Thread Cert.SampleIn.nD Cert.SampleIn.τ).loc Cert.SampleIn.main_arg1) = m ((c.tc : Thread Cert.SampleIn.nD Cert.SampleIn.τ).loc Cert.SampleIn.main_arg1)
      ∧ r.2.mem ((c.tc : Thread Cert.SampleIn.nD Cert.SampleIn.τ).loc Cert.SampleIn.main_arg2) = m ((c.tc : Thread Cert.SampleIn.nD Cert.SampleIn.τ).loc Cert.SampleIn.main_arg2)
      ∧ r.2.mem ((c.tc : Thread Cert.SampleIn.nD Cert.SampleIn.τ).loc Cert.SampleIn.main_arg3) = m ((c.tc : Thread Cert.SampleIn.nD Cert.SampleIn.τ).loc Cert.SampleIn.main_arg3))
      ∧ r.2.sem = fun _ => 0)

def quiescent_SampleInIdeal [hSampleInIdeal : Cert.SampleInIdeal.Facts] : Prop :=
  ∀ (m : (ℓ : Loc Cert.SampleInIdeal.nD Cert.SampleInIdeal.τ Cert.SampleInIdeal.sig) → Buf (Elt Ideal) ℓ) (g : Dev Cert.SampleInIdeal.nD → PrngReg), Pre_SampleInIdeal m →
    θ_run (Cert.SampleInIdeal.defs (F := Ideal)) (onTc (τ := Cert.SampleInIdeal.τ) (Cert.SampleInIdeal.main (F := Ideal))) ⟨m, fun _ => 0, g⟩ (fun r => (∀ c : Dev Cert.SampleInIdeal.nD,
      r.2.mem ((c.tc : Thread Cert.SampleInIdeal.nD Cert.SampleInIdeal.τ).loc Cert.SampleInIdeal.main_arg0) = m ((c.tc : Thread Cert.SampleInIdeal.nD Cert.SampleInIdeal.τ).loc Cert.SampleInIdeal.main_arg0)
      ∧ r.2.mem ((c.tc : Thread Cert.SampleInIdeal.nD Cert.SampleInIdeal.τ).loc Cert.SampleInIdeal.main_arg1) = m ((c.tc : Thread Cert.SampleInIdeal.nD Cert.SampleInIdeal.τ).loc Cert.SampleInIdeal.main_arg1)
      ∧ r.2.mem ((c.tc : Thread Cert.SampleInIdeal.nD Cert.SampleInIdeal.τ).loc Cert.SampleInIdeal.main_arg2) = m ((c.tc : Thread Cert.SampleInIdeal.nD Cert.SampleInIdeal.τ).loc Cert.SampleInIdeal.main_arg2)
      ∧ r.2.mem ((c.tc : Thread Cert.SampleInIdeal.nD Cert.SampleInIdeal.τ).loc Cert.SampleInIdeal.main_arg3) = m ((c.tc : Thread Cert.SampleInIdeal.nD Cert.SampleInIdeal.τ).loc Cert.SampleInIdeal.main_arg3))
      ∧ r.2.sem = fun _ => 0)

def quiescent_SampleInIdeal_pre_samplein_finite [hSampleInIdeal : Cert.SampleInIdeal.Facts] [hPre_samplein_finite : Cert.Pre_samplein_finite.Facts] : Prop :=
  ∀ (m : (ℓ : Loc Cert.SampleInIdeal.nD Cert.SampleInIdeal.τ Cert.SampleInIdeal.sig) → Buf (Elt Ideal) ℓ) (g : Dev Cert.SampleInIdeal.nD → PrngReg), Pre_SampleInIdeal_samplein_finite m →
    θ_run (Cert.SampleInIdeal.defs (F := Ideal)) (onTc (τ := Cert.SampleInIdeal.τ) (Cert.SampleInIdeal.main (F := Ideal))) ⟨m, fun _ => 0, g⟩ (fun r => (∀ c : Dev Cert.SampleInIdeal.nD,
      r.2.mem ((c.tc : Thread Cert.SampleInIdeal.nD Cert.SampleInIdeal.τ).loc Cert.SampleInIdeal.main_arg0) = m ((c.tc : Thread Cert.SampleInIdeal.nD Cert.SampleInIdeal.τ).loc Cert.SampleInIdeal.main_arg0)
      ∧ r.2.mem ((c.tc : Thread Cert.SampleInIdeal.nD Cert.SampleInIdeal.τ).loc Cert.SampleInIdeal.main_arg1) = m ((c.tc : Thread Cert.SampleInIdeal.nD Cert.SampleInIdeal.τ).loc Cert.SampleInIdeal.main_arg1)
      ∧ r.2.mem ((c.tc : Thread Cert.SampleInIdeal.nD Cert.SampleInIdeal.τ).loc Cert.SampleInIdeal.main_arg2) = m ((c.tc : Thread Cert.SampleInIdeal.nD Cert.SampleInIdeal.τ).loc Cert.SampleInIdeal.main_arg2)
      ∧ r.2.mem ((c.tc : Thread Cert.SampleInIdeal.nD Cert.SampleInIdeal.τ).loc Cert.SampleInIdeal.main_arg3) = m ((c.tc : Thread Cert.SampleInIdeal.nD Cert.SampleInIdeal.τ).loc Cert.SampleInIdeal.main_arg3))
      ∧ r.2.sem = fun _ => 0)

def quiescent_SampleInRefIdeal [hSampleInRefIdeal : Cert.SampleInRefIdeal.Facts] : Prop :=
  ∀ (m : (ℓ : Loc Cert.SampleInRefIdeal.nD Cert.SampleInRefIdeal.τ Cert.SampleInRefIdeal.sig) → Buf (Elt Ideal) ℓ) (g : Dev Cert.SampleInRefIdeal.nD → PrngReg), Pre_SampleInRefIdeal m →
    θ_run (Cert.SampleInRefIdeal.defs (F := Ideal)) (onTc (τ := Cert.SampleInRefIdeal.τ) (Cert.SampleInRefIdeal.main (F := Ideal))) ⟨m, fun _ => 0, g⟩ (fun r => (∀ c : Dev Cert.SampleInRefIdeal.nD,
      r.2.mem ((c.tc : Thread Cert.SampleInRefIdeal.nD Cert.SampleInRefIdeal.τ).loc Cert.SampleInRefIdeal.main_arg0) = m ((c.tc : Thread Cert.SampleInRefIdeal.nD Cert.SampleInRefIdeal.τ).loc Cert.SampleInRefIdeal.main_arg0)
      ∧ r.2.mem ((c.tc : Thread Cert.SampleInRefIdeal.nD Cert.SampleInRefIdeal.τ).loc Cert.SampleInRefIdeal.main_arg1) = m ((c.tc : Thread Cert.SampleInRefIdeal.nD Cert.SampleInRefIdeal.τ).loc Cert.SampleInRefIdeal.main_arg1)
      ∧ r.2.mem ((c.tc : Thread Cert.SampleInRefIdeal.nD Cert.SampleInRefIdeal.τ).loc Cert.SampleInRefIdeal.main_arg2) = m ((c.tc : Thread Cert.SampleInRefIdeal.nD Cert.SampleInRefIdeal.τ).loc Cert.SampleInRefIdeal.main_arg2)
      ∧ r.2.mem ((c.tc : Thread Cert.SampleInRefIdeal.nD Cert.SampleInRefIdeal.τ).loc Cert.SampleInRefIdeal.main_arg3) = m ((c.tc : Thread Cert.SampleInRefIdeal.nD Cert.SampleInRefIdeal.τ).loc Cert.SampleInRefIdeal.main_arg3))
      ∧ r.2.sem = fun _ => 0)

def quiescent_SampleInRefIdeal_pre_samplein_finite [hSampleInRefIdeal : Cert.SampleInRefIdeal.Facts] [hPre_samplein_finite : Cert.Pre_samplein_finite.Facts] : Prop :=
  ∀ (m : (ℓ : Loc Cert.SampleInRefIdeal.nD Cert.SampleInRefIdeal.τ Cert.SampleInRefIdeal.sig) → Buf (Elt Ideal) ℓ) (g : Dev Cert.SampleInRefIdeal.nD → PrngReg), Pre_SampleInRefIdeal_samplein_finite m →
    θ_run (Cert.SampleInRefIdeal.defs (F := Ideal)) (onTc (τ := Cert.SampleInRefIdeal.τ) (Cert.SampleInRefIdeal.main (F := Ideal))) ⟨m, fun _ => 0, g⟩ (fun r => (∀ c : Dev Cert.SampleInRefIdeal.nD,
      r.2.mem ((c.tc : Thread Cert.SampleInRefIdeal.nD Cert.SampleInRefIdeal.τ).loc Cert.SampleInRefIdeal.main_arg0) = m ((c.tc : Thread Cert.SampleInRefIdeal.nD Cert.SampleInRefIdeal.τ).loc Cert.SampleInRefIdeal.main_arg0)
      ∧ r.2.mem ((c.tc : Thread Cert.SampleInRefIdeal.nD Cert.SampleInRefIdeal.τ).loc Cert.SampleInRefIdeal.main_arg1) = m ((c.tc : Thread Cert.SampleInRefIdeal.nD Cert.SampleInRefIdeal.τ).loc Cert.SampleInRefIdeal.main_arg1)
      ∧ r.2.mem ((c.tc : Thread Cert.SampleInRefIdeal.nD Cert.SampleInRefIdeal.τ).loc Cert.SampleInRefIdeal.main_arg2) = m ((c.tc : Thread Cert.SampleInRefIdeal.nD Cert.SampleInRefIdeal.τ).loc Cert.SampleInRefIdeal.main_arg2)
      ∧ r.2.mem ((c.tc : Thread Cert.SampleInRefIdeal.nD Cert.SampleInRefIdeal.τ).loc Cert.SampleInRefIdeal.main_arg3) = m ((c.tc : Thread Cert.SampleInRefIdeal.nD Cert.SampleInRefIdeal.τ).loc Cert.SampleInRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v6_0)) (v1 : (c : Dev Cert.ProjIdeal.nD) → Buf (Elt Ideal) ((c.tc : Thread Cert.ProjIdeal.nD Cert.ProjIdeal.τ).loc Cert.ProjIdeal.main_v6_1)) (v2 : (c : Dev Cert.ProjIdeal.nD) → Buf (Elt Ideal) ((c.tc : Thread Cert.ProjIdeal.nD Cert.ProjIdeal.τ).loc Cert.ProjIdeal.main_v8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6_0) = v0 c
          ∧ r.2.mem ((c.tc : Thread Cert.ProjIdeal.nD Cert.ProjIdeal.τ).loc Cert.ProjIdeal.main_v6_1) = v1 c
          ∧ r.2.mem ((c.tc : Thread Cert.ProjIdeal.nD Cert.ProjIdeal.τ).loc Cert.ProjIdeal.main_v8) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v18) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_v19) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v14) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)
      ∧ m' ((c.tc : Thread Cert.AttOutRefIdeal.nD Cert.AttOutRefIdeal.τ).loc Cert.AttOutRefIdeal.main_arg2) = m ((c.tc : Thread Cert.AttOutIdeal.nD Cert.AttOutIdeal.τ).loc Cert.AttOutIdeal.main_arg2)) →
    ∃ (v0 : (c : Dev Cert.AttOutIdeal.nD) → Buf (Elt Ideal) ((c.tc : Thread Cert.AttOutIdeal.nD Cert.AttOutIdeal.τ).loc Cert.AttOutIdeal.main_v1)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v1) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v2) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1)
          ∧ r.2.mem ((c.tc : Thread Cert.AttOutRefIdeal.nD Cert.AttOutRefIdeal.τ).loc Cert.AttOutRefIdeal.main_arg2) = m' ((c.tc : Thread Cert.AttOutRefIdeal.nD Cert.AttOutRefIdeal.τ).loc Cert.AttOutRefIdeal.main_arg2))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)
      ∧ m' ((c.tc : Thread Cert.GdnOutRefIdeal.nD Cert.GdnOutRefIdeal.τ).loc Cert.GdnOutRefIdeal.main_arg2) = m ((c.tc : Thread Cert.GdnOutIdeal.nD Cert.GdnOutIdeal.τ).loc Cert.GdnOutIdeal.main_arg2)
      ∧ m' ((c.tc : Thread Cert.GdnOutRefIdeal.nD Cert.GdnOutRefIdeal.τ).loc Cert.GdnOutRefIdeal.main_arg3) = m ((c.tc : Thread Cert.GdnOutIdeal.nD Cert.GdnOutIdeal.τ).loc Cert.GdnOutIdeal.main_arg3)
      ∧ m' ((c.tc : Thread Cert.GdnOutRefIdeal.nD Cert.GdnOutRefIdeal.τ).loc Cert.GdnOutRefIdeal.main_arg4) = m ((c.tc : Thread Cert.GdnOutIdeal.nD Cert.GdnOutIdeal.τ).loc Cert.GdnOutIdeal.main_arg4)) →
    ∃ (v0 : (c : Dev Cert.GdnOutIdeal.nD) → Buf (Elt Ideal) ((c.tc : Thread Cert.GdnOutIdeal.nD Cert.GdnOutIdeal.τ).loc Cert.GdnOutIdeal.main_v2)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v2) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
          ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v21) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1)
          ∧ r.2.mem ((c.tc : Thread Cert.GdnOutRefIdeal.nD Cert.GdnOutRefIdeal.τ).loc Cert.GdnOutRefIdeal.main_arg2) = m' ((c.tc : Thread Cert.GdnOutRefIdeal.nD Cert.GdnOutRefIdeal.τ).loc Cert.GdnOutRefIdeal.main_arg2)
          ∧ r.2.mem ((c.tc : Thread Cert.GdnOutRefIdeal.nD Cert.GdnOutRefIdeal.τ).loc Cert.GdnOutRefIdeal.main_arg3) = m' ((c.tc : Thread Cert.GdnOutRefIdeal.nD Cert.GdnOutRefIdeal.τ).loc Cert.GdnOutRefIdeal.main_arg3)
          ∧ r.2.mem ((c.tc : Thread Cert.GdnOutRefIdeal.nD Cert.GdnOutRefIdeal.τ).loc Cert.GdnOutRefIdeal.main_arg4) = m' ((c.tc : Thread Cert.GdnOutRefIdeal.nD Cert.GdnOutRefIdeal.τ).loc Cert.GdnOutRefIdeal.main_arg4))

def preserves_Shared_SharedIdeal : Prop :=
  True

def algebraic_SharedIdeal_SharedRefIdeal [hSharedIdeal : Cert.SharedIdeal.Facts] [hSharedRefIdeal : Cert.SharedRefIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedRefIdeal.nD Cert.SharedRefIdeal.τ Cert.SharedRefIdeal.sig) → Buf (Elt Ideal) ℓ) (g' : Dev Cert.SharedRefIdeal.nD → PrngReg), Pre_SharedIdeal m →
    (∀ c : Dev Cert.SharedIdeal.nD,
      m' ((c.tc : Thread Cert.SharedRefIdeal.nD Cert.SharedRefIdeal.τ).loc Cert.SharedRefIdeal.main_arg0) = m ((c.tc : Thread Cert.SharedIdeal.nD Cert.SharedIdeal.τ).loc Cert.SharedIdeal.main_arg0)
      ∧ m' ((c.tc : Thread Cert.SharedRefIdeal.nD Cert.SharedRefIdeal.τ).loc Cert.SharedRefIdeal.main_arg1) = m ((c.tc : Thread Cert.SharedIdeal.nD Cert.SharedIdeal.τ).loc Cert.SharedIdeal.main_arg1)
      ∧ m' ((c.tc : Thread Cert.SharedRefIdeal.nD Cert.SharedRefIdeal.τ).loc Cert.SharedRefIdeal.main_arg2) = m ((c.tc : Thread Cert.SharedIdeal.nD Cert.SharedIdeal.τ).loc Cert.SharedIdeal.main_arg2)) →
    ∃ (v0 : (c : Dev Cert.SharedIdeal.nD) → Buf (Elt Ideal) ((c.tc : Thread Cert.SharedIdeal.nD Cert.SharedIdeal.τ).loc Cert.SharedIdeal.main_v2)) (v1 : (c : Dev Cert.SharedIdeal.nD) → Buf (Elt Ideal) ((c.tc : Thread Cert.SharedIdeal.nD Cert.SharedIdeal.τ).loc Cert.SharedIdeal.main_v5)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v2) = v0 c
          ∧ r.2.mem ((c.tc : Thread Cert.SharedIdeal.nD Cert.SharedIdeal.τ).loc Cert.SharedIdeal.main_v5) = v1 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2))
      ∧ θ_run (Cert.SharedRefIdeal.defs (F := Ideal)) (onTc (τ := Cert.SharedRefIdeal.τ) (Cert.SharedRefIdeal.main (F := Ideal))) ⟨m', fun _ => 0, g'⟩ (fun r => ∀ c : Dev Cert.SharedRefIdeal.nD,
          r.2.mem ((c.tc : Thread Cert.SharedRefIdeal.nD Cert.SharedRefIdeal.τ).loc Cert.SharedRefIdeal.main_v13) = v0 c
          ∧ r.2.mem ((c.tc : Thread Cert.SharedRefIdeal.nD Cert.SharedRefIdeal.τ).loc Cert.SharedRefIdeal.main_v16) = v1 c
          ∧ r.2.mem ((c.tc : Thread Cert.SharedRefIdeal.nD Cert.SharedRefIdeal.τ).loc Cert.SharedRefIdeal.main_arg0) = m' ((c.tc : Thread Cert.SharedRefIdeal.nD Cert.SharedRefIdeal.τ).loc Cert.SharedRefIdeal.main_arg0)
          ∧ r.2.mem ((c.tc : Thread Cert.SharedRefIdeal.nD Cert.SharedRefIdeal.τ).loc Cert.SharedRefIdeal.main_arg1) = m' ((c.tc : Thread Cert.SharedRefIdeal.nD Cert.SharedRefIdeal.τ).loc Cert.SharedRefIdeal.main_arg1)
          ∧ r.2.mem ((c.tc : Thread Cert.SharedRefIdeal.nD Cert.SharedRefIdeal.τ).loc Cert.SharedRefIdeal.main_arg2) = m' ((c.tc : Thread Cert.SharedRefIdeal.nD Cert.SharedRefIdeal.τ).loc Cert.SharedRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v27) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Sample_SampleIdeal : Prop :=
  True

def algebraic_SampleIdeal_SampleRefIdeal_pre_sample_finite [hSampleIdeal : Cert.SampleIdeal.Facts] [hSampleRefIdeal : Cert.SampleRefIdeal.Facts] [hPre_sample_finite : Cert.Pre_sample_finite.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal_sample_finite m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)) →
    ∃ (v0 : (c : Dev Cert.SampleIdeal.nD) → Buf (Elt Ideal) ((c.tc : Thread Cert.SampleIdeal.nD Cert.SampleIdeal.τ).loc Cert.SampleIdeal.main_v1)) (v1 : (c : Dev Cert.SampleIdeal.nD) → Buf (Elt Ideal) ((c.tc : Thread Cert.SampleIdeal.nD Cert.SampleIdeal.τ).loc Cert.SampleIdeal.main_v7)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v1) = v0 c
          ∧ r.2.mem ((c.tc : Thread Cert.SampleIdeal.nD Cert.SampleIdeal.τ).loc Cert.SampleIdeal.main_v7) = v1 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v13) = v0 c
          ∧ r.2.mem ((c.tc : Thread Cert.SampleRefIdeal.nD Cert.SampleRefIdeal.τ).loc Cert.SampleRefIdeal.main_v17) = v1 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3))

def preserves_SampleIn_SampleInIdeal : Prop :=
  True

def algebraic_SampleInIdeal_SampleInRefIdeal_pre_samplein_finite [hSampleInIdeal : Cert.SampleInIdeal.Facts] [hSampleInRefIdeal : Cert.SampleInRefIdeal.Facts] [hPre_samplein_finite : Cert.Pre_samplein_finite.Facts] : Prop :=
  ∀ (m : (ℓ : Loc Cert.SampleInIdeal.nD Cert.SampleInIdeal.τ Cert.SampleInIdeal.sig) → Buf (Elt Ideal) ℓ) (g : Dev Cert.SampleInIdeal.nD → PrngReg)
    (m' : (ℓ : Loc Cert.SampleInRefIdeal.nD Cert.SampleInRefIdeal.τ Cert.SampleInRefIdeal.sig) → Buf (Elt Ideal) ℓ) (g' : Dev Cert.SampleInRefIdeal.nD → PrngReg), Pre_SampleInIdeal_samplein_finite m →
    (∀ c : Dev Cert.SampleInIdeal.nD,
      m' ((c.tc : Thread Cert.SampleInRefIdeal.nD Cert.SampleInRefIdeal.τ).loc Cert.SampleInRefIdeal.main_arg0) = m ((c.tc : Thread Cert.SampleInIdeal.nD Cert.SampleInIdeal.τ).loc Cert.SampleInIdeal.main_arg0)
      ∧ m' ((c.tc : Thread Cert.SampleInRefIdeal.nD Cert.SampleInRefIdeal.τ).loc Cert.SampleInRefIdeal.main_arg1) = m ((c.tc : Thread Cert.SampleInIdeal.nD Cert.SampleInIdeal.τ).loc Cert.SampleInIdeal.main_arg1)
      ∧ m' ((c.tc : Thread Cert.SampleInRefIdeal.nD Cert.SampleInRefIdeal.τ).loc Cert.SampleInRefIdeal.main_arg2) = m ((c.tc : Thread Cert.SampleInIdeal.nD Cert.SampleInIdeal.τ).loc Cert.SampleInIdeal.main_arg2)
      ∧ m' ((c.tc : Thread Cert.SampleInRefIdeal.nD Cert.SampleInRefIdeal.τ).loc Cert.SampleInRefIdeal.main_arg3) = m ((c.tc : Thread Cert.SampleInIdeal.nD Cert.SampleInIdeal.τ).loc Cert.SampleInIdeal.main_arg3)) →
    ∃ (v0 : (c : Dev Cert.SampleInIdeal.nD) → Buf (Elt Ideal) ((c.tc : Thread Cert.SampleInIdeal.nD Cert.SampleInIdeal.τ).loc Cert.SampleInIdeal.main_v3_0)) (v1 : (c : Dev Cert.SampleInIdeal.nD) → Buf (Elt Ideal) ((c.tc : Thread Cert.SampleInIdeal.nD Cert.SampleInIdeal.τ).loc Cert.SampleInIdeal.main_v3_1)) (v2 : (c : Dev Cert.SampleInIdeal.nD) → Buf (Elt Ideal) ((c.tc : Thread Cert.SampleInIdeal.nD Cert.SampleInIdeal.τ).loc Cert.SampleInIdeal.main_v7)),
      θ_run (Cert.SampleInIdeal.defs (F := Ideal)) (onTc (τ := Cert.SampleInIdeal.τ) (Cert.SampleInIdeal.main (F := Ideal))) ⟨m, fun _ => 0, g⟩ (fun r => ∀ c : Dev Cert.SampleInIdeal.nD,
          r.2.mem ((c.tc : Thread Cert.SampleInIdeal.nD Cert.SampleInIdeal.τ).loc Cert.SampleInIdeal.main_v3_0) = v0 c
          ∧ r.2.mem ((c.tc : Thread Cert.SampleInIdeal.nD Cert.SampleInIdeal.τ).loc Cert.SampleInIdeal.main_v3_1) = v1 c
          ∧ r.2.mem ((c.tc : Thread Cert.SampleInIdeal.nD Cert.SampleInIdeal.τ).loc Cert.SampleInIdeal.main_v7) = v2 c
          ∧ r.2.mem ((c.tc : Thread Cert.SampleInIdeal.nD Cert.SampleInIdeal.τ).loc Cert.SampleInIdeal.main_arg0) = m ((c.tc : Thread Cert.SampleInIdeal.nD Cert.SampleInIdeal.τ).loc Cert.SampleInIdeal.main_arg0)
          ∧ r.2.mem ((c.tc : Thread Cert.SampleInIdeal.nD Cert.SampleInIdeal.τ).loc Cert.SampleInIdeal.main_arg1) = m ((c.tc : Thread Cert.SampleInIdeal.nD Cert.SampleInIdeal.τ).loc Cert.SampleInIdeal.main_arg1)
          ∧ r.2.mem ((c.tc : Thread Cert.SampleInIdeal.nD Cert.SampleInIdeal.τ).loc Cert.SampleInIdeal.main_arg2) = m ((c.tc : Thread Cert.SampleInIdeal.nD Cert.SampleInIdeal.τ).loc Cert.SampleInIdeal.main_arg2)
          ∧ r.2.mem ((c.tc : Thread Cert.SampleInIdeal.nD Cert.SampleInIdeal.τ).loc Cert.SampleInIdeal.main_arg3) = m ((c.tc : Thread Cert.SampleInIdeal.nD Cert.SampleInIdeal.τ).loc Cert.SampleInIdeal.main_arg3))
      ∧ θ_run (Cert.SampleInRefIdeal.defs (F := Ideal)) (onTc (τ := Cert.SampleInRefIdeal.τ) (Cert.SampleInRefIdeal.main (F := Ideal))) ⟨m', fun _ => 0, g'⟩ (fun r => ∀ c : Dev Cert.SampleInRefIdeal.nD,
          r.2.mem ((c.tc : Thread Cert.SampleInRefIdeal.nD Cert.SampleInRefIdeal.τ).loc Cert.SampleInRefIdeal.main_v21) = v0 c
          ∧ r.2.mem ((c.tc : Thread Cert.SampleInRefIdeal.nD Cert.SampleInRefIdeal.τ).loc Cert.SampleInRefIdeal.main_v17) = v1 c
          ∧ r.2.mem ((c.tc : Thread Cert.SampleInRefIdeal.nD Cert.SampleInRefIdeal.τ).loc Cert.SampleInRefIdeal.main_v22) = v2 c
          ∧ r.2.mem ((c.tc : Thread Cert.SampleInRefIdeal.nD Cert.SampleInRefIdeal.τ).loc Cert.SampleInRefIdeal.main_arg0) = m' ((c.tc : Thread Cert.SampleInRefIdeal.nD Cert.SampleInRefIdeal.τ).loc Cert.SampleInRefIdeal.main_arg0)
          ∧ r.2.mem ((c.tc : Thread Cert.SampleInRefIdeal.nD Cert.SampleInRefIdeal.τ).loc Cert.SampleInRefIdeal.main_arg1) = m' ((c.tc : Thread Cert.SampleInRefIdeal.nD Cert.SampleInRefIdeal.τ).loc Cert.SampleInRefIdeal.main_arg1)
          ∧ r.2.mem ((c.tc : Thread Cert.SampleInRefIdeal.nD Cert.SampleInRefIdeal.τ).loc Cert.SampleInRefIdeal.main_arg2) = m' ((c.tc : Thread Cert.SampleInRefIdeal.nD Cert.SampleInRefIdeal.τ).loc Cert.SampleInRefIdeal.main_arg2)
          ∧ r.2.mem ((c.tc : Thread Cert.SampleInRefIdeal.nD Cert.SampleInRefIdeal.τ).loc Cert.SampleInRefIdeal.main_arg3) = m' ((c.tc : Thread Cert.SampleInRefIdeal.nD Cert.SampleInRefIdeal.τ).loc Cert.SampleInRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hQuery : Cert.Query.Facts) (hQueryIdeal : Cert.QueryIdeal.Facts) (hQueryRefIdeal : Cert.QueryRefIdeal.Facts) (hAttOut : Cert.AttOut.Facts) (hAttOutIdeal : Cert.AttOutIdeal.Facts) (hAttOutRefIdeal : Cert.AttOutRefIdeal.Facts) (hGdnOut : Cert.GdnOut.Facts) (hGdnOutIdeal : Cert.GdnOutIdeal.Facts) (hGdnOutRefIdeal : Cert.GdnOutRefIdeal.Facts) (hShared : Cert.Shared.Facts) (hSharedIdeal : Cert.SharedIdeal.Facts) (hSharedRefIdeal : Cert.SharedRefIdeal.Facts) (hExperts : Cert.Experts.Facts) (hExpertsIdeal : Cert.ExpertsIdeal.Facts) (hExpertsRefIdeal : Cert.ExpertsRefIdeal.Facts) (hSample : Cert.Sample.Facts) (hSampleIdeal : Cert.SampleIdeal.Facts) (hSampleRefIdeal : Cert.SampleRefIdeal.Facts) (hSampleIn : Cert.SampleIn.Facts) (hSampleInIdeal : Cert.SampleInIdeal.Facts) (hSampleInRefIdeal : Cert.SampleInRefIdeal.Facts) (hPre_experts_named : Cert.Pre_experts_named.Facts) (hPre_sample_finite : Cert.Pre_sample_finite.Facts) (hPre_samplein_finite : Cert.Pre_samplein_finite.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Query (hQuery := hQuery)
    ∧ quiescent_QueryIdeal (hQueryIdeal := hQueryIdeal)
    ∧ quiescent_QueryRefIdeal (hQueryRefIdeal := hQueryRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_Shared (hShared := hShared)
    ∧ quiescent_SharedIdeal (hSharedIdeal := hSharedIdeal)
    ∧ quiescent_SharedRefIdeal (hSharedRefIdeal := hSharedRefIdeal)
    ∧ quiescent_Experts (hExperts := hExperts) (hPre_experts_named := hPre_experts_named)
    ∧ quiescent_ExpertsIdeal (hExpertsIdeal := hExpertsIdeal) (hPre_experts_named := hPre_experts_named)
    ∧ quiescent_ExpertsRefIdeal (hExpertsRefIdeal := hExpertsRefIdeal)
    ∧ quiescent_ExpertsRefIdeal_pre_experts_named (hExpertsRefIdeal := hExpertsRefIdeal) (hPre_experts_named := hPre_experts_named)
    ∧ quiescent_Sample (hSample := hSample)
    ∧ quiescent_SampleIdeal (hSampleIdeal := hSampleIdeal)
    ∧ quiescent_SampleIdeal_pre_sample_finite (hSampleIdeal := hSampleIdeal) (hPre_sample_finite := hPre_sample_finite)
    ∧ quiescent_SampleRefIdeal (hSampleRefIdeal := hSampleRefIdeal)
    ∧ quiescent_SampleRefIdeal_pre_sample_finite (hSampleRefIdeal := hSampleRefIdeal) (hPre_sample_finite := hPre_sample_finite)
    ∧ quiescent_SampleIn (hSampleIn := hSampleIn)
    ∧ quiescent_SampleInIdeal (hSampleInIdeal := hSampleInIdeal)
    ∧ quiescent_SampleInIdeal_pre_samplein_finite (hSampleInIdeal := hSampleInIdeal) (hPre_samplein_finite := hPre_samplein_finite)
    ∧ quiescent_SampleInRefIdeal (hSampleInRefIdeal := hSampleInRefIdeal)
    ∧ quiescent_SampleInRefIdeal_pre_samplein_finite (hSampleInRefIdeal := hSampleInRefIdeal) (hPre_samplein_finite := hPre_samplein_finite)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Query_QueryIdeal
    ∧ algebraic_QueryIdeal_QueryRefIdeal (hQueryIdeal := hQueryIdeal) (hQueryRefIdeal := hQueryRefIdeal)
    ∧ preserves_AttOut_AttOutIdeal
    ∧ algebraic_AttOutIdeal_AttOutRefIdeal (hAttOutIdeal := hAttOutIdeal) (hAttOutRefIdeal := hAttOutRefIdeal)
    ∧ preserves_GdnOut_GdnOutIdeal
    ∧ algebraic_GdnOutIdeal_GdnOutRefIdeal (hGdnOutIdeal := hGdnOutIdeal) (hGdnOutRefIdeal := hGdnOutRefIdeal)
    ∧ preserves_Shared_SharedIdeal
    ∧ algebraic_SharedIdeal_SharedRefIdeal (hSharedIdeal := hSharedIdeal) (hSharedRefIdeal := hSharedRefIdeal)
    ∧ preserves_Experts_ExpertsIdeal
    ∧ algebraic_ExpertsIdeal_ExpertsRefIdeal (hExpertsIdeal := hExpertsIdeal) (hExpertsRefIdeal := hExpertsRefIdeal) (hPre_experts_named := hPre_experts_named)
    ∧ preserves_Sample_SampleIdeal
    ∧ algebraic_SampleIdeal_SampleRefIdeal_pre_sample_finite (hSampleIdeal := hSampleIdeal) (hSampleRefIdeal := hSampleRefIdeal) (hPre_sample_finite := hPre_sample_finite)
    ∧ preserves_SampleIn_SampleInIdeal
    ∧ algebraic_SampleInIdeal_SampleInRefIdeal_pre_samplein_finite (hSampleInIdeal := hSampleInIdeal) (hSampleInRefIdeal := hSampleInRefIdeal) (hPre_samplein_finite := hPre_samplein_finite)
-- ==== Pre_experts_named.lean ====
abbrev S78 : Shape := ⟨1, ![78]⟩
abbrev S1 : Shape := ⟨1, ![1]⟩
abbrev S39936x1024 : Shape := ⟨2, ![39936, 1024]⟩
abbrev S8x1024x2048 : Shape := ⟨3, ![8, 1024, 2048]⟩
abbrev S8x1024x1024 : Shape := ⟨3, ![8, 1024, 1024]⟩
abbrev S_ : Shape := ⟨0, ![]⟩

class Facts : Prop where
  bcast_S_S78 : S_.BroadcastsInDim S78 (![] : Fin 0 → Fin S78.rank)
  reducesTo_S78_S_d0 : S78.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S78 32) (main_arg1 : IVec S1 32) (main_arg2 : FVec F S39936x1024 .f32) (main_arg3 : FVec F S8x1024x2048 .f32) (main_arg4 : FVec F S8x1024x1024 .f32) : IVec S_ 1 :=
  let main_c : IVec S_ 32 := constantI S_ 32 0#32
  let main_v0 : IVec S78 32 := broadcastInDim S78 ![] bcast_S_S78 main_c
  let main_v1 : IVec S78 1 := cmpi .sge main_arg0 main_v0
  let main_c_0 : IVec S_ 1 := constantI S_ 1 1#1
  let main_v2 : IVec S_ 1 := (fun x v => Host.reduce IntOp.andi x v reducesTo_S78_S_d0 h_S_) main_v1 main_c_0
  let main_c_1 : IVec S_ 32 := constantI S_ 32 8#32
  let main_v3 : IVec S78 32 := broadcastInDim S78 ![] bcast_S_S78 main_c_1
  let main_v4 : IVec S78 1 := cmpi .slt main_arg0 main_v3
  let main_c_2 : IVec S_ 1 := constantI S_ 1 1#1
  let main_v5 : IVec S_ 1 := (fun x v => Host.reduce IntOp.andi x v reducesTo_S78_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Pre_sample_finite.lean ====
abbrev S128x1024 : Shape := ⟨2, ![128, 1024]⟩
abbrev S1024 : Shape := ⟨1, ![1024]⟩
abbrev S1024x512 : Shape := ⟨2, ![1024, 512]⟩
abbrev S128x128x4x64 : Shape := ⟨4, ![128, 128, 4, 64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S128x1024 .f32) (main_arg1 : FVec F S1024 .f32) (main_arg2 : FVec F S1024x512 .f32) (main_arg3 : FVec F S128x128x4x64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x512 .f32 := Host.absf main_arg2
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Pre_samplein_finite.lean ====
abbrev S128x1024 : Shape := ⟨2, ![128, 1024]⟩
abbrev S1024 : Shape := ⟨1, ![1024]⟩
abbrev S2x1024x4112 : Shape := ⟨3, ![2, 1024, 4112]⟩
abbrev S128x3x3072 : Shape := ⟨3, ![128, 3, 3072]⟩
abbrev S_ : Shape := ⟨0, ![]⟩
abbrev S1x1024x4112 : Shape := ⟨3, ![1, 1024, 4112]⟩
abbrev S1024x4112 : Shape := ⟨2, ![1024, 4112]⟩

class Facts : Prop where
  bcast_S_S1024 : S_.BroadcastsInDim S1024 (![] : Fin 0 → Fin S1024.rank)
  reducesTo_S1024_S_d0 : S1024.ReducesTo [0] S_
  h_S_ : 0 < S_.numel
  slices_S2x1024x4112_S1x1024x4112_0_0_0 : S2x1024x4112.Slices ![0, 0, 0] S1x1024x4112
  shapeCasts_S1x1024x4112_S1024x4112 : S1x1024x4112.ShapeCasts S1024x4112
  bcast_S_S1024x4112 : S_.BroadcastsInDim S1024x4112 (![] : Fin 0 → Fin S1024x4112.rank)
  reducesTo_S1024x4112_S_d0_1 : S1024x4112.ReducesTo [0, 1] S_

variable [Facts]

def fn {F : FTy → Type} [FloatOps F] (main_arg0 : FVec F S128x1024 .f32) (main_arg1 : FVec F S1024 .f32) (main_arg2 : FVec F S2x1024x4112 .f32) (main_arg3 : FVec F S128x3x3072 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1x1024x4112 .f32 := (extractStridedSlice S1x1024x4112 ![0, 0, 0] · slices_S2x1024x4112_S1x1024x4112_0_0_0) main_arg2
  let main_v5 : FVec F S1024x4112 .f32 := shapeCast S1024x4112 main_v4 shapeCasts_S1x1024x4112_S1024x4112
  let main_v6 : FVec F S1024x4112 .f32 := Host.absf main_v5
  let main_cst_0 : FVec F S_ .f32 := constant S_ .f32 0x7F800000#32
  let main_v7 : FVec F S1024x4112 .f32 := broadcastInDim S1024x4112 ![] bcast_S_S1024x4112 main_cst_0
  let main_v8 : IVec S1024x4112 1 := cmpf .olt main_v6 main_v7
  let main_c_1 : IVec S_ 1 := constantI S_ 1 1#1
  let main_v9 : IVec S_ 1 := (fun x v => Host.reduce IntOp.andi x v reducesTo_S1024x4112_S_d0_1 h_S_) main_v8 main_c_1
  let main_v10 : IVec S_ 1 := andi main_v3 main_v9
  main_v10
-- ==== Kernel.lean ====
abbrev S4x4096x1024 : Shape := ⟨3, ![4, 4096, 1024]⟩
abbrev S4x4096x256 : Shape := ⟨3, ![4, 4096, 256]⟩
abbrev S4x4096x512 : Shape := ⟨3, ![4, 4096, 512]⟩
abbrev S16 : Shape := ⟨1, ![16]⟩
abbrev S1x128x1024 : Shape := ⟨3, ![1, 128, 1024]⟩
abbrev S1x128x256 : Shape := ⟨3, ![1, 128, 256]⟩
abbrev S128x256 : Shape := ⟨2, ![128, 256]⟩
abbrev S1x128x64 : Shape := ⟨3, ![1, 128, 64]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 5
  | .vmem => 12
  | .smem => 1
  | _ => 0

abbrev bufTy : (tb : Table) → Fin (tcTables nBuf tb) → BufTy
  | .hbm, ⟨0, _⟩ => ⟨S4x4096x1024, .bf16⟩
  | .hbm, ⟨1, _⟩ => ⟨S4x4096x256, .f32⟩
  | .hbm, ⟨2, _⟩ => ⟨S4x4096x512, .f32⟩
  | .hbm, ⟨3, _⟩ => ⟨S16, .f32⟩
  | .hbm, ⟨4, _⟩ => ⟨S4x4096x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x1024, .bf16⟩
  | .local _ .vmem, ⟨11, _⟩ => ⟨S1x128x1024, .bf16⟩
  | .local _ .smem, ⟨0, _⟩ => ⟨S16, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x4096x1024 : Shape := ⟨3, ![4, 4096, 1024]⟩
abbrev S4x4096x256 : Shape := ⟨3, ![4, 4096, 256]⟩
abbrev S4x4096x512 : Shape := ⟨3, ![4, 4096, 512]⟩
abbrev S16 : Shape := ⟨1, ![16]⟩
abbrev S4x4096x16x64 : Shape := ⟨4, ![4, 4096, 16, 64]⟩
abbrev S4x4096x4x64 : Shape := ⟨4, ![4, 4096, 4, 64]⟩
abbrev S4x32x128x4x4x64 : Shape := ⟨6, ![4, 32, 128, 4, 4, 64]⟩
abbrev S4x32x128x4x64 : Shape := ⟨5, ![4, 32, 128, 4, 64]⟩
abbrev S4x1x128x4x64 : Shape := ⟨5, ![4, 1, 128, 4, 64]⟩
abbrev S_ : Shape := ⟨0, ![]⟩
abbrev S4x31x128x4x64 : Shape := ⟨5, ![4, 31, 128, 4, 64]⟩
abbrev S4x32x256x4x64 : Shape := ⟨5, ![4, 32, 256, 4, 64]⟩
abbrev S4x32x4x256x128x4 : Shape := ⟨6, ![4, 32, 4, 256, 128, 4]⟩
abbrev S4x32x4x4x128x256 : Shape := ⟨6, ![4, 32, 4, 4, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S256 : Shape := ⟨1, ![256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S4x4 : Shape := ⟨2, ![4, 4]⟩
abbrev S4x4x1x1 : Shape := ⟨4, ![4, 4, 1, 1]⟩
abbrev S4x32x4x4x128 : Shape := ⟨5, ![4, 32, 4, 4, 128]⟩
abbrev S4x32x4x4x128x1 : Shape := ⟨6, ![4, 32, 4, 4, 128, 1]⟩
abbrev S1x1x4x4x1x1 : Shape := ⟨6, ![1, 1, 4, 4, 1, 1]⟩
abbrev S4x32x4x64x4x128 : Shape := ⟨6, ![4, 32, 4, 64, 4, 128]⟩

abbrev nBuf : Space → Nat
  | .hbm => 96
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x256, .f32⟩
  | .hbm, ⟨2, _⟩ => ⟨S4x4096x512, .f32⟩
  | .hbm, ⟨3, _⟩ => ⟨S16, .f32⟩
  | .hbm, ⟨4, _⟩ => ⟨S4x4096x1024, .f32⟩
  | .hbm, ⟨5, _⟩ => ⟨S4x4096x16x64, .f32⟩
  | .hbm, ⟨6, _⟩ => ⟨S4x4096x4x64, .f32⟩
  | .hbm, ⟨7, _⟩ => ⟨S4x4096x256, .f32⟩
  | .hbm, ⟨8, _⟩ => ⟨S4x4096x4x64, .f32⟩
  | .hbm, ⟨9, _⟩ => ⟨S4x32x128x4x4x64, .f32⟩
  | .hbm, ⟨10, _⟩ => ⟨S4x32x128x4x64, .f32⟩
  | .hbm, ⟨11, _⟩ => ⟨S4x32x128x4x64, .f32⟩
  | .hbm, ⟨12, _⟩ => ⟨S4x1x128x4x64, .f32⟩
  | .hbm, ⟨13, _⟩ => ⟨S_, .f32⟩
  | .hbm, ⟨14, _⟩ => ⟨S4x1x128x4x64, .f32⟩
  | .hbm, ⟨15, _⟩ => ⟨S4x31x128x4x64, .f32⟩
  | .hbm, ⟨16, _⟩ => ⟨S4x32x128x4x64, .f32⟩
  | .hbm, ⟨17, _⟩ => ⟨S4x32x256x4x64, .f32⟩
  | .hbm, ⟨18, _⟩ => ⟨S4x1x128x4x64, .f32⟩
  | .hbm, ⟨19, _⟩ => ⟨S_, .f32⟩
  | .hbm, ⟨20, _⟩ => ⟨S4x1x128x4x64, .f32⟩
  | .hbm, ⟨21, _⟩ => ⟨S4x31x128x4x64, .f32⟩
  | .hbm, ⟨22, _⟩ => ⟨S4x32x128x4x64, .f32⟩
  | .hbm, ⟨23, _⟩ => ⟨S4x32x256x4x64, .f32⟩
  | .hbm, ⟨24, _⟩ => ⟨S4x32x4x256x128x4, .f32⟩
  | .hbm, ⟨25, _⟩ => ⟨S4x32x4x4x128x256, .f32⟩
  | .hbm, ⟨26, _⟩ => ⟨S_, .f32⟩
  | .hbm, ⟨27, _⟩ => ⟨S4x32x4x4x128x256, .f32⟩
  | .hbm, ⟨28, _⟩ => ⟨S4x32x4x4x128x256, .f32⟩
  | .hbm, ⟨29, _⟩ => ⟨S32, .i32⟩
  | .hbm, ⟨30, _⟩ => ⟨S32x1x1, .i32⟩
  | .hbm, ⟨31, _⟩ => ⟨S_, .i32⟩
  | .hbm, ⟨32, _⟩ => ⟨S32x1x1, .i32⟩
  | .hbm, ⟨33, _⟩ => ⟨S32x1x1, .i32⟩
  | .hbm, ⟨34, _⟩ => ⟨S128, .i32⟩
  | .hbm, ⟨35, _⟩ => ⟨S1x128x1, .i32⟩
  | .hbm, ⟨36, _⟩ => ⟨S32x128x1, .i32⟩
  | .hbm, ⟨37, _⟩ => ⟨S32x128x1, .i32⟩
  | .hbm, ⟨38, _⟩ => ⟨S32x128x1, .i32⟩
  | .hbm, ⟨39, _⟩ => ⟨S_, .i32⟩
  | .hbm, ⟨40, _⟩ => ⟨S32x1x1, .i32⟩
  | .hbm, ⟨41, _⟩ => ⟨S32x1x1, .i32⟩
  | .hbm, ⟨42, _⟩ => ⟨S_, .i32⟩
  | .hbm, ⟨43, _⟩ => ⟨S32x1x1, .i32⟩
  | .hbm, ⟨44, _⟩ => ⟨S32x1x1, .i32⟩
  | .hbm, ⟨45, _⟩ => ⟨S256, .i32⟩
  | .hbm, ⟨46, _⟩ => ⟨S1x1x256, .i32⟩
  | .hbm, ⟨47, _⟩ => ⟨S32x1x256, .i32⟩
  | .hbm, ⟨48, _⟩ => ⟨S32x1x256, .i32⟩
  | .hbm, ⟨49, _⟩ => ⟨S32x1x256, .i32⟩
  | .hbm, ⟨50, _⟩ => ⟨S32x128x256, .i32⟩
  | .hbm, ⟨51, _⟩ => ⟨S32x128x256, .i32⟩
  | .hbm, ⟨52, _⟩ => ⟨S32x128x256, .i32⟩
  | .hbm, ⟨53, _⟩ => ⟨S_, .i32⟩
  | .hbm, ⟨54, _⟩ => ⟨S32x128x256, .i32⟩
  | .hbm, ⟨55, _⟩ => ⟨S32x128x256, .i1⟩
  | .hbm, ⟨56, _⟩ => ⟨S_, .i32⟩
  | .hbm, ⟨57, _⟩ => ⟨S32x128x256, .i32⟩
  | .hbm, ⟨58, _⟩ => ⟨S32x128x256, .i1⟩
  | .hbm, ⟨59, _⟩ => ⟨S32x128x256, .i1⟩
  | .hbm, ⟨60, _⟩ => ⟨S_, .i32⟩
  | .hbm, ⟨61, _⟩ => ⟨S32x1x256, .i32⟩
  | .hbm, ⟨62, _⟩ => ⟨S32x1x256, .i1⟩
  | .hbm, ⟨63, _⟩ => ⟨S32x128x256, .i1⟩
  | .hbm, ⟨64, _⟩ => ⟨S32x128x256, .i1⟩
  | .hbm, ⟨65, _⟩ => ⟨S1x32x1x1x128x256, .i1⟩
  | .hbm, ⟨66, _⟩ => ⟨S_, .f32⟩
  | .hbm, ⟨67, _⟩ => ⟨S_, .f32⟩
  | .hbm, ⟨68, _⟩ => ⟨S4x32x4x4x128x256, .i1⟩
  | .hbm, ⟨69, _⟩ => ⟨S4x32x4x4x128x256, .f32⟩
  | .hbm, ⟨70, _⟩ => ⟨S4x32x4x4x128x256, .f32⟩
  | .hbm, ⟨71, _⟩ => ⟨S4x4, .f32⟩
  | .hbm, ⟨72, _⟩ => ⟨S4x4x1x1, .f32⟩
  | .hbm, ⟨73, _⟩ => ⟨S_, .f32⟩
  | .hbm, ⟨74, _⟩ => ⟨S4x32x4x4x128, .f32⟩
  | .hbm, ⟨75, _⟩ => ⟨S4x32x4x4x128x1, .f32⟩
  | .hbm, ⟨76, _⟩ => ⟨S1x1x4x4x1x1, .f32⟩
  | .hbm, ⟨77, _⟩ => ⟨S4x32x4x4x128x1, .f32⟩
  | .hbm, ⟨78, _⟩ => ⟨S4x32x4x4x128x1, .f32⟩
  | .hbm, ⟨79, _⟩ => ⟨S4x32x4x4x128x256, .f32⟩
  | .hbm, ⟨80, _⟩ => ⟨S4x32x4x4x128x256, .f32⟩
  | .hbm, ⟨81, _⟩ => ⟨S4x32x4x4x128x256, .f32⟩
  | .hbm, ⟨82, _⟩ => ⟨S_, .f32⟩
  | .hbm, ⟨83, _⟩ => ⟨S4x32x4x4x128, .f32⟩
  | .hbm, ⟨84, _⟩ => ⟨S4x32x4x4x128x1, .f32⟩
  | .hbm, ⟨85, _⟩ => ⟨S1x1x4x4x1x1, .f32⟩
  | .hbm, ⟨86, _⟩ => ⟨S4x32x4x4x128x1, .f32⟩
  | .hbm, ⟨87, _⟩ => ⟨S4x32x4x4x128x1, .f32⟩
  | .hbm, ⟨88, _⟩ => ⟨S4x32x4x4x128x1, .f32⟩
  | .hbm, ⟨89, _⟩ => ⟨S4x32x4x4x128x1, .f32⟩
  | .hbm, ⟨90, _⟩ => ⟨S4x32x4x4x128x256, .f32⟩
  | .hbm, ⟨91, _⟩ => ⟨S4x32x4x4x128x256, .f32⟩
  | .hbm, ⟨92, _⟩ => ⟨S4x32x4x64x4x128, .f32⟩
  | .hbm, ⟨93, _⟩ => ⟨S4x32x128x4x4x64, .f32⟩
  | .hbm, ⟨94, _⟩ => ⟨S4x4096x1024, .f32⟩
  | .hbm, ⟨95, _⟩ => ⟨S4x4096x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_4 : Ref sig .tc := ⟨.hbm, 53, rfl⟩
abbrev main_v43 : Ref sig .tc := ⟨.hbm, 54, rfl⟩
abbrev main_v44 : Ref sig .tc := ⟨.hbm, 55, rfl⟩
abbrev main_c_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x2816 : Shape := ⟨2, ![1024, 2816]⟩
abbrev S1x512x1024 : Shape := ⟨3, ![1, 512, 1024]⟩
abbrev S512 : Shape := ⟨1, ![512]⟩
abbrev S512x1 : Shape := ⟨2, ![512, 1]⟩
abbrev S512x2816 : Shape := ⟨2, ![512, 2816]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x512x1024, .bf16⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x4112 : Shape := ⟨2, ![1024, 4112]⟩
abbrev S1024x16 : Shape := ⟨2, ![1024, 16]⟩
abbrev S_ : Shape := ⟨0, ![]⟩
abbrev S1024x128 : Shape := ⟨2, ![1024, 128]⟩
abbrev S1024x4096 : Shape := ⟨2, ![1024, 4096]⟩
abbrev S1x1024 : Shape := ⟨2, ![1, 1024]⟩
abbrev S16384x4096 : Shape := ⟨2, ![16384, 4096]⟩
abbrev S16384x128 : Shape := ⟨2, ![16384, 128]⟩
abbrev S512x1024 : Shape := ⟨2, ![512, 1024]⟩
abbrev S512x4096 : Shape := ⟨2, ![512, 4096]⟩
abbrev S512x128 : Shape := ⟨2, ![512, 128]⟩
abbrev S1x512x1024 : Shape := ⟨3, ![1, 512, 1024]⟩
abbrev S512 : Shape := ⟨1, ![512]⟩
abbrev S512x1 : Shape := ⟨2, ![512, 1]⟩
abbrev S4x4096x4096 : Shape := ⟨3, ![4, 4096, 4096]⟩
abbrev S4x3x3072 : Shape := ⟨3, ![4, 3, 3072]⟩

abbrev nBuf : Space → Nat
  | .hbm => 15
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4112, .f32⟩
  | .hbm, ⟨3, _⟩ => ⟨S1024x16, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x4096, .f32⟩
  | .hbm, ⟨8, _⟩ => ⟨S1024x4096, .bf16⟩
  | .hbm, ⟨9, _⟩ => ⟨S1024x128, .bf16⟩
  | .hbm, ⟨10, _⟩ => ⟨S1x1024, .f32⟩
  | .hbm, ⟨11, _⟩ => ⟨S16384x4096, .f32⟩
  | .hbm, ⟨12, _⟩ => ⟨S16384x128, .f32⟩
  | .hbm, ⟨13, _⟩ => ⟨S4x4096x4096, .f32⟩
  | .hbm, ⟨14, _⟩ => ⟨S4x3x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .bf16⟩
  | .local _ .vmem, ⟨5, _⟩ => ⟨S512x4096, .f32⟩
  | .local _ .vmem, ⟨6, _⟩ => ⟨S512x4096, .f32⟩
  | .local _ .vmem, ⟨7, _⟩ => ⟨S512x128, .f32⟩
  | .local _ .vmem, ⟨8, _⟩ => ⟨S512x128, .f32⟩
  | .local _ .vmem, ⟨9, _⟩ => ⟨S1x512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjRefIdeal.lean ====
abbrev S16384x1024 : Shape := ⟨2, ![16384, 1024]⟩
abbrev S1024 : Shape := ⟨1, ![1024]⟩
abbrev S1024x4112 : Shape := ⟨2, ![1024, 4112]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4112 : Shape := ⟨2, ![16384, 4112]⟩
abbrev S16384x16 : Shape := ⟨2, ![16384, 16]⟩
abbrev S16384x128 : Shape := ⟨2, ![16384, 128]⟩
abbrev S4x4096x4112 : Shape := ⟨3, ![4, 4096, 4112]⟩
abbrev S4x4096x3072 : Shape := ⟨3, ![4, 4096, 3072]⟩
abbrev S16384x4096 : Shape := ⟨2, ![16384, 4096]⟩
abbrev S4x3x3072 : Shape := ⟨3, ![4, 3, 3072]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4112, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4112, .f32⟩
  | .hbm, ⟨20, _⟩ => ⟨S16384x16, .f32⟩
  | .hbm, ⟨21, _⟩ => ⟨S_, .i32⟩
  | .hbm, ⟨22, _⟩ => ⟨S_, .f32⟩
  | .hbm, ⟨23, _⟩ => ⟨S16384x128, .f32⟩
  | .hbm, ⟨24, _⟩ => ⟨S4x4096x4112, .f32⟩
  | .hbm, ⟨25, _⟩ => ⟨S4x4096x3072, .f32⟩
  | .hbm, ⟨26, _⟩ => ⟨S16384x4096, .f32⟩
  | .hbm, ⟨27, _⟩ => ⟨S4x3x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Query.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueryRefIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== AttOut.lean ====
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttOutRefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GdnOut.lean ====
abbrev S16384x1024 : Shape := ⟨2, ![16384, 1024]⟩
abbrev S16384x4096 : Shape := ⟨2, ![16384, 4096]⟩
abbrev S128 : Shape := ⟨1, ![128]⟩
abbrev S1024x1024 : Shape := ⟨2, ![1024, 1024]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .f32⟩
  | .hbm, ⟨2, _⟩ => ⟨S128, .f32⟩
  | .hbm, ⟨3, _⟩ => ⟨S1024x1024, .f32⟩
  | .hbm, ⟨4, _⟩ => ⟨S16384x1024, .f32⟩
  | .hbm, ⟨5, _⟩ => ⟨S1024x1024, .bf16⟩
  | .hbm, ⟨6, _⟩ => ⟨S1x128, .f32⟩
  | .hbm, ⟨7, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GdnOutRefIdeal.lean ====
abbrev S16384x1024 : Shape := ⟨2, ![16384, 1024]⟩
abbrev S16384x4096 : Shape := ⟨2, ![16384, 4096]⟩
abbrev S128 : Shape := ⟨1, ![128]⟩
abbrev S1024x1024 : Shape := ⟨2, ![1024, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .f32⟩
  | .hbm, ⟨2, _⟩ => ⟨S128, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x8x128, .f32⟩
  | .hbm, ⟨7, _⟩ => ⟨S16384x1024, .f32⟩
  | .hbm, ⟨8, _⟩ => ⟨S16384x8x128, .f32⟩
  | .hbm, ⟨9, _⟩ => ⟨S16384x8x128, .f32⟩
  | .hbm, ⟨10, _⟩ => ⟨S_, .f32⟩
  | .hbm, ⟨11, _⟩ => ⟨S16384x8, .f32⟩
  | .hbm, ⟨12, _⟩ => ⟨S16384x8x1, .f32⟩
  | .hbm, ⟨13, _⟩ => ⟨S_, .f32⟩
  | .hbm, ⟨14, _⟩ => ⟨S16384x8x1, .f32⟩
  | .hbm, ⟨15, _⟩ => ⟨S16384x8x1, .f32⟩
  | .hbm, ⟨16, _⟩ => ⟨S_, .f32⟩
  | .hbm, ⟨17, _⟩ => ⟨S16384x8x1, .f32⟩
  | .hbm, ⟨18, _⟩ => ⟨S16384x8x1, .f32⟩
  | .hbm, ⟨19, _⟩ => ⟨S16384x8x1, .f32⟩
  | .hbm, ⟨20, _⟩ => ⟨S16384x8x128, .f32⟩
  | .hbm, ⟨21, _⟩ => ⟨S16384x8x128, .f32⟩
  | .hbm, ⟨22, _⟩ => ⟨S1x1x128, .f32⟩
  | .hbm, ⟨23, _⟩ => ⟨S16384x8x128, .f32⟩
  | .hbm, ⟨24, _⟩ => ⟨S16384x8x128, .f32⟩
  | .hbm, ⟨25, _⟩ => ⟨S16384x8x128, .f32⟩
  | .hbm, ⟨26, _⟩ => ⟨S16384x8x128, .f32⟩
  | .hbm, ⟨27, _⟩ => ⟨S_, .f32⟩
  | .hbm, ⟨28, _⟩ => ⟨S16384x8x128, .f32⟩
  | .hbm, ⟨29, _⟩ => ⟨S16384x8x128, .f32⟩
  | .hbm, ⟨30, _⟩ => ⟨S_, .f32⟩
  | .hbm, ⟨31, _⟩ => ⟨S16384x8x128, .f32⟩
  | .hbm, ⟨32, _⟩ => ⟨S16384x8x128, .f32⟩
  | .hbm, ⟨33, _⟩ => ⟨S16384x8x128, .f32⟩
  | .hbm, ⟨34, _⟩ => ⟨S16384x8x128, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Shared.lean ====
abbrev S16384x1024 : Shape := ⟨2, ![16384, 1024]⟩
abbrev S1024 : Shape := ⟨1, ![1024]⟩
abbrev S1024x512 : Shape := ⟨2, ![1024, 512]⟩
abbrev S1x1024 : Shape := ⟨2, ![1, 1024]⟩
abbrev S16384x512 : Shape := ⟨2, ![16384, 512]⟩
abbrev S1024x1024 : Shape := ⟨2, ![1024, 1024]⟩
abbrev S1x1024x1024 : Shape := ⟨3, ![1, 1024, 1024]⟩
abbrev S1024x1 : Shape := ⟨2, ![1024, 1]⟩
abbrev S4x4096x512 : Shape := ⟨3, ![4, 4096, 512]⟩
abbrev S4x128x256 : Shape := ⟨3, ![4, 128, 256]⟩
abbrev S4x128x4x64 : Shape := ⟨4, ![4, 128, 4, 64]⟩

abbrev nBuf : Space → Nat
  | .hbm => 9
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S1024x512, .bf16⟩
  | .hbm, ⟨4, _⟩ => ⟨S1x1024, .f32⟩
  | .hbm, ⟨5, _⟩ => ⟨S16384x512, .f32⟩
  | .hbm, ⟨6, _⟩ => ⟨S4x4096x512, .f32⟩
  | .hbm, ⟨7, _⟩ => ⟨S4x128x256, .f32⟩
  | .hbm, ⟨8, _⟩ => ⟨S4x128x4x64, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1x1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SharedRefIdeal.lean ====
abbrev S16384x1024 : Shape := ⟨2, ![16384, 1024]⟩
abbrev S1024 : Shape := ⟨1, ![1024]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x512 : Shape := ⟨2, ![16384, 512]⟩
abbrev S16384x256 : Shape := ⟨2, ![16384, 256]⟩
abbrev S4x4096x4x64 : Shape := ⟨4, ![4, 4096, 4, 64]⟩
abbrev S4x128x4x64 : Shape := ⟨4, ![4, 128, 4, 64]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x512, .f32⟩
  | .hbm, ⟨20, _⟩ => ⟨S16384x256, .f32⟩
  | .hbm, ⟨21, _⟩ => ⟨S4x4096x4x64, .f32⟩
  | .hbm, ⟨22, _⟩ => ⟨S4x128x4x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Experts.lean ====
abbrev S78 : Shape := ⟨1, ![78]⟩
abbrev S1 : Shape := ⟨1, ![1]⟩
abbrev S39936x1024 : Shape := ⟨2, ![39936, 1024]⟩
abbrev S8x1024x2048 : Shape := ⟨3, ![8, 1024, 2048]⟩
abbrev S8x1024x1024 : Shape := ⟨3, ![8, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 10
  | .smem => 2
  | _ => 0

abbrev bufTy : (tb : Table) → Fin (tcTables nBuf tb) → BufTy
  | .hbm, ⟨0, _⟩ => ⟨S39936x1024, .f32⟩
  | .hbm, ⟨1, _⟩ => ⟨S8x1024x2048, .f32⟩
  | .hbm, ⟨2, _⟩ => ⟨S8x1024x1024, .f32⟩
  | .hbm, ⟨3, _⟩ => ⟨S8x1024x2048, .bf16⟩
  | .hbm, ⟨4, _⟩ => ⟨S8x1024x1024, .bf16⟩
  | .hbm, ⟨5, _⟩ => ⟨S39936x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S512x1024, .f32⟩
  | .local _ .vmem, ⟨9, _⟩ => ⟨S512x1024, .f32⟩
  | .local _ .smem, ⟨0, _⟩ => ⟨S78, .i32⟩
  | .local _ .smem, ⟨1, _⟩ => ⟨S1, .i32⟩
  | _, _ => ⟨S39936x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![78], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S78.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S78) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S78.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S78) ![v0.toNat] S1.size (k0_off1_inb i)) numel1_S1
  let c0_i32 : BitVec 32 := 0#32
  let c1_i32 : BitVec 32 := 1#32
  let c0_i32_0 : BitVec 32 := 0#32
  ![v1.toNat, c0_i32.toNat, c1_i32.toNat]

def cc0_transform_3 (k0_off1_inb : ∀ i : grid0.Coords, ∀ a, (k0_off1 i) a + S1.size a ≤ S78.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S78) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S78 : Shape := ⟨1, ![78]⟩
abbrev S1 : Shape := ⟨1, ![1]⟩
abbrev S39936x1024 : Shape := ⟨2, ![39936, 1024]⟩
abbrev S8x1024x2048 : Shape := ⟨3, ![8, 1024, 2048]⟩
abbrev S8x1024x1024 : Shape := ⟨3, ![8, 1024, 1024]⟩
abbrev S78x512x1024 : Shape := ⟨3, ![78, 512, 1024]⟩
abbrev S_ : Shape := ⟨0, ![]⟩
abbrev S78x1 : Shape := ⟨2, ![78, 1]⟩
abbrev S78x1024x2048 : Shape := ⟨3, ![78, 1024, 2048]⟩
abbrev S78x1024x1024 : Shape := ⟨3, ![78, 1024, 1024]⟩
abbrev S78x512x2048 : Shape := ⟨3, ![78, 512, 2048]⟩
abbrev S78x1x1 : Shape := ⟨3, ![78, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S78, .i32⟩
  | .hbm, ⟨1, _⟩ => ⟨S1, .i32⟩
  | .hbm, ⟨2, _⟩ => ⟨S39936x1024, .f32⟩
  | .hbm, ⟨3, _⟩ => ⟨S8x1024x2048, .f32⟩
  | .hbm, ⟨4, _⟩ => ⟨S8x1024x1024, .f32⟩
  | .hbm, ⟨5, _⟩ => ⟨S78x512x1024, .f32⟩
  | .hbm, ⟨6, _⟩ => ⟨S_, .i32⟩
  | .hbm, ⟨7, _⟩ => ⟨S78, .i32⟩
  | .hbm, ⟨8, _⟩ => ⟨S78, .i1⟩
  | .hbm, ⟨9, _⟩ => ⟨S_, .i32⟩
  | .hbm, ⟨10, _⟩ => ⟨S78, .i32⟩
  | .hbm, ⟨11, _⟩ => ⟨S78, .i32⟩
  | .hbm, ⟨12, _⟩ => ⟨S78, .i32⟩
  | .hbm, ⟨13, _⟩ => ⟨S78x1, .i32⟩
  | .hbm, ⟨14, _⟩ => ⟨S78x1024x2048, .f32⟩
  | .hbm, ⟨15, _⟩ => ⟨S_, .i32⟩
  | .hbm, ⟨16, _⟩ => ⟨S78, .i32⟩
  | .hbm, ⟨17, _⟩ => ⟨S78, .i1⟩
  | .hbm, ⟨18, _⟩ => ⟨S_, .i32⟩
  | .hbm, ⟨19, _⟩ => ⟨S78, .i32⟩
  | .hbm, ⟨20, _⟩ => ⟨S78, .i32⟩
  | .hbm, ⟨21, _⟩ => ⟨S78, .i32⟩
  | .hbm, ⟨22, _⟩ => ⟨S78x1, .i32⟩
  | .hbm, ⟨23, _⟩ => ⟨S78x1024x1024, .f32⟩
  | .hbm, ⟨24, _⟩ => ⟨S78x512x2048, .f32⟩
  | .hbm, ⟨25, _⟩ => ⟨S78x512x1024, .f32⟩
  | .hbm, ⟨26, _⟩ => ⟨S78x512x1024, .f32⟩
  | .hbm, ⟨27, _⟩ => ⟨S78x512x1024, .f32⟩
  | .hbm, ⟨28, _⟩ => ⟨S78x512x1024, .f32⟩
  | .hbm, ⟨29, _⟩ => ⟨S_, .f32⟩
  | .hbm, ⟨30, _⟩ => ⟨S78x512x1024, .f32⟩
  | .hbm, ⟨31, _⟩ => ⟨S78x512x1024, .f32⟩
  | .hbm, ⟨32, _⟩ => ⟨S_, .f32⟩
  | .hbm, ⟨33, _⟩ => ⟨S78x512x1024, .f32⟩
  | .hbm, ⟨34, _⟩ => ⟨S78x512x1024, .f32⟩
  | .hbm, ⟨35, _⟩ => ⟨S78x512x1024, .f32⟩
  | .hbm, ⟨36, _⟩ => ⟨S78x512x1024, .f32⟩
  | .hbm, ⟨37, _⟩ => ⟨S78x512x1024, .f32⟩
  | .hbm, ⟨38, _⟩ => ⟨S78, .i32⟩
  | .hbm, ⟨39, _⟩ => ⟨S_, .i32⟩
  | .hbm, ⟨40, _⟩ => ⟨S78, .i32⟩
  | .hbm, ⟨41, _⟩ => ⟨S78, .i1⟩
  | .hbm, ⟨42, _⟩ => ⟨S78x1x1, .i1⟩
  | .hbm, ⟨43, _⟩ => ⟨S_, .f32⟩
  | .hbm, ⟨44, _⟩ => ⟨S_, .f32⟩
  | .hbm, ⟨45, _⟩ => ⟨S78x512x1024, .i1⟩
  | .hbm, ⟨46, _⟩ => ⟨S78x512x1024, .f32⟩
  | .hbm, ⟨47, _⟩ => ⟨S78x512x1024, .f32⟩
  | .hbm, ⟨48, _⟩ => ⟨S39936x1024, .f32⟩
  | _, _ => ⟨S78, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Sample.lean ====
abbrev S128x1024 : Shape := ⟨2, ![128, 1024]⟩
abbrev S1024 : Shape := ⟨1, ![1024]⟩
abbrev S1024x512 : Shape := ⟨2, ![1024, 512]⟩
abbrev S128x128x4x64 : Shape := ⟨4, ![128, 128, 4, 64]⟩
abbrev S1x1024 : Shape := ⟨2, ![1, 1024]⟩
abbrev S128x512 : Shape := ⟨2, ![128, 512]⟩
abbrev S2x128x1024 : Shape := ⟨3, ![2, 128, 1024]⟩
abbrev S128 : Shape := ⟨1, ![128]⟩
abbrev S128x1 : Shape := ⟨2, ![128, 1]⟩
abbrev S1x128x1024 : Shape := ⟨3, ![1, 128, 1024]⟩
abbrev S128x256 : Shape := ⟨2, ![128, 256]⟩
abbrev S128x128x256 : Shape := ⟨3, ![128, 128, 256]⟩
abbrev S128x1x256 : Shape := ⟨3, ![128, 1, 256]⟩
abbrev S128x129x256 : Shape := ⟨3, ![128, 129, 256]⟩

abbrev nBuf : Space → Nat
  | .hbm => 12
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x512, .f32⟩
  | .hbm, ⟨3, _⟩ => ⟨S128x128x4x64, .f32⟩
  | .hbm, ⟨4, _⟩ => ⟨S1x1024, .f32⟩
  | .hbm, ⟨5, _⟩ => ⟨S128x512, .f32⟩
  | .hbm, ⟨6, _⟩ => ⟨S128x256, .f32⟩
  | .hbm, ⟨7, _⟩ => ⟨S128x128x256, .f32⟩
  | .hbm, ⟨8, _⟩ => ⟨S128x1x256, .f32⟩
  | .hbm, ⟨9, _⟩ => ⟨S128x129x256, .f32⟩
  | .hbm, ⟨10, _⟩ => ⟨S128x128x256, .f32⟩
  | .hbm, ⟨11, _⟩ => ⟨S128x128x4x64, .f32⟩
  | .local _ .vmem, ⟨0, _⟩ => ⟨S128x1024, .f32⟩
  | .local _ .vmem, ⟨1, _⟩ => ⟨S1x1024, .f32⟩
  | .local _ .vmem, ⟨2, _⟩ => ⟨S1024x512, .f32⟩
  | .local _ .vmem, ⟨3, _⟩ => ⟨S128x512, .f32⟩
  | .local _ .vmem, ⟨4, _⟩ => ⟨S2x128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== SampleRefIdeal.lean ====
abbrev S128x1024 : Shape := ⟨2, ![128, 1024]⟩
abbrev S1024 : Shape := ⟨1, ![1024]⟩
abbrev S1024x512 : Shape := ⟨2, ![1024, 512]⟩
abbrev S128x128x4x64 : Shape := ⟨4, ![128, 128, 4, 64]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x512 : Shape := ⟨2, ![128, 512]⟩
abbrev S128x256 : Shape := ⟨2, ![128, 256]⟩
abbrev S128x1x4x64 : Shape := ⟨4, ![128, 1, 4, 64]⟩
abbrev S128x129x4x64 : Shape := ⟨4, ![128, 129, 4, 64]⟩

abbrev nBuf : Space → Nat
  | .hbm => 25
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x512, .f32⟩
  | .hbm, ⟨3, _⟩ => ⟨S128x128x4x64, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x512, .f32⟩
  | .hbm, ⟨21, _⟩ => ⟨S128x256, .f32⟩
  | .hbm, ⟨22, _⟩ => ⟨S128x1x4x64, .f32⟩
  | .hbm, ⟨23, _⟩ => ⟨S128x129x4x64, .f32⟩
  | .hbm, ⟨24, _⟩ => ⟨S128x128x4x64, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== SampleIn.lean ====
abbrev S128x1024 : Shape := ⟨2, ![128, 1024]⟩
abbrev S1024 : Shape := ⟨1, ![1024]⟩
abbrev S2x1024x4112 : Shape := ⟨3, ![2, 1024, 4112]⟩
abbrev S128x3x3072 : Shape := ⟨3, ![128, 3, 3072]⟩
abbrev S2x1024x16 : Shape := ⟨3, ![2, 1024, 16]⟩
abbrev S_ : Shape := ⟨0, ![]⟩
abbrev S2x1024x128 : Shape := ⟨3, ![2, 1024, 128]⟩
abbrev S1x1024 : Shape := ⟨2, ![1, 1024]⟩
abbrev S128x4096 : Shape := ⟨2, ![128, 4096]⟩
abbrev S128x128 : Shape := ⟨2, ![128, 128]⟩
abbrev S1x1024x1024 : Shape := ⟨3, ![1, 1024, 1024]⟩
abbrev S1x1024x128 : Shape := ⟨3, ![1, 1024, 128]⟩
abbrev S2x128x1024 : Shape := ⟨3, ![2, 128, 1024]⟩
abbrev S128 : Shape := ⟨1, ![128]⟩
abbrev S128x1 : Shape := ⟨2, ![128, 1]⟩
abbrev S1x128x1024 : Shape := ⟨3, ![1, 128, 1024]⟩
abbrev S1024x128 : Shape := ⟨2, ![1024, 128]⟩
abbrev S1024x1024 : Shape := ⟨2, ![1024, 1024]⟩
abbrev S128x2x3072 : Shape := ⟨3, ![128, 2, 3072]⟩
abbrev S128x3072 : Shape := ⟨2, ![128, 3072]⟩
abbrev S128x1x3072 : Shape := ⟨3, ![128, 1, 3072]⟩

abbrev nBuf : Space → Nat
  | .hbm => 15
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S2x1024x4112, .f32⟩
  | .hbm, ⟨3, _⟩ => ⟨S128x3x3072, .f32⟩
  | .hbm, ⟨4, _⟩ => ⟨S2x1024x16, .f32⟩
  | .hbm, ⟨5, _⟩ => ⟨S_, .i32⟩
  | .hbm, ⟨6, _⟩ => ⟨S_, .f32⟩
  | .hbm, ⟨7, _⟩ => ⟨S2x1024x128, .f32⟩
  | .hbm, ⟨8, _⟩ => ⟨S1x1024, .f32⟩
  | .hbm, ⟨9, _⟩ => ⟨S128x4096, .f32⟩
  | .hbm, ⟨10, _⟩ => ⟨S128x128, .f32⟩
  | .hbm, ⟨11, _⟩ => ⟨S128x2x3072, .f32⟩
  | .hbm, ⟨12, _⟩ => ⟨S128x3072, .f32⟩
  | .hbm, ⟨13, _⟩ => ⟨S128x1x3072, .f32⟩
  | .hbm, ⟨14, _⟩ => ⟨S128x3x3072, .f32⟩
  | .local _ .vmem, ⟨0, _⟩ => ⟨S128x1024, .f32⟩
  | .local _ .vmem, ⟨1, _⟩ => ⟨S1x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x128, .f32⟩
  | .local _ .vmem, ⟨5, _⟩ => ⟨S128x1024, .f32⟩
  | .local _ .vmem, ⟨6, _⟩ => ⟨S128x1024, .f32⟩
  | .local _ .vmem, ⟨7, _⟩ => ⟨S128x128, .f32⟩
  | .local _ .vmem, ⟨8, _⟩ => ⟨S2x128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== SampleInRefIdeal.lean ====
abbrev S128x1024 : Shape := ⟨2, ![128, 1024]⟩
abbrev S1024 : Shape := ⟨1, ![1024]⟩
abbrev S2x1024x4112 : Shape := ⟨3, ![2, 1024, 4112]⟩
abbrev S128x3x3072 : Shape := ⟨3, ![128, 3, 3072]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S1x1024x4112 : Shape := ⟨3, ![1, 1024, 4112]⟩
abbrev S1024x4112 : Shape := ⟨2, ![1024, 4112]⟩
abbrev S128x4112 : Shape := ⟨2, ![128, 4112]⟩
abbrev S128x16 : Shape := ⟨2, ![128, 16]⟩
abbrev S128x128 : Shape := ⟨2, ![128, 128]⟩
abbrev S128x3072 : Shape := ⟨2, ![128, 3072]⟩
abbrev S128x1x3072 : Shape := ⟨3, ![128, 1, 3072]⟩
abbrev S128x4x3072 : Shape := ⟨3, ![128, 4, 3072]⟩
abbrev S128x4096 : Shape := ⟨2, ![128, 4096]⟩

abbrev nBuf : Space → Nat
  | .hbm => 32
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S2x1024x4112, .f32⟩
  | .hbm, ⟨3, _⟩ => ⟨S128x3x3072, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S1x1024x4112, .f32⟩
  | .hbm, ⟨21, _⟩ => ⟨S1024x4112, .f32⟩
  | .hbm, ⟨22, _⟩ => ⟨S128x4112, .f32⟩
  | .hbm, ⟨23, _⟩ => ⟨S128x16, .f32⟩
  | .hbm, ⟨24, _⟩ => ⟨S_, .i32⟩
  | .hbm, ⟨25, _⟩ => ⟨S_, .f32⟩
  | .hbm, ⟨26, _⟩ => ⟨S128x128, .f32⟩
  | .hbm, ⟨27, _⟩ => ⟨S128x3072, .f32⟩
  | .hbm, ⟨28, _⟩ => ⟨S128x1x3072, .f32⟩
  | .hbm, ⟨29, _⟩ => ⟨S128x4x3072, .f32⟩
  | .hbm, ⟨30, _⟩ => ⟨S128x4096, .f32⟩
  | .hbm, ⟨31, _⟩ => ⟨S128x3x3072, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Attn.lean ====
/- One row of attention with a sink logit, over the extended reals: the formula both programs
   compute, and the fact that keys masked to `⊥` do not matter. No program is mentioned here. -/
module

public import Idealize.ShloMosaic.Lib.Pointwise

@[expose] public section

noncomputable section

namespace Cert.Attn

open Idealize.ShloMosaic

/-- The shift of the softmax: the largest of the scores and the sink. -/
def top {n : ℕ} (s : Fin n → EReal) (snk : EReal) : EReal := max (Finset.univ.fold max ⊥ s) snk

/-- The softmax's denominator: the shifted exponentials of the scores, and of the sink. -/
def den {n : ℕ} (s : Fin n → EReal) (snk : EReal) : EReal :=
  ∑ l, Ideal.exp (s l - top s snk) + Ideal.exp (snk - top s snk)

/-- Attention of one query: the weighted sum of the values, the weights the softmax of the scores
    with the sink as one more logit that carries no value. -/
def attn {n : ℕ} (s : Fin n → EReal) (snk : EReal) (v : Fin n → EReal) : EReal :=
  ∑ k, Ideal.div (Ideal.exp (s k - top s snk)) (den s snk) * v k

/-- The factor of the scores, `1/8` as its word. -/
def scale : EReal := Ideal.ofBits .f32 0x3E000000#32

/-- In block `n`, row `r` sees key `k` of the band of two blocks: at most 128 positions back, not
    ahead, and the first block's band begins at the block itself. -/
abbrev Vis (n r k : ℕ) : Prop := r ≤ k ∧ k ≤ r + 128 ∧ (128 ≤ k ∨ 0 < n)

/-- A score: the scaled product of query and key where the key is seen, `⊥` elsewhere. -/
def score (P : Prop) [Decidable P] (q k : Fin 64 → EReal) : EReal :=
  if P then (∑ e, q e * k e) * scale else ⊥

/-- The mask's constant is `⊥`. -/
theorem ofBits_ninf : Ideal.ofBits .f32 0xFF800000#32 = (⊥ : EReal) := by
  simp [Ideal.ofBits, Ideal.ieee]

/-- A masked select of scaled products is a score. -/
theorem select_score {P : Prop} [Decidable P] {c : BitVec 1} (h : c = 1#1 ↔ P) (q k : Fin 64 → EReal) :
    Scalar.select c ((∑ e, q e * k e) * Ideal.ofBits .f32 0x3E000000#32) ⊥
      = score P q k := by
  unfold score Scalar.select scale
  exact if_congr h rfl rfl

/-- Attention depends on its scores and values entrywise. -/
theorem attn_congr {n : ℕ} {s s' v v' : Fin n → EReal} {snk snk' : EReal} (hs : ∀ k, s k = s' k)
    (hk : snk = snk') (hv : ∀ k, v k = v' k) : attn s snk v = attn s' snk' v' := by
  rw [funext hs, hk, funext hv]

/-- Scores agree where the condition, the query and the key do. -/
theorem score_congr {P P' : Prop} [Decidable P] [Decidable P'] {q q' k k' : Fin 64 → EReal} (hP : P ↔ P')
    (hq : ∀ e, q e = q' e) (hk : ∀ e, k e = k' e) : score P q k = score P' q' k' := by
  unfold score
  rw [funext hq, funext hk]
  exact if_congr hP rfl rfl

/-- The exponential is not negative. -/
theorem exp_nonneg (x : EReal) : 0 ≤ Ideal.exp x := by
  induction x with
  | bot => exact le_rfl
  | top => exact le_top
  | coe r => exact EReal.coe_nonneg.2 (Real.exp_nonneg r)

/-- A masked score has exponential zero whatever the shift. -/
theorem exp_bot_sub (x : EReal) : Ideal.exp (⊥ - x) = 0 := by
  rw [EReal.bot_sub]; rfl

/-- When the denominator vanishes every exponential in it does. -/
theorem exp_eq_zero_of_den {n : ℕ} (s : Fin n → EReal) (snk : EReal) (h : den s snk = 0) (k : Fin n) :
    Ideal.exp (s k - top s snk) = 0 := by
  have hs : 0 ≤ ∑ l, Ideal.exp (s l - top s snk) := Finset.sum_nonneg fun l _ => exp_nonneg _
  have h0 : ∑ l, Ideal.exp (s l - top s snk) = 0 := by
    refine le_antisymm ?_ hs
    calc _ ≤ den s snk := le_add_of_nonneg_right (exp_nonneg _)
      _ = 0 := h
  exact (Finset.sum_eq_zero_iff_of_nonneg fun l _ => exp_nonneg _).1 h0 k (Finset.mem_univ k)

/-- `⊥` times anything is `⊥`, `0` or `⊤`: twice it is itself. -/
theorem bot_mul_add_self (x : EReal) : ⊥ * x + ⊥ * x = ⊥ * x := by
  rcases lt_trichotomy x 0 with h | h | h
  · rw [EReal.bot_mul_of_neg h]; rfl
  · rw [h, mul_zero, add_zero]
  · rw [EReal.bot_mul_of_pos h]; rfl

/-- So is twice a sum of such products. -/
theorem sum_bot_mul_add_self {n : ℕ} (w : Fin n → EReal) :
    ∑ k, ⊥ * w k + ∑ k, ⊥ * w k = ∑ k, ⊥ * w k := by
  rw [← Finset.sum_add_distrib]
  exact Finset.sum_congr rfl fun k _ => bot_mul_add_self _

/-- When the first half of the keys is masked, the values standing there do not matter: a copy of
    the second half's values gives what zeros give. -/
theorem attn_masked (s : Fin (128 + 128) → EReal) (snk : EReal) (w : Fin 128 → EReal)
    (v v' : Fin (128 + 128) → EReal) (hs : ∀ k : Fin 128, s (Fin.castAdd 128 k) = ⊥)
    (hv : ∀ k : Fin 128, v (Fin.castAdd 128 k) = w k) (hw : ∀ k : Fin 128, v (Fin.natAdd 128 k) = w k)
    (hv' : ∀ k : Fin 128, v' (Fin.castAdd 128 k) = 0) (hw' : ∀ k : Fin 128, v' (Fin.natAdd 128 k) = w k) :
    attn s snk v = attn s snk v' := by
  unfold attn
  rw [Fin.sum_univ_add, Fin.sum_univ_add]
  simp only [hv, hw, hv', hw', mul_zero, Finset.sum_const_zero, zero_add]
  by_cases hd : den s snk = 0
  · have e : ∀ k, Ideal.div (Ideal.exp (s k - top s snk)) (den s snk) = ⊥ := fun k => by
      rw [exp_eq_zero_of_den s snk hd k, hd]; simp [Ideal.div]
    simp only [e]
    exact sum_bot_mul_add_self w
  · have e : ∀ k : Fin 128, Ideal.div (Ideal.exp (s (Fin.castAdd 128 k) - top s snk)) (den s snk) = 0 := fun k => by
      rw [hs, exp_bot_sub]; simp [Ideal.div, hd]
    simp only [e, zero_mul, Finset.sum_const_zero, zero_add]

end Cert.Attn

end
-- ==== Proof.SwaMask.lean ====
/- The reference's mask: the same keys are seen as `Attn.Vis` says. -/
module

public import proofs.«01_k».proof.Proof.Gen.ReferenceIdeal.Read
public import proofs.«01_k».proof.Proof.Attn
public import Idealize.ShloMosaic.Lib.WordCmp

@[expose] public section

set_option maxRecDepth 16384

noncomputable section

namespace Cert.ReferenceIdeal.Swa

open Cert.ReferenceIdeal Cert.ReferenceIdeal.Gen Cert.ReferenceIdeal.Read
open Idealize.ShloMosaic Idealize.ShloMosaic.TcCoe Idealize.SL.Sem
open Cert.Attn

/-- A small integer read back from its word. -/
theorem toInt_word (z : ℤ) (h1 : -100000 < z) (h2 : z < 100000) : (BitVec.ofInt 32 z).toInt = z := by
  rw [BitVec.toInt_ofInt, Int.bmod_def]
  omega

/-- The distance from key to query, as a word. -/
theorem dist_word (n r x : ℕ) :
    IntOp.subi (IntOp.addi (IntOp.muli (BitVec.ofNat 32 n) 128#32) (BitVec.ofNat 32 r))
        (IntOp.addi (IntOp.muli (IntOp.subi (BitVec.ofNat 32 n) 1#32) 128#32) (BitVec.ofNat 32 x))
      = BitVec.ofInt 32 (r + 128 - x) := by
  have h : ∀ a : ℕ, BitVec.ofNat 32 a = BitVec.ofInt 32 a := fun a => (BitVec.ofInt_natCast 32 a).symm
  show (BitVec.ofNat 32 n * 128#32 + BitVec.ofNat 32 r) - ((BitVec.ofNat 32 n - 1#32) * 128#32 + BitVec.ofNat 32 x) = _
  simp only [h, ← BitVec.ofInt_mul, ← BitVec.ofInt_add, BitVec.sub_eq_add_neg, ← BitVec.ofInt_neg]
  congr 1
  push_cast
  ring

/-- The key's position, as a word. -/
theorem pos_word (n x : ℕ) :
    IntOp.addi (IntOp.muli (IntOp.subi (BitVec.ofNat 32 n) 1#32) 128#32) (BitVec.ofNat 32 x)
      = BitVec.ofInt 32 (((n : ℤ) - 1) * 128 + x) := by
  have h : ∀ a : ℕ, BitVec.ofNat 32 a = BitVec.ofInt 32 a := fun a => (BitVec.ofInt_natCast 32 a).symm
  show (BitVec.ofNat 32 n - 1#32) * 128#32 + BitVec.ofNat 32 x = _
  simp only [h, ← BitVec.ofInt_mul, ← BitVec.ofInt_add, BitVec.sub_eq_add_neg, ← BitVec.ofInt_neg]
  congr 1

/-- The mask is set exactly where the key is seen. -/
theorem mask_iff (n : Fin 32) (r : Fin 128) (x : Fin 256) :
    val_main_v51 (F := Ideal) (ix3 n r x) = 1#1 ↔ Vis n.val r.val x.val := by
  pointwise [val_main_v51, val_main_v50, val_main_v49, val_main_v48, val_main_c_6, val_main_v47, val_main_v46, val_main_v45, val_main_c_5, val_main_v44, val_main_v43, val_main_c_4, val_main_v42, val_main_v41, val_main_v40, val_main_v39, val_main_v38, val_main_v37, val_main_v36, val_main_v35, val_main_v34, val_main_v33, val_main_c_3, val_main_v32, val_main_v31, val_main_c_2, val_main_v30, val_main_v29, val_main_v28, val_main_v27, val_main_v26, val_main_v25, val_main_v24, val_main_c, val_main_v23, val_main_v22]
  rw [dist_word, pos_word]
  simp only [WordCmp.cmpi_sge_eq, WordCmp.cmpi_sle_eq, WordCmp.andi_ofBool, WordCmp.ofBool_eq_one_iff,
    Bool.and_eq_true, decide_eq_true_eq]
  rw [toInt_word _ (by omega) (by omega), toInt_word _ (by omega) (by omega)]
  rw [show (0#32).toInt = 0 from rfl, show (128#32).toInt = 128 from rfl]
  omega

end Cert.ReferenceIdeal.Swa

end
-- ==== Proof.Fiber.lean ====
/- Folding a rank-six array along its last axis: the entries that reduce to one index are the
   entries along that axis. -/
module

public import Idealize.ShloMosaic.Lib.Pointwise
public import Idealize.ShloMosaic.Lib.IdealHost

@[expose] public section

set_option maxRecDepth 16384

noncomputable section

namespace Cert.Fiber

open Idealize.ShloMosaic

variable {n0 n1 n2 n3 n4 n5 : ℕ}

/-- The source indices that drop to one index of the result are those along the last axis. -/
theorem drop_iff (h : (⟨6, ![n0, n1, n2, n3, n4, n5]⟩ : Shape).ReducesTo [5] (⟨5, ![n0, n1, n2, n3, n4]⟩ : Shape))
    (a0 : Fin n0) (a1 : Fin n1) (a2 : Fin n2) (a3 : Fin n3) (a4 : Fin n4)
    (i : (⟨6, ![n0, n1, n2, n3, n4, n5]⟩ : Shape).Idx) :
    h.drop i = ix5 a0 a1 a2 a3 a4 ↔ ∃ k : Fin n5, ix6 a0 a1 a2 a3 a4 k = i := by
  refine ⟨fun e => ⟨i 5, funext fun a => ?_⟩, ?_⟩
  · fin_cases a
    · exact (congrFun e 0).symm
    · exact (congrFun e 1).symm
    · exact (congrFun e 2).symm
    · exact (congrFun e 3).symm
    · exact (congrFun e 4).symm
    · rfl
  · rintro ⟨k, rfl⟩
    funext b
    fin_cases b <;> rfl

/-- A sum over the entries that drop to one index is the sum along the last axis. -/
theorem sum_drop {M : Type*} [AddCommMonoid M]
    (h : (⟨6, ![n0, n1, n2, n3, n4, n5]⟩ : Shape).ReducesTo [5] (⟨5, ![n0, n1, n2, n3, n4]⟩ : Shape))
    (v : (⟨6, ![n0, n1, n2, n3, n4, n5]⟩ : Shape).Idx → M)
    (a0 : Fin n0) (a1 : Fin n1) (a2 : Fin n2) (a3 : Fin n3) (a4 : Fin n4) :
    ∑ i ∈ Finset.univ.filter (fun i => h.drop i = ix5 a0 a1 a2 a3 a4), v i = ∑ k, v (ix6 a0 a1 a2 a3 a4 k) :=
  Finset.sum_filter_eq_sum_of_fiber _ _ (fun _ _ e => congrFun e 5) (drop_iff h a0 a1 a2 a3 a4) v

/-- So is a fold of a commutative, associative operation. -/
theorem fold_drop {M : Type*} (op : M → M → M) [Std.Commutative op] [Std.Associative op] (b : M)
    (h : (⟨6, ![n0, n1, n2, n3, n4, n5]⟩ : Shape).ReducesTo [5] (⟨5, ![n0, n1, n2, n3, n4]⟩ : Shape))
    (v : (⟨6, ![n0, n1, n2, n3, n4, n5]⟩ : Shape).Idx → M)
    (a0 : Fin n0) (a1 : Fin n1) (a2 : Fin n2) (a3 : Fin n3) (a4 : Fin n4) :
    (Finset.univ.filter (fun i => h.drop i = ix5 a0 a1 a2 a3 a4)).fold op b v
      = Finset.univ.fold op b (fun k => v (ix6 a0 a1 a2 a3 a4 k)) :=
  Finset.fold_filter_eq_fold_of_fiber op _ _ (fun _ _ e => congrFun e 5) (drop_iff h a0 a1 a2 a3 a4) b v

/-- The host's reduction of a rank-six array along its last axis, at an index. -/
theorem reduce_at {M : Type} {u : Shape} (op : M → M → M) [Std.Commutative op] [Std.Associative op]
    (x : (⟨6, ![n0, n1, n2, n3, n4, n5]⟩ : Shape).Idx → M) (init : u.Idx → M)
    (h : (⟨6, ![n0, n1, n2, n3, n4, n5]⟩ : Shape).ReducesTo [5] (⟨5, ![n0, n1, n2, n3, n4]⟩ : Shape)) (hu : 0 < u.numel)
    (a0 : Fin n0) (a1 : Fin n1) (a2 : Fin n2) (a3 : Fin n3) (a4 : Fin n4) :
    Host.reduce op x init h hu (ix5 a0 a1 a2 a3 a4)
      = Finset.univ.fold op (init (Shape.Idx.first hu)) (fun k => x (ix6 a0 a1 a2 a3 a4 k)) :=
  (Host.reduce_eq_fold op x init h hu _).trans (fold_drop op _ h x a0 a1 a2 a3 a4)

/-- The host's sum of a rank-six array along its last axis, at an index. -/
theorem reduceAdd_at {u : Shape} {φ : FTy}
    (x : FVec Ideal (⟨6, ![n0, n1, n2, n3, n4, n5]⟩ : Shape) φ) (init : FVec Ideal u φ)
    (h : (⟨6, ![n0, n1, n2, n3, n4, n5]⟩ : Shape).ReducesTo [5] (⟨5, ![n0, n1, n2, n3, n4]⟩ : Shape)) (hu : 0 < u.numel)
    (a0 : Fin n0) (a1 : Fin n1) (a2 : Fin n2) (a3 : Fin n3) (a4 : Fin n4) :
    Host.reduceAdd x init h hu (ix5 a0 a1 a2 a3 a4)
      = (init (Shape.Idx.first hu) + ∑ k, x (ix6 a0 a1 a2 a3 a4 k) : EReal) :=
  congrArg (fun z : EReal => (init (Shape.Idx.first hu) : EReal) + z) (sum_drop h x a0 a1 a2 a3 a4)

end Cert.Fiber

end
-- ==== Proof.SwaRef.lean ====
/- The reference read at an index: the same attention, its band padded with zeros before the first
   block. -/
module

public import proofs.«01_k».proof.Proof.SwaMask
public import proofs.«01_k».proof.Proof.Fiber
public import Idealize.ShloMosaic.Lib.Pipeline.ValueKit

@[expose] public section

set_option maxRecDepth 16384

noncomputable section

namespace Cert.ReferenceIdeal.Swa

open Cert.ReferenceIdeal Cert.ReferenceIdeal.Gen Cert.ReferenceIdeal.Read
open Idealize.ShloMosaic Idealize.ShloMosaic.TcCoe Idealize.SL.Sem
open Cert.Attn

variable (q : FVec Ideal S4x4096x1024 .bf16) (k : FVec Ideal S4x4096x256 .f32) (kv : FVec Ideal S4x4096x512 .f32)
  (snk : FVec Ideal S16 .f32)

/-- The keys of a band. -/
theorem keys_at (b : Fin 4) (n : Fin 32) (x : Fin 256) (g : Fin 4) (e : Fin 64) :
    val_main_v12 (F := Ideal) k (ix5 b n x g e)
      = if h : x.val < 128 then
          if h' : n.val < 1 then (0 : EReal)
          else k (ix3 b ⟨(n.val - 1) * 128 + x.val, by omega⟩ ⟨g.val * 64 + e.val, by omega⟩)
        else k (ix3 b ⟨n.val * 128 + (x.val - 128), by omega⟩ ⟨g.val * 64 + e.val, by omega⟩) := by
  pointwise [val_main_v12, val_main_v11, val_main_v10, val_main_v9, val_main_cst, val_main_v8, val_main_v6, val_main_v2]

/-- The values of a band. -/
theorem vals_at (b : Fin 4) (n : Fin 32) (x : Fin 256) (g : Fin 4) (e : Fin 64) :
    val_main_v17 (F := Ideal) kv (ix5 b n x g e)
      = if h : x.val < 128 then
          if h' : n.val < 1 then (0 : EReal)
          else kv (ix3 b ⟨(n.val - 1) * 128 + x.val, by omega⟩ ⟨256 + (g.val * 64 + e.val), by omega⟩)
        else kv (ix3 b ⟨n.val * 128 + (x.val - 128), by omega⟩ ⟨256 + (g.val * 64 + e.val), by omega⟩) := by
  pointwise [val_main_v17, val_main_v16, val_main_v15, val_main_v14, val_main_cst_0, val_main_v13, val_main_v7, val_main_v4, val_main_v3]

/-- The queries. -/
theorem qry_at (b : Fin 4) (n : Fin 32) (r : Fin 128) (g h : Fin 4) (e : Fin 64) :
    val_main_v5 (F := Ideal) q (ix6 b n r g h e)
      = q (ix3 b ⟨n.val * 128 + r.val, by omega⟩ ⟨(g.val * 4 + h.val) * 64 + e.val, by omega⟩) := by
  pointwise [val_main_v5, val_main_v1, val_main_v0]

/-- A score. -/
theorem score_at (b : Fin 4) (n : Fin 32) (g h : Fin 4) (r : Fin 128) (x : Fin 256) :
    val_main_v53 (F := Ideal) q k (ix6 b n g h r x)
      = score (Vis n.val r.val x.val) (fun e => val_main_v5 (F := Ideal) q (ix6 b n r g h e))
          (fun e => val_main_v12 (F := Ideal) k (ix5 b n x g e)) := by
  rw [← select_score (mask_iff n r x)]
  pointwise [val_main_v53, val_main_call0_v1, val_main_call0_v2, val_main_call0_v0, val_main_cst_7, val_main_v52, val_main_v21, val_main_v20, val_main_cst_1, val_main_v19, val_main_v18]
  congr 1
  · congr 1
    exact Finset.sum_congr rfl fun e _ => mul_comm _ _

/-- The largest score of a row. -/
theorem fold_at (b : Fin 4) (n : Fin 32) (g h : Fin 4) (r : Fin 128) :
    val_main_v56 (F := Ideal) q k (ix5 b n g h r)
      = Finset.univ.fold max (⊥ : EReal) (fun x : Fin 256 => val_main_v53 (F := Ideal) q k (ix6 b n g h r x)) := by
  unfold val_main_v56
  generalize val_main_v53 (F := Ideal) q k = s
  refine (Fiber.reduce_at (M := EReal) (FloatOps.maximumf (F := Ideal) (φ := .f32)) s _ _ _ b n g h r).trans ?_
  exact congrArg (fun z : EReal => Finset.univ.fold max z (fun x : Fin 256 => s (ix6 b n g h r x))) ofBits_ninf

/-- The larger of two numbers. -/
theorem larger (y z : EReal) : FloatOps.maximumf (F := Ideal) (φ := .f32) y z = max y z := rfl

/-- The sink of a head, spread over the rows. -/
theorem sink_at (b : Fin 4) (n : Fin 32) (g h : Fin 4) (r : Fin 128) :
    val_main_v59 (F := Ideal) snk (ix6 b n g h r 0) = snk (ix1 ⟨g.val * 4 + h.val, by omega⟩) := by
  pointwise [val_main_v59, val_main_v58, val_main_v55, val_main_v54]

/-- The largest score, spread along a last axis of one. -/
theorem spread_at (b : Fin 4) (n : Fin 32) (g h : Fin 4) (r : Fin 128) :
    val_main_v57 (F := Ideal) q k (ix6 b n g h r 0) = val_main_v56 (F := Ideal) q k (ix5 b n g h r) := by
  unfold val_main_v57
  generalize val_main_v56 (F := Ideal) q k = s
  pointwise

/-- The shift of a row's softmax, from the largest score. -/
theorem shift_at (b : Fin 4) (n : Fin 32) (g h : Fin 4) (r : Fin 128) :
    val_main_v60 (F := Ideal) q k snk (ix6 b n g h r 0)
      = (max (val_main_v56 (F := Ideal) q k (ix5 b n g h r)) (snk (ix1 ⟨g.val * 4 + h.val, by omega⟩)) : EReal) := by
  rw [val_main_v60_apply, sink_at, spread_at]
  generalize val_main_v56 (F := Ideal) q k (ix5 b n g h r) = y
  exact larger _ _

/-- The shift of a row's softmax. -/
theorem top_at (b : Fin 4) (n : Fin 32) (g h : Fin 4) (r : Fin 128) :
    val_main_v60 (F := Ideal) q k snk (ix6 b n g h r 0)
      = top (fun x => val_main_v53 (F := Ideal) q k (ix6 b n g h r x)) (snk (ix1 ⟨g.val * 4 + h.val, by omega⟩)) :=
  (shift_at q k snk b n g h r).trans
    (congrArg (fun z : EReal => max z (snk (ix1 ⟨g.val * 4 + h.val, by omega⟩) : EReal)) (fold_at q k b n g h r))

/-- A shifted exponential. -/
theorem exp_at (b : Fin 4) (n : Fin 32) (g h : Fin 4) (r : Fin 128) (x : Fin 256) :
    val_main_v63 (F := Ideal) q k snk (ix6 b n g h r x)
      = Ideal.exp (val_main_v53 (F := Ideal) q k (ix6 b n g h r x) - val_main_v60 (F := Ideal) q k snk (ix6 b n g h r 0)) := by
  pointwise [val_main_v63, val_main_v62, val_main_v61]

/-- The sum of a row's exponentials. -/
theorem sum_at (b : Fin 4) (n : Fin 32) (g h : Fin 4) (r : Fin 128) :
    val_main_v64 (F := Ideal) q k snk (ix5 b n g h r)
      = ∑ x : Fin 256, (val_main_v63 (F := Ideal) q k snk (ix6 b n g h r x) : EReal) := by
  unfold val_main_v64
  generalize val_main_v63 (F := Ideal) q k snk = s
  refine (Fiber.reduceAdd_at s _ _ _ b n g h r).trans ?_
  rw [show (val_main_cst_9 (F := Ideal) (Shape.Idx.first h_S_) : EReal) = 0 from by
    simp [val_main_cst_9_apply, Ideal.ofBits, Ideal.ieee], zero_add]

/-- The denominator of a row's softmax. -/
theorem den_at (b : Fin 4) (n : Fin 32) (g h : Fin 4) (r : Fin 128) :
    val_main_v70 (F := Ideal) q k snk (ix6 b n g h r 0)
      = val_main_v64 (F := Ideal) q k snk (ix5 b n g h r)
        + Ideal.exp (snk (ix1 ⟨g.val * 4 + h.val, by omega⟩) - val_main_v60 (F := Ideal) q k snk (ix6 b n g h r 0)) := by
  unfold val_main_v70 val_main_v65
  generalize val_main_v64 (F := Ideal) q k snk = s
  pointwise [val_main_v69, val_main_v68, val_main_v67, val_main_v66, val_main_v55, val_main_v54]

/-- A weight. -/
theorem prob_at (b : Fin 4) (n : Fin 32) (g h : Fin 4) (r : Fin 128) (x : Fin 256) :
    val_main_v72 (F := Ideal) q k snk (ix6 b n g h r x)
      = Ideal.div (val_main_v63 (F := Ideal) q k snk (ix6 b n g h r x)) (val_main_v70 (F := Ideal) q k snk (ix6 b n g h r 0)) := by
  pointwise [val_main_v72, val_main_v71]

/-- A weight, as the weight of `attn`. -/
theorem weight_at (b : Fin 4) (n : Fin 32) (g h : Fin 4) (r : Fin 128) (x : Fin 256) :
    val_main_v72 (F := Ideal) q k snk (ix6 b n g h r x)
      = Ideal.div (Ideal.exp (val_main_v53 (F := Ideal) q k (ix6 b n g h r x)
            - top (fun x => val_main_v53 (F := Ideal) q k (ix6 b n g h r x)) (snk (ix1 ⟨g.val * 4 + h.val, by omega⟩))))
          (den (fun x => val_main_v53 (F := Ideal) q k (ix6 b n g h r x)) (snk (ix1 ⟨g.val * 4 + h.val, by omega⟩))) := by
  rw [prob_at, den_at, sum_at, exp_at, top_at]
  simp only [exp_at, top_at]
  rfl

/-- An output entry. -/
theorem out_at (b : Fin 4) (t : Fin 4096) (c : Fin 1024) :
    val_main_v76 (F := Ideal) q k kv snk (ix3 b t c)
      = attn (fun x : Fin 256 => val_main_v53 (F := Ideal) q k
            (ix6 b ⟨t.val / 128, by omega⟩ ⟨c.val / 256, by omega⟩ ⟨c.val / 64 % 4, by omega⟩ ⟨t.val % 128, by omega⟩ x))
          (snk (ix1 ⟨c.val / 256 * 4 + c.val / 64 % 4, by omega⟩))
          (fun x => val_main_v17 (F := Ideal) kv (ix5 b ⟨t.val / 128, by omega⟩ x ⟨c.val / 256, by omega⟩ ⟨c.val % 64, by omega⟩)) := by
  pointwise [val_main_v76, val_main_v75, val_main_v74, val_main_v73]
  unfold attn
  exact Finset.sum_congr rfl fun x _ => (mul_comm _ _).trans (congrArg (fun z : EReal => z * _) (weight_at q k snk _ _ _ _ _ _))

end Cert.ReferenceIdeal.Swa

end
-- ==== Proof.SwaHead.lean ====
/- What one head of one block computes: the sixteen stores of the body are one computation, at
   sixteen places, and that computation read at an index is `Attn.attn`. -/
module

public import proofs.«01_k».proof.Proof.Gen.KernelIdeal.Skeleton
public import proofs.«01_k».proof.Proof.Attn
public import Idealize.ShloMosaic.Lib.Pipeline.ValueKit
public import Idealize.ShloMosaic.Lib.WordCmp

@[expose] public section

set_option maxRecDepth 16384

noncomputable section

namespace Cert.KernelIdeal.Swa

open Cert.KernelIdeal Cert.KernelIdeal.Gen Idealize.ShloMosaic Idealize.ShloMosaic.TcCoe Idealize.SL.Sem
open Cert.Attn

/-- The body's mask is set exactly where the key is seen. -/
theorem mask_iff (i : grid0.Coords) (r : Fin 128) (k : Fin 256) :
    k0_pay2 i (ix2 r k) = 1#1 ↔ Vis (i 1).val r.val k.val := by
  have hi : (i 1).val < 32 := (i 1).isLt
  pointwise [k0_pay2]
  rw [WordCmp.addi_ofNat]
  unfold Scalar.cmpi
  word_cmp

/-- Keys (and values) of two blocks, one above the other. -/
theorem band_at (a b : FVec Ideal S1x128x64 .f32) (k : Fin 256) (d : Fin 64) :
    k0_pay3 (F := Ideal) a b (ix2 k d)
      = if h : k.val < 128 then a (ix3 0 ⟨k.val, h⟩ d) else b (ix3 0 ⟨k.val - 128, by omega⟩ d) := by
  pointwise [k0_pay3]

/-- One head of one block is attention of each of its rows. -/
theorem head_at (i : grid0.Coords) (kk vv : FVec Ideal S256x64 .bf16) (q : FVec Ideal S1x128x64 .bf16) (snk : EReal)
    (r : Fin 128) (d : Fin 64) :
    k0_pay10 (F := Ideal) (k0_pay2 i) kk vv q snk (ix3 0 r d)
      = attn (fun k : Fin 256 => score (Vis (i 1).val r.val k.val) (fun e => q (ix3 0 r e)) (fun e => kk (ix2 k e)))
          snk (fun k => vv (ix2 k d)) := by
  pointwise [k0_pay10]
  have hsel : ∀ x : Fin 256, Scalar.select (k0_pay2 i (ix2 r x))
      ((∑ e, q (ix3 0 r e) * kk (ix2 x e)) * Ideal.ofBits .f32 0x3E000000#32) ⊥
        = score (Vis (i 1).val r.val x.val) (fun e => q (ix3 0 r e)) (fun e => kk (ix2 x e)) :=
    fun x => select_score (mask_iff i r x) _ _
  simp only [ofBits_ninf, hsel]
  rfl

section heads

variable (i : grid0.Coords) (a b c e : FVec Ideal S1x128x64 .f32) (q : FVec Ideal S1x128x64 .bf16) (s : EReal)

/-- One head of one block: keys `a` above `b`, values `c` above `e`, queries `q`, sink `s`. -/
abbrev head : FVec Ideal S1x128x64 .bf16 := k0_pay10 (F := Ideal) (k0_pay2 i) (k0_pay3 a b) (k0_pay3 c e) q s

/-- Head 0. -/
theorem head0 : k0_pay7 (F := Ideal) (k0_pay4 c e) (k0_pay5 i a b q) s (k0_pay6 i a b q) = head i a b c e q s := rfl

/-- Head 1. -/
theorem head1 : k0_pay9 (F := Ideal) (k0_pay8 (k0_pay2 i) (k0_pay3 a b) (k0_pay4 c e) q s) = head i a b c e q s := rfl

/-- Head 2. -/
theorem head2 : k0_pay10 (F := Ideal) (k0_pay2 i) (k0_pay3 a b) (k0_pay4 c e) q s = head i a b c e q s := rfl

/-- Head 3. -/
theorem head3 : k0_pay13 (F := Ideal) (k0_pay2 i) (k0_pay4 c e) (k0_pay11 (k0_pay3 a b) q) k0_pay12 s = head i a b c e q s := rfl

/-- Head 4. -/
theorem head4 : k0_pay16 (F := Ideal) (k0_pay2 i) (k0_pay14 a b) (k0_pay15 c e) q s = head i a b c e q s := rfl

/-- Head 5. -/
theorem head5 : k0_pay20 (F := Ideal) (k0_pay15 c e) (k0_pay17 (k0_pay2 i) (k0_pay14 a b) q) s (k0_pay18 (k0_pay2 i) (k0_pay14 a b) q) (k0_pay19 s) = head i a b c e q s := rfl

/-- Head 6. -/
theorem head6 : k0_pay22 (F := Ideal) (k0_pay21 (k0_pay2 i) (k0_pay14 a b) (k0_pay15 c e) q s) = head i a b c e q s := rfl

/-- Head 7. -/
theorem head7 : k0_pay23 (F := Ideal) (k0_pay2 i) (k0_pay14 a b) (k0_pay15 c e) q s = head i a b c e q s := rfl

/-- Head 8. -/
theorem head8 : k0_pay28 (F := Ideal) (k0_pay2 i) (k0_pay24 a) (k0_pay25 b) c e q s = head i a b c e q s := rfl

/-- Head 9. -/
theorem head9 : k0_pay29 (F := Ideal) (k0_pay2 i) (k0_pay26 (k0_pay24 a) (k0_pay25 b)) (k0_pay27 c e) q s = head i a b c e q s := rfl

/-- Head 10. -/
theorem head10 : k0_pay32 (F := Ideal) (k0_pay27 c e) (k0_pay30 (k0_pay2 i) (k0_pay26 (k0_pay24 a) (k0_pay25 b)) q) s (k0_pay31 (k0_pay2 i) (k0_pay26 (k0_pay24 a) (k0_pay25 b)) q s) = head i a b c e q s := rfl

/-- Head 11. -/
theorem head11 : k0_pay34 (F := Ideal) (k0_pay33 (k0_pay2 i) (k0_pay26 (k0_pay24 a) (k0_pay25 b)) (k0_pay27 c e) q s) = head i a b c e q s := rfl

/-- Head 12. -/
theorem head12 : k0_pay41 (F := Ideal) (k0_pay36 c e) (k0_pay39 (k0_pay2 i) a b q s) (k0_pay40 (k0_pay2 i) a b q s) = head i a b c e q s := rfl

/-- Head 13. -/
theorem head13 : k0_pay42 (F := Ideal) (k0_pay2 i) (k0_pay35 a b) (k0_pay36 c e) q s = head i a b c e q s := rfl

/-- Head 14. -/
theorem head14 : k0_pay43 (F := Ideal) (k0_pay2 i) (k0_pay35 a b) (k0_pay36 c e) q s = head i a b c e q s := rfl

/-- Head 15. -/
theorem head15 : k0_pay1 (F := Ideal) (k0_pay36 c e) (k0_pay44 (k0_pay2 i) (k0_pay35 a b) q) s (k0_pay45 (k0_pay2 i) (k0_pay35 a b) q s) (k0_pay46 (k0_pay2 i) (k0_pay35 a b) q s) = head i a b c e q s := rfl

end heads

end Cert.KernelIdeal.Swa

end
-- ==== Proof.SwaBlock.lean ====
/- What the whole grid leaves in the result: every point stores sixteen heads of one block of rows,
   and each of them is `Attn.attn` of the arguments at the place where the block sits. -/
module

public import proofs.«01_k».proof.Proof.Gen.KernelIdeal.Value
public import proofs.«01_k».proof.Proof.SwaHead

@[expose] public section

set_option maxRecDepth 16384

noncomputable section

namespace Cert.KernelIdeal.Swa

open Cert.KernelIdeal Cert.KernelIdeal.Gen Idealize.ShloMosaic Idealize.ShloMosaic.TcCoe Idealize.SL.Sem
open Idealize.ShloMosaic.Pipeline (Dat)
open Cert.Attn

/-- The row of the array at which key `k` of block `n`'s band stands: the block before, then the
    block; the first block's band repeats the block. -/
abbrev bandRow (n k : ℕ) : ℕ := if k < 128 then (n - 1) * 128 + k else n * 128 + (k - 128)

theorem bandRow_lt (t : Fin 4096) (k : Fin 256) : bandRow (t.val / 128) k.val < 4096 := by
  unfold bandRow; split <;> omega

/-- The result at sequence `b`, position `t`, column `c` (head `c / 64`, key head `c / 256`). -/
def outAt (q : FVec Ideal S4x4096x1024 .bf16) (k : FVec Ideal S4x4096x256 .f32) (kv : FVec Ideal S4x4096x512 .f32)
    (snk : FVec Ideal S16 .f32) (b : Fin 4) (t : Fin 4096) (c : Fin 1024) : EReal :=
  attn (fun x : Fin 256 => score (Vis (t.val / 128) (t.val % 128) x.val)
      (fun e : Fin 64 => q (ix3 b t ⟨64 * (c.val / 64) + e.val, by omega⟩))
      (fun e : Fin 64 => k (ix3 b ⟨bandRow (t.val / 128) x.val, bandRow_lt t x⟩ ⟨64 * (c.val / 256) + e.val, by omega⟩)))
    (snk (ix1 ⟨c.val / 64, by omega⟩))
    (fun x : Fin 256 => kv (ix3 b ⟨bandRow (t.val / 128) x.val, bandRow_lt t x⟩
      ⟨256 + (64 * (c.val / 256) + c.val % 64), by omega⟩))

/-- The result array as one function of the arguments. -/
def out (q : FVec Ideal S4x4096x1024 .bf16) (k : FVec Ideal S4x4096x256 .f32) (kv : FVec Ideal S4x4096x512 .f32)
    (snk : FVec Ideal S16 .f32) : FVec Ideal S4x4096x1024 .bf16 := fun j => outAt q k kv snk (j 0) (j 1) (j 2)

variable (m : (ℓ : Loc nD τ sig) → Buf (Elt Ideal) ℓ)

/-- Where every window's block sits, at every point of the grid. -/
theorem idx : ∀ t : Fin cfg0.N, win0_0.index t = ![0] ∧ win0_1.index t = ![t.val / 32, t.val % 32, 0]
    ∧ win0_2.index t = ![t.val / 32, t.val % 32 - 1, 0] ∧ win0_3.index t = ![t.val / 32, t.val % 32, 0]
    ∧ win0_4.index t = ![t.val / 32, t.val % 32 - 1, 1] ∧ win0_5.index t = ![t.val / 32, t.val % 32, 1]
    ∧ win0_6.index t = ![t.val / 32, t.val % 32, 0] ∧ (grid0.coords t 1).val = t.val % 32 :=
  (by decide +kernel : ∀ t : Fin grid0.N, _)

/-- One head of one block, its operands read from the staged blocks, is the result at the place
    where the head's store lands. -/
theorem tile (c : Dev nD) (t : Fin cfg0.N) (h : Fin 16) (a b v w : FVec Ideal S1x128x64 .f32)
    (q : FVec Ideal S1x128x64 .bf16) (s : EReal)
    (ha : ∀ (r : Fin 128) (d : Fin 64), a (ix3 0 r d) = iblk m c 2 t (ix3 0 r ⟨64 * (h.val / 4) + d.val, by omega⟩))
    (hb : ∀ (r : Fin 128) (d : Fin 64), b (ix3 0 r d) = iblk m c 3 t (ix3 0 r ⟨64 * (h.val / 4) + d.val, by omega⟩))
    (hv : ∀ (r : Fin 128) (d : Fin 64), v (ix3 0 r d) = iblk m c 4 t (ix3 0 r ⟨64 * (h.val / 4) + d.val, by omega⟩))
    (hw : ∀ (r : Fin 128) (d : Fin 64), w (ix3 0 r d) = iblk m c 5 t (ix3 0 r ⟨64 * (h.val / 4) + d.val, by omega⟩))
    (hq : ∀ (r : Fin 128) (d : Fin 64), q (ix3 0 r d) = iblk m c 1 t (ix3 0 r ⟨64 * h.val + d.val, by omega⟩))
    (hs : s = iblk m c 0 t (ix1 h))
    (r : Fin 128) (d : Fin 64) (jb : Fin 4) (jt : Fin 4096) (jc : Fin 1024)
    (hj0 : jb.val = t.val / 32) (hj1 : jt.val = t.val % 32 * 128 + r.val) (hj2 : jc.val = 64 * h.val + d.val) :
    head (grid0.coords t) a b v w q s (ix3 0 r d)
      = outAt (m ((c : Thread nD τ).loc main_arg0)) (m ((c : Thread nD τ).loc main_arg1))
          (m ((c : Thread nD τ).loc main_arg2)) (m ((c : Thread nD τ).loc main_arg3)) jb jt jc := by
  have ht : t.val < 128 := t.isLt
  refine (head_at _ _ _ _ _ r d).trans ?_
  have e1 : jt.val / 128 = t.val % 32 := by omega
  have e2 : jt.val % 128 = r.val := by omega
  have e3 : jc.val / 64 = h.val := by omega
  have e4 : jc.val / 256 = h.val / 4 := by omega
  have e5 : jc.val % 64 = d.val := by omega
  unfold outAt
  refine attn_congr (fun k => score_congr ?_ (fun e => ?_) fun e => ?_) ?_ fun k => ?_
  · rw [e1, e2, (idx t).2.2.2.2.2.2.2]
  · rw [hq]; blk_ext [iblk, V, idx t]
  · rw [band_at]; split
    · rename_i hk
      rw [ha]; blk_ext [iblk, V, idx t]
    · rename_i hk
      rw [hb]; blk_ext [iblk, V, idx t]
  · rw [hs]; blk_ext [iblk, V, idx t]
  · rw [band_at]; split
    · rename_i hk
      rw [hv]; blk_ext [iblk, V, idx t]
    · rename_i hk
      rw [hw]; blk_ext [iblk, V, idx t]

/-- The same at an index of the stored piece and an index of the array. -/
theorem tile_idx (c : Dev nD) (t : Fin cfg0.N) (h : Fin 16) (a b v w : FVec Ideal S1x128x64 .f32)
    (q : FVec Ideal S1x128x64 .bf16) (s : EReal)
    (ha : ∀ (r : Fin 128) (d : Fin 64), a (ix3 0 r d) = iblk m c 2 t (ix3 0 r ⟨64 * (h.val / 4) + d.val, by omega⟩))
    (hb : ∀ (r : Fin 128) (d : Fin 64), b (ix3 0 r d) = iblk m c 3 t (ix3 0 r ⟨64 * (h.val / 4) + d.val, by omega⟩))
    (hv : ∀ (r : Fin 128) (d : Fin 64), v (ix3 0 r d) = iblk m c 4 t (ix3 0 r ⟨64 * (h.val / 4) + d.val, by omega⟩))
    (hw : ∀ (r : Fin 128) (d : Fin 64), w (ix3 0 r d) = iblk m c 5 t (ix3 0 r ⟨64 * (h.val / 4) + d.val, by omega⟩))
    (hq : ∀ (r : Fin 128) (d : Fin 64), q (ix3 0 r d) = iblk m c 1 t (ix3 0 r ⟨64 * h.val + d.val, by omega⟩))
    (hs : s = iblk m c 0 t (ix1 h))
    (x : S1x128x64.Idx) (j : S4x4096x1024.Idx)
    (hj0 : (j 0 : ℕ) = t.val / 32) (hj1 : (j 1 : ℕ) = t.val % 32 * 128 + x 1) (hj2 : (j 2 : ℕ) = 64 * h.val + x 2) :
    head (grid0.coords t) a b v w q s x
      = out (m ((c : Thread nD τ).loc main_arg0)) (m ((c : Thread nD τ).loc main_arg1))
          (m ((c : Thread nD τ).loc main_arg2)) (m ((c : Thread nD τ).loc main_arg3)) j := by
  have hx : x = ix3 0 (x 1) (x 2) :=
    (eq_ix3 x).trans (congrArg (fun z : Fin 1 => ix3 z (x 1) (x 2)) (Subsingleton.elim (α := Fin 1) _ _))
  rw [hx]
  exact tile m c t h a b v w q s ha hb hv hw hq hs (x 1) (x 2) (j 0) (j 1) (j 2) hj0 hj1 hj2

/-- THE RESULT ARRAY of a run: `out` of the arguments. -/
theorem final (c : Dev nD) : (dats m 0 c).arrAt 6 cfg0.N
    = out (m ((c : Thread nD τ).loc main_arg0)) (m ((c : Thread nD τ).loc main_arg1))
          (m ((c : Thread nD τ).loc main_arg2)) (m ((c : Thread nD τ).loc main_arg3)) := by
  refine (dats m 0 c).arrAt_eq_of_covers 6 _ (by decide +kernel) fun t _ y => ?_
  blk_simp
  rw [after0_6]
  unfold outsAt0
  frame_out
  canon_tiles x h
  case piece0 =>
    refine (congrFun (head15 (grid0.coords t) _ _ _ _ _ _) x).trans (tile_idx m c t ⟨15, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece1 =>
    refine (congrFun (head14 (grid0.coords t) _ _ _ _ _ _) x).trans (tile_idx m c t ⟨14, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece2 =>
    refine (congrFun (head13 (grid0.coords t) _ _ _ _ _ _) x).trans (tile_idx m c t ⟨13, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece3 =>
    refine (congrFun (head12 (grid0.coords t) _ _ _ _ _ _) x).trans (tile_idx m c t ⟨12, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece4 =>
    refine (congrFun (head11 (grid0.coords t) _ _ _ _ _ _) x).trans (tile_idx m c t ⟨11, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece5 =>
    refine (congrFun (head10 (grid0.coords t) _ _ _ _ _ _) x).trans (tile_idx m c t ⟨10, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece6 =>
    refine (congrFun (head9 (grid0.coords t) _ _ _ _ _ _) x).trans (tile_idx m c t ⟨9, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece7 =>
    refine (congrFun (head8 (grid0.coords t) _ _ _ _ _ _) x).trans (tile_idx m c t ⟨8, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece8 =>
    refine (congrFun (head7 (grid0.coords t) _ _ _ _ _ _) x).trans (tile_idx m c t ⟨7, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece9 =>
    refine (congrFun (head6 (grid0.coords t) _ _ _ _ _ _) x).trans (tile_idx m c t ⟨6, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece10 =>
    refine (congrFun (head5 (grid0.coords t) _ _ _ _ _ _) x).trans (tile_idx m c t ⟨5, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece11 =>
    refine (congrFun (head4 (grid0.coords t) _ _ _ _ _ _) x).trans (tile_idx m c t ⟨4, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece12 =>
    refine (congrFun (head3 (grid0.coords t) _ _ _ _ _ _) x).trans (tile_idx m c t ⟨3, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece13 =>
    refine (congrFun (head2 (grid0.coords t) _ _ _ _ _ _) x).trans (tile_idx m c t ⟨2, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece14 =>
    refine (congrFun (head1 (grid0.coords t) _ _ _ _ _ _) x).trans (tile_idx m c t ⟨1, by decide⟩ _ _ _ _ _ _ ?_ ?_ ?_ ?_ ?_ ?_ x _ ?_ ?_ ?_)
    iterate 5 (· intro r d; pointwise; try blk_ext)
    · pointwise; try blk_ext
    all_goals (blk_simp [idx t] <;> try omega)
  case piece15 =>
    refine (congrFun (head0 (grid0.coords t) _ _ _ _ _ _) x).trans (tile_idx m c t ⟨0, by decide⟩ _ _ _ _ _ _ ?_ ?_ ?_ ?_ ?_ ?_ x _ ?_ ?_ ?_)
    iterate 5 (· intro r d; pointwise; try blk_ext)
    · pointwise; try blk_ext
    all_goals (blk_simp [idx t] <;> try omega)

end Cert.KernelIdeal.Swa

end
-- ==== Proof.SwaEq.lean ====
/- The two readings agree: the kernel's result is the reference's. -/
module

public import proofs.«01_k».proof.Proof.SwaRef
public import proofs.«01_k».proof.Proof.SwaBlock

@[expose] public section

set_option maxRecDepth 16384

noncomputable section

namespace Cert.Swa

open Cert.ReferenceIdeal.Read Idealize.ShloMosaic
open Cert.Attn Cert.KernelIdeal.Swa

variable (q : FVec Ideal Cert.KernelIdeal.S4x4096x1024 .bf16) (k : FVec Ideal Cert.KernelIdeal.S4x4096x256 .f32)
  (kv : FVec Ideal Cert.KernelIdeal.S4x4096x512 .f32) (snk : FVec Ideal Cert.KernelIdeal.S16 .f32)

/-- A visible key of the reference's band stands where the kernel's band has it. -/
theorem score_eq (b : Fin 4) (t : Fin 4096) (c : Fin 1024) (x : Fin 256) :
    val_main_v53 (F := Ideal) q k
        (ix6 b ⟨t.val / 128, by omega⟩ ⟨c.val / 256, by omega⟩ ⟨c.val / 64 % 4, by omega⟩ ⟨t.val % 128, by omega⟩ x)
      = score (Vis (t.val / 128) (t.val % 128) x.val)
          (fun e : Fin 64 => q (ix3 b t ⟨64 * (c.val / 64) + e.val, by omega⟩))
          (fun e : Fin 64 => k (ix3 b ⟨bandRow (t.val / 128) x.val, bandRow_lt t x⟩ ⟨64 * (c.val / 256) + e.val, by omega⟩)) := by
  rw [Cert.ReferenceIdeal.Swa.score_at]
  unfold score
  refine if_ctx_congr Iff.rfl (fun hv => ?_) fun _ => rfl
  refine congrArg (fun z : EReal => z * scale) (Finset.sum_congr rfl fun e _ => ?_)
  have hv : Vis (t.val / 128) (t.val % 128) x.val := hv
  have h1 := Cert.ReferenceIdeal.Swa.qry_at q b ⟨t.val / 128, by omega⟩ ⟨t.val % 128, by omega⟩ ⟨c.val / 256, by omega⟩ ⟨c.val / 64 % 4, by omega⟩ e
  have h2 := Cert.ReferenceIdeal.Swa.keys_at k b ⟨t.val / 128, by omega⟩ x ⟨c.val / 256, by omega⟩ e
  refine congrArg₂ (fun y z : EReal => y * z) (h1.trans ?_) (h2.trans ?_)
  · exact congrArg₂ (fun y z => q (ix3 b y z)) (Fin.ext (by show t.val / 128 * 128 + t.val % 128 = t.val; omega))
      (Fin.ext (by show (c.val / 256 * 4 + c.val / 64 % 4) * 64 + e.val = 64 * (c.val / 64) + e.val; omega))
  · unfold Vis at hv
    by_cases hx : x.val < 128
    · rw [dif_pos hx, dif_neg (by show ¬ t.val / 128 < 1; omega)]
      exact congrArg₂ (fun y z => k (ix3 b y z)) (Fin.ext (by show (t.val / 128 - 1) * 128 + x.val = bandRow _ _; unfold bandRow; rw [if_pos hx]))
        (Fin.ext (by show c.val / 256 * 64 + e.val = 64 * (c.val / 256) + e.val; omega))
    · rw [dif_neg hx]
      exact congrArg₂ (fun y z => k (ix3 b y z)) (Fin.ext (by show t.val / 128 * 128 + (x.val - 128) = bandRow _ _; unfold bandRow; rw [if_neg hx]))
        (Fin.ext (by show c.val / 256 * 64 + e.val = 64 * (c.val / 256) + e.val; omega))

/-- A value of the reference's band is the kernel's, except before the first block, where it is zero. -/
theorem val_eq (b : Fin 4) (t : Fin 4096) (c : Fin 1024) (x : Fin 256) (h : 128 ≤ x.val ∨ 0 < t.val / 128) :
    val_main_v17 (F := Ideal) kv (ix5 b ⟨t.val / 128, by omega⟩ x ⟨c.val / 256, by omega⟩ ⟨c.val % 64, by omega⟩)
      = kv (ix3 b ⟨bandRow (t.val / 128) x.val, bandRow_lt t x⟩ ⟨256 + (64 * (c.val / 256) + c.val % 64), by omega⟩) := by
  rw [Cert.ReferenceIdeal.Swa.vals_at]
  by_cases hx : x.val < 128
  · rw [dif_pos hx, dif_neg (by show ¬ t.val / 128 < 1; omega)]
    exact congrArg₂ (fun y z => kv (ix3 b y z)) (Fin.ext (by show (t.val / 128 - 1) * 128 + x.val = bandRow _ _; unfold bandRow; rw [if_pos hx]))
      (Fin.ext (by show 256 + (c.val / 256 * 64 + c.val % 64) = 256 + (64 * (c.val / 256) + c.val % 64); omega))
  · rw [dif_neg hx]
    exact congrArg₂ (fun y z => kv (ix3 b y z)) (Fin.ext (by show t.val / 128 * 128 + (x.val - 128) = bandRow _ _; unfold bandRow; rw [if_neg hx]))
      (Fin.ext (by show 256 + (c.val / 256 * 64 + c.val % 64) = 256 + (64 * (c.val / 256) + c.val % 64); omega))

/-- Before the first block the reference's values are zero. -/
theorem val_zero (b : Fin 4) (t : Fin 4096) (c : Fin 1024) (x : Fin 256) (hx : x.val < 128) (ht : t.val / 128 = 0) :
    val_main_v17 (F := Ideal) kv (ix5 b ⟨t.val / 128, by omega⟩ x ⟨c.val / 256, by omega⟩ ⟨c.val % 64, by omega⟩)
      = (0 : EReal) := by
  rw [Cert.ReferenceIdeal.Swa.vals_at, dif_pos hx, dif_pos (by show t.val / 128 < 1; omega)]

/-- One entry of the result: where the band lies inside the sequence the two rows of attention are
    the same; in the first block its first half is masked, and what stands there does not matter. -/
theorem entry (b : Fin 4) (t : Fin 4096) (c : Fin 1024) :
    val_main_v76 (F := Ideal) q k kv snk (ix3 b t c) = outAt q k kv snk b t c := by
  rw [Cert.ReferenceIdeal.Swa.out_at]
  have hs : (⟨c.val / 256 * 4 + c.val / 64 % 4, by omega⟩ : Fin 16) = ⟨c.val / 64, by omega⟩ :=
    Fin.ext (by show c.val / 256 * 4 + c.val / 64 % 4 = c.val / 64; omega)
  by_cases ht : t.val / 128 = 0
  · refine (attn_congr (score_eq q k b t c) (congrArg (fun z => snk (ix1 z)) hs) fun _ => rfl).trans ?_
    unfold outAt
    refine (attn_masked _ _ (fun x : Fin 128 => kv (ix3 b ⟨x.val, by omega⟩ ⟨256 + (64 * (c.val / 256) + c.val % 64), by omega⟩))
      _ _ (fun x => ?_) (fun x => ?_) (fun x => ?_) (fun x => ?_) fun x => ?_).symm
    · exact if_neg (by show ¬ Vis (t.val / 128) (t.val % 128) x.val; unfold Vis; omega)
    · exact congrArg (fun y => kv (ix3 b y _)) (Fin.ext (by
        show bandRow (t.val / 128) x.val = x.val; unfold bandRow; rw [if_pos x.isLt, ht]; omega))
    · exact congrArg (fun y => kv (ix3 b y _)) (Fin.ext (by
        show bandRow (t.val / 128) (128 + x.val) = x.val; unfold bandRow; rw [if_neg (by omega), ht]; omega))
    · exact val_zero kv b t c (Fin.castAdd 128 x) x.isLt ht
    · refine (val_eq kv b t c (Fin.natAdd 128 x) (Or.inl (by show 128 ≤ 128 + x.val; omega))).trans ?_
      exact congrArg (fun y => kv (ix3 b y _)) (Fin.ext (by
        show bandRow (t.val / 128) (128 + x.val) = x.val; unfold bandRow; rw [if_neg (by omega), ht]; omega))
  · exact attn_congr (score_eq q k b t c) (congrArg (fun z => snk (ix1 z)) hs)
      fun x => val_eq kv b t c x (Or.inr (Nat.pos_of_ne_zero ht))

/-- The reference's result is the kernel's. -/
theorem result : val_main_v76 (F := Ideal) q k kv snk = out q k kv snk := by
  funext j
  rw [eq_ix3 j]
  exact entry q k kv snk (j 0) (j 1) (j 2)

end Cert.Swa

end
-- ==== Proof.Dense.lean ====
/- The row formulas of the layer's dense parts over the extended reals: the root-mean-square norm of
   a row, the product of a row with a matrix, the gated product. No program is mentioned here. -/
module

public import Idealize.ShloMosaic.Lib.Pointwise

@[expose] public section

noncomputable section

namespace Cert.Dense

open Idealize.ShloMosaic

/-- The number added under the root, `1e-6` as its word. -/
def eps : EReal := Ideal.ofBits .f32 0x358637BD#32

/-- The length 1024 of a row, as its word. -/
def c1024 : EReal := Ideal.ofBits .f32 0x44800000#32

/-- The length 128 of a head, as its word. -/
def c128 : EReal := Ideal.ofBits .f32 0x43000000#32

/-- Entry `d` of the norm of row `x` of length `len` (as a number), with gain `g`. -/
def rms {n : ℕ} (len : EReal) (x g : Fin n → EReal) (d : Fin n) : EReal :=
  x d * Ideal.rsqrt (Ideal.div (∑ k, x k * x k) len + eps) * g d

/-- The product of a row and a column. -/
def dot {n : ℕ} (x w : Fin n → EReal) : EReal := ∑ k, x k * w k

/-- A number times its own logistic function. -/
def silu (z : EReal) : EReal := z * Ideal.logistic z

/-- Entry `d` of head `h` of a gated row: the norm of the head's 128 entries of `o`, times the gate. -/
def headAt (o z : Fin 1024 → EReal) (g : Fin 128 → EReal) (h : Fin 8) (d : Fin 128) : EReal :=
  rms c128 (fun e => o ⟨128 * h.val + e.val, by omega⟩) g d * silu (z ⟨128 * h.val + d.val, by omega⟩)

/-- Entry `k` of a gated row. -/
def gated (o z : Fin 1024 → EReal) (g : Fin 128 → EReal) (k : Fin 1024) : EReal :=
  headAt o z g ⟨k.val / 128, by omega⟩ ⟨k.val % 128, by omega⟩

/-- Entry `128 h + e` of a gated row is entry `e` of head `h`. -/
theorem headAt_eq (o z : Fin 1024 → EReal) (g : Fin 128 → EReal) (h : Fin 8) (e : Fin 128) (k : Fin 1024)
    (hk : k.val = 128 * h.val + e.val) : headAt o z g h e = gated o z g k := by
  have h1 : (⟨k.val / 128, by omega⟩ : Fin 8) = h := Fin.ext (by show k.val / 128 = h.val; omega)
  have h2 : (⟨k.val % 128, by omega⟩ : Fin 128) = e := Fin.ext (by show k.val % 128 = e.val; omega)
  unfold gated
  rw [h1, h2]

/-- The integer zero as a number. -/
theorem sitofp_zero : (FloatOps.sitofp (F := Ideal) .f32 0#32 : EReal) = 0 := by
  show (((0#32 : BitVec 32).toInt : ℝ) : EReal) = 0
  simp

end Cert.Dense

end
-- ==== Proof.FfnBlock.lean ====
/- The dense feed-forward call: what a block of 512 rows stores, and from it the whole result array. -/
module

public import proofs.«01_k».proof.Proof.Gen.FfnIdeal.Value
public import proofs.«01_k».proof.Proof.Dense
public import Idealize.ShloMosaic.Lib.Pipeline.ValueKit
public import Idealize.ShloMosaic.Lib.Claim

@[expose] public section

set_option maxRecDepth 16384

noncomputable section

namespace Cert.FfnIdeal.Blk

open Cert.FfnIdeal Cert.FfnIdeal.Gen Idealize.ShloMosaic Idealize.ShloMosaic.TcCoe Idealize.SL.Sem
open Idealize.ShloMosaic.Pipeline (Dat)
open Cert.Dense

/-- The result at row `r`, column `d`: the row plus the gated product of its norm. -/
def outAt (x : FVec Ideal S16384x1024 .f32) (g : FVec Ideal S1024 .f32) (wgu : FVec Ideal S1024x5632 .f32)
    (wd : FVec Ideal S2816x1024 .f32) (r : Fin 16384) (d : Fin 1024) : EReal :=
  x (ix2 r d) + dot (fun f : Fin 2816 =>
      silu (dot (rms c1024 (fun k : Fin 1024 => x (ix2 r k)) (fun k => g (ix1 k))) (fun k => wgu (ix2 k ⟨f.val, by omega⟩)))
        * dot (rms c1024 (fun k : Fin 1024 => x (ix2 r k)) (fun k => g (ix1 k))) (fun k => wgu (ix2 k ⟨2816 + f.val, by omega⟩)))
    (fun f => wd (ix2 f d))

/-- The result array. -/
def out (x : FVec Ideal S16384x1024 .f32) (g : FVec Ideal S1024 .f32) (wgu : FVec Ideal S1024x5632 .f32)
    (wd : FVec Ideal S2816x1024 .f32) : FVec Ideal S16384x1024 .f32 := fun j => outAt x g wgu wd (j 0) (j 1)

/-- One block's stored value at an index. -/
theorem pay_at (x y : FVec Ideal S512x1024 .f32) (g : FVec Ideal S1x1024 .f32) (a b : FVec Ideal S1024x2816 .bf16)
    (w : FVec Ideal S2816x1024 .bf16) (r : Fin 512) (d : Fin 1024) :
    k0_pay1 (F := Ideal) x g y a b w (ix2 r d)
      = y (ix2 r d) + dot (fun f : Fin 2816 =>
      silu (dot (rms c1024 (fun k : Fin 1024 => x (ix2 r k)) (fun k => g (ix2 0 k))) (fun k => a (ix2 k f)))
        * dot (rms c1024 (fun k : Fin 1024 => x (ix2 r k)) (fun k => g (ix2 0 k))) (fun k => b (ix2 k f)))
    (fun f => w (ix2 f d)) := by
  pointwise [k0_pay1]
  rfl

variable (m : (ℓ : Loc nD τ sig) → Buf (Elt Ideal) ℓ)

/-- Where every window's block sits, at every point of the grid. -/
theorem idx : ∀ t : Fin cfg0.N, win0_0.index t = ![t.val, 0] ∧ win0_1.index t = ![0, 0]
    ∧ win0_2.index t = ![0, 0] ∧ win0_3.index t = ![0, 1] ∧ win0_4.index t = ![0, 0] ∧ win0_5.index t = ![t.val, 0] :=
  (by decide +kernel : ∀ t : Fin grid0.N, _)

/-- The staged rows are the argument's rows. -/
theorem rows (c : Dev nD) (t : Fin cfg0.N) (r : Fin 512) (d : Fin 1024) (j : Fin 16384) (hj : j.val = t.val * 512 + r.val) :
    iblk m c 0 t (ix2 r d) = m ((c : Thread nD τ).loc main_arg0) (ix2 j d) := by
  unfold iblk
  entry_read
  blk_ext [idx t]

/-- The staged gain is the argument. -/
theorem gain (c : Dev nD) (t : Fin cfg0.N) (d : Fin 1024) :
    iblk m c 1 t (ix2 0 d) = m ((c : Thread nD τ).loc main_arg1) (ix1 d) := by
  unfold iblk
  entry_read
  blk_simp
  pointwise
  blk_ext [idx t]

/-- The first half of the columns of the joined weight. -/
theorem wgate (c : Dev nD) (t : Fin cfg0.N) (r : Fin 1024) (d : Fin 2816) :
    iblk m c 2 t (ix2 r d) = m ((c : Thread nD τ).loc main_arg2) (ix2 r ⟨d.val, by omega⟩) := by
  unfold iblk
  entry_read
  blk_simp
  pointwise
  blk_ext [idx t]

/-- The second half. -/
theorem wup (c : Dev nD) (t : Fin cfg0.N) (r : Fin 1024) (d : Fin 2816) :
    iblk m c 3 t (ix2 r d) = m ((c : Thread nD τ).loc main_arg2) (ix2 r ⟨2816 + d.val, by omega⟩) := by
  unfold iblk
  entry_read
  blk_simp
  pointwise
  blk_ext [idx t]

/-- The weight of the way back. -/
theorem wdown (c : Dev nD) (t : Fin cfg0.N) (r : Fin 2816) (d : Fin 1024) :
    iblk m c 4 t (ix2 r d) = m ((c : Thread nD τ).loc main_arg3) (ix2 r d) := by
  unfold iblk
  entry_read
  blk_simp
  pointwise
  blk_ext [idx t]

/-- A block's stored value is the result at the place where the block sits. -/
theorem tile (c : Dev nD) (t : Fin cfg0.N) (r : Fin 512) (d : Fin 1024) (j : Fin 16384) (e : Fin 1024)
    (hj : j.val = t.val * 512 + r.val) (he : e = d) :
    k0_pay1 (F := Ideal) (iblk m c 0 t) (iblk m c 1 t) (iblk m c 0 t) (iblk m c 2 t) (iblk m c 3 t) (iblk m c 4 t) (ix2 r d)
      = outAt (m ((c : Thread nD τ).loc main_arg0)) (m ((c : Thread nD τ).loc main_arg1))
          (m ((c : Thread nD τ).loc main_arg2)) (m ((c : Thread nD τ).loc main_arg3)) j e := by
  subst he
  have hx : (fun k : Fin 1024 => iblk m c 0 t (ix2 r k)) = fun k => m ((c : Thread nD τ).loc main_arg0) (ix2 j k) :=
    funext fun k => rows m c t r k j hj
  have hg : (fun k : Fin 1024 => iblk m c 1 t (ix2 0 k)) = fun k => m ((c : Thread nD τ).loc main_arg1) (ix1 k) :=
    funext fun k => gain m c t k
  have ha : ∀ f : Fin 2816, (fun k : Fin 1024 => iblk m c 2 t (ix2 k f))
      = fun k => m ((c : Thread nD τ).loc main_arg2) (ix2 k ⟨f.val, by omega⟩) := fun f => funext fun k => wgate m c t k f
  have hb : ∀ f : Fin 2816, (fun k : Fin 1024 => iblk m c 3 t (ix2 k f))
      = fun k => m ((c : Thread nD τ).loc main_arg2) (ix2 k ⟨2816 + f.val, by omega⟩) := fun f => funext fun k => wup m c t k f
  have hw : (fun f : Fin 2816 => iblk m c 4 t (ix2 f e)) = fun f => m ((c : Thread nD τ).loc main_arg3) (ix2 f e) :=
    funext fun f => wdown m c t f e
  refine (pay_at _ _ _ _ _ _ r e).trans ?_
  unfold outAt
  rw [hx, hg, hw, rows m c t r e j hj]
  refine congrArg₂ (fun a b : EReal => a + b) rfl (congrArg (fun z => dot z _) (funext fun f => ?_))
  rw [ha f, hb f]

/-- THE RESULT ARRAY of a run: `out` of the arguments. -/
theorem final (c : Dev nD) : (dats m 0 c).arrAt 5 cfg0.N
    = out (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  frame_out
  refine (congrArg _ (eq_ix2 y)).trans (tile m c t (y 0) (y 1) _ _ ?_ ?_)
  · blk_simp [idx t] <;> try omega
  · refine Fin.ext ?_; blk_simp [idx t] <;> try omega

end Cert.FfnIdeal.Blk

end
-- ==== Proof.FfnEq.lean ====
/- The dense feed-forward call: its reference read at an index, and the two arrays equal. -/
module

public import proofs.«01_k».proof.Proof.Gen.FfnRefIdeal.Read
public import proofs.«01_k».proof.Proof.FfnBlock

@[expose] public section

set_option maxRecDepth 16384

noncomputable section

namespace Cert.FfnRefIdeal.Rd

open Cert.FfnRefIdeal Cert.FfnRefIdeal.Gen Cert.FfnRefIdeal.Read Idealize.ShloMosaic Idealize.ShloMosaic.TcCoe
open Cert.Dense

variable (x : FVec Ideal S16384x1024 .f32) (g : FVec Ideal S1024 .f32) (wgu : FVec Ideal S1024x5632 .f32)
    (wd : FVec Ideal S2816x1024 .f32)

/-- The norm of the rows. -/
theorem norm_at (r : Fin 16384) (d : Fin 1024) : val_main_v12 (F := Ideal) x g (ix2 r d)
    = rms c1024 (fun k : Fin 1024 => x (ix2 r k)) (fun k => g (ix1 k)) d := by
  pointwise [val_main_v12, val_main_v11, val_main_v10, val_main_v9, val_main_v8, val_main_v7, val_main_v6,
    val_main_v5, val_main_v4, val_main_v3, val_main_v2, val_main_v1, val_main_v0, val_main_cst, val_main_cst_0,
    val_main_cst_1]
  rfl

/-- The product with the joined weight. -/
theorem joined_at (r : Fin 16384) (f : Fin 5632) : val_main_v13 (F := Ideal) x g wgu (ix2 r f)
    = dot (rms c1024 (fun k : Fin 1024 => x (ix2 r k)) (fun k => g (ix1 k))) (fun k => wgu (ix2 k f)) := by
  pointwise [val_main_v13]
  exact Finset.sum_congr rfl fun k _ => congrArg (· * _) (norm_at x g r k)

/-- The logistic function as the reference spells it. -/
theorem gate_at (r : Fin 16384) (f : Fin 2816) : val_main_call0_v5 (F := Ideal) x g wgu (ix2 r f)
    = Ideal.logistic (val_main_v14 (F := Ideal) x g wgu (ix2 r f)) := by
  pointwise [val_main_call0_v5, val_main_call0_v4, val_main_call0_v3, val_main_call0_v2, val_main_call0_v1,
    val_main_call0_v0, val_main_call0_cst, val_main_call0_cst_0]
  rfl

/-- The left half of the product. -/
theorem left_at (r : Fin 16384) (f : Fin 2816) : val_main_v14 (F := Ideal) x g wgu (ix2 r f)
    = dot (rms c1024 (fun k : Fin 1024 => x (ix2 r k)) (fun k => g (ix1 k))) (fun k => wgu (ix2 k ⟨f.val, by omega⟩)) := by
  refine Eq.trans ?_ (joined_at x g wgu r ⟨f.val, by omega⟩)
  pointwise [val_main_v14]

/-- The right half of the product. -/
theorem right_at (r : Fin 16384) (f : Fin 2816) : val_main_v15 (F := Ideal) x g wgu (ix2 r f)
    = dot (rms c1024 (fun k : Fin 1024 => x (ix2 r k)) (fun k => g (ix1 k))) (fun k => wgu (ix2 k ⟨2816 + f.val, by omega⟩)) := by
  refine Eq.trans ?_ (joined_at x g wgu r ⟨2816 + f.val, by omega⟩)
  pointwise [val_main_v15]

/-- The gated product. -/
theorem hidden_at (r : Fin 16384) (f : Fin 2816) : val_main_v17 (F := Ideal) x g wgu (ix2 r f)
    = silu (dot (rms c1024 (fun k : Fin 1024 => x (ix2 r k)) (fun k => g (ix1 k))) (fun k => wgu (ix2 k ⟨f.val, by omega⟩)))
      * dot (rms c1024 (fun k : Fin 1024 => x (ix2 r k)) (fun k => g (ix1 k))) (fun k => wgu (ix2 k ⟨2816 + f.val, by omega⟩)) := by
  pointwise [val_main_v17, val_main_v16]
  rw [gate_at, left_at, right_at]
  rfl

/-- The reference's result is the kernel's. -/
theorem result : val_main_v19 (F := Ideal) x g wgu wd = Cert.FfnIdeal.Blk.out x g wgu wd := by
  funext j
  rw [eq_ix2 j]
  generalize j 0 = r
  generalize j 1 = d
  show _ = Cert.FfnIdeal.Blk.outAt x g wgu wd r d
  pointwise [val_main_v19, val_main_v18]
  exact congrArg (x (ix2 r d) + ·) (Finset.sum_congr rfl fun f _ => congrArg (· * _) (hidden_at x g wgu r f))

end Cert.FfnRefIdeal.Rd

end
-- ==== Proof.ProjBlock.lean ====
/- The input projection of the delta rule layer: what a block of rows stores in its two results, and from it the whole arrays. -/
module

public import proofs.«01_k».proof.Proof.Gen.ProjIdeal.Frame
public import proofs.«01_k».proof.Proof.Dense
public import Idealize.ShloMosaic.Lib.Pipeline.ValueKit
public import Idealize.ShloMosaic.Lib.Claim

@[expose] public section

set_option maxRecDepth 16384

noncomputable section

namespace Cert.ProjIdeal.Blk

open Cert.ProjIdeal Cert.ProjIdeal.Gen Idealize.ShloMosaic Idealize.ShloMosaic.TcCoe Idealize.SL.Sem
open Idealize.ShloMosaic.Pipeline (Dat)
open Cert.Dense

/-- The product of the norm of row `r` with column `d` of the weight. -/
def prodAt (x : FVec Ideal S16384x1024 .f32) (g : FVec Ideal S1024 .f32) (w : FVec Ideal S1024x4112 .f32)
    (r : Fin 16384) (d : Fin 4112) : EReal :=
  dot (rms c1024 (fun k : Fin 1024 => x (ix2 r k)) (fun k => g (ix1 k))) (fun k => w (ix2 k d))

/-- The first result: the first 4096 columns of the product. -/
def out (x : FVec Ideal S16384x1024 .f32) (g : FVec Ideal S1024 .f32) (w : FVec Ideal S1024x4112 .f32) :
    FVec Ideal S16384x4096 .f32 := fun j => prodAt x g w (j 0) ⟨(j 1).val, lt_trans (j 1).isLt (by decide)⟩

/-- The second result at row `r`, column `d`: the last sixteen columns of the product, and zeros behind them. -/
def auxAt (x : FVec Ideal S16384x1024 .f32) (g : FVec Ideal S1024 .f32) (w : FVec Ideal S1024x4112 .f32)
    (r : Fin 16384) (d : Fin 128) : EReal :=
  if h : d.val < 16 then prodAt x g w r ⟨4096 + d.val, by omega⟩ else 0

/-- The second result. -/
def aux (x : FVec Ideal S16384x1024 .f32) (g : FVec Ideal S1024 .f32) (w : FVec Ideal S1024x4112 .f32) :
    FVec Ideal S16384x128 .f32 := fun j => auxAt x g w (j 0) (j 1)

/-- The convolution's window: the first 3072 columns of the product at the last three positions of every batch row. -/
def conv (x : FVec Ideal S16384x1024 .f32) (g : FVec Ideal S1024 .f32) (w : FVec Ideal S1024x4112 .f32) :
    FVec Ideal S4x3x3072 .f32 := fun j =>
  prodAt x g w ⟨(j 0).val * 4096 + (4093 + (j 1).val), by have h : (j 0).val < 4 := (j 0).isLt; have h' : (j 1).val < 3 := (j 1).isLt; omega⟩
    ⟨(j 2).val, lt_trans (j 2).isLt (by decide)⟩

/-- The window is the last positions of the first result. -/
theorem conv_eq (x : FVec Ideal S16384x1024 .f32) (g : FVec Ideal S1024 .f32) (w : FVec Ideal S1024x4112 .f32) :
    extractStridedSlice S4x3x3072 ![0, 4093, 0]
      (shapeCast S4x4096x4096 (out x g w) shapeCasts_S16384x4096_S4x4096x4096) slices_S4x4096x4096_S4x3x3072_0_4093_0
      = conv x g w := by
  funext j
  rw [eq_ix3 j]
  generalize j 0 = b
  generalize j 1 = r
  generalize j 2 = d
  have hb : b.val < 4 := b.isLt
  have hr : r.val < 3 := r.isLt
  have hd : d.val < 3072 := d.isLt
  refine Eq.trans ?_ (show out x g w (ix2 ⟨b.val * 4096 + (4093 + r.val), by omega⟩ ⟨d.val, by omega⟩)
    = conv x g w (ix3 b r d) from rfl)
  generalize out x g w = y
  pointwise

/-- One block's stored value at an index, in the first result. -/
theorem pay_at (x : FVec Ideal S512x1024 .f32) (g : FVec Ideal S1x1024 .f32) (w : FVec Ideal S1024x4096 .bf16)
    (r : Fin 512) (d : Fin 4096) :
    k0_pay3 (F := Ideal) w (k0_pay1 (F := Ideal) x g) (ix2 r d)
      = dot (rms c1024 (fun k : Fin 1024 => x (ix2 r k)) (fun k => g (ix2 0 k))) (fun k => w (ix2 k d)) := by
  pointwise [k0_pay3, k0_pay1]
  rfl

/-- One block's stored value at an index, in the second result. -/
theorem aux_at (x : FVec Ideal S512x1024 .f32) (g : FVec Ideal S1x1024 .f32) (w : FVec Ideal S1024x128 .bf16)
    (r : Fin 512) (d : Fin 128) :
    k0_pay2 (F := Ideal) w (k0_pay1 (F := Ideal) x g) (ix2 r d)
      = dot (rms c1024 (fun k : Fin 1024 => x (ix2 r k)) (fun k => g (ix2 0 k))) (fun k => w (ix2 k d)) := by
  pointwise [k0_pay2, k0_pay1]
  rfl

variable (m : (ℓ : Loc nD τ sig) → Buf (Elt Ideal) ℓ)

/-- Where every window's block sits, at every point of the grid. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] :=
  (by decide +kernel : ∀ t : Fin grid0.N, _)

/-- The staged rows are the argument's rows. -/
theorem rows (c : Dev nD) (t : Fin cfg0.N) (r : Fin 512) (d : Fin 1024) (j : Fin 16384) (hj : j.val = t.val * 512 + r.val) :
    iblk m c 0 t (ix2 r d) = m ((c : Thread nD τ).loc main_arg0) (ix2 j d) := by
  unfold iblk
  simp only [V, V0, hostOps0, hostOps0_1, hostOps0_2, List.flatten_cons, List.flatten_nil, List.append_nil, List.cons_append, List.nil_append]
  entry_read
  blk_ext [idx t]

/-- The staged gain is the argument. -/
theorem gain (c : Dev nD) (t : Fin cfg0.N) (d : Fin 1024) :
    iblk m c 1 t (ix2 0 d) = m ((c : Thread nD τ).loc main_arg1) (ix1 d) := by
  unfold iblk
  simp only [V, V0, hostOps0, hostOps0_1, hostOps0_2, List.flatten_cons, List.flatten_nil, List.append_nil, List.cons_append, List.nil_append]
  entry_read
  blk_simp
  pointwise
  blk_ext [idx t]

/-- The staged weight is the first 4096 columns of the argument. -/
theorem weight (c : Dev nD) (t : Fin cfg0.N) (r : Fin 1024) (d : Fin 4096) :
    iblk m c 2 t (ix2 r d) = m ((c : Thread nD τ).loc main_arg2) (ix2 r ⟨d.val, by omega⟩) := by
  unfold iblk
  simp only [V, V0, hostOps0, hostOps0_1, hostOps0_2, List.flatten_cons, List.flatten_nil, List.append_nil, List.cons_append, List.nil_append]
  entry_read
  blk_simp
  pointwise
  blk_ext [idx t]

/-- The staged second weight is the last sixteen columns, padded with zeros. -/
theorem waux (c : Dev nD) (t : Fin cfg0.N) (r : Fin 1024) (d : Fin 128) :
    iblk m c 3 t (ix2 r d)
      = @dite EReal (d.val < 16) _ (fun h => m ((c : Thread nD τ).loc main_arg2) (ix2 r ⟨4096 + d.val, by omega⟩)) (fun _ => 0) := by
  unfold iblk
  simp only [V, V0, hostOps0, hostOps0_1, hostOps0_2, List.flatten_cons, List.flatten_nil, List.append_nil, List.cons_append, List.nil_append]
  entry_read
  show (pad S1024x128 ![0, 0] ![0, 112] ![0, 0] (extractStridedSlice S1024x16 ![0, 4096]
      (m ((c : Thread nD τ).loc main_arg2) : FVec Ideal S1024x4112 .f32) slices_S1024x4112_S1024x16_0_4096)
      (sitofp (F := Ideal) .f32 (constantI S_ 32 0#32)) pads_S1024x16_S1024x128_000_01120 h_S_ : FVec Ideal S1024x128 .f32)
      ((win0_3.blk t).view.emb (ix2 r d)) = _
  have he : (win0_3.blk t).view.emb (ix2 r d) = (ix2 r d : S1024x128.Idx) := by
    funext a
    match a with
    | ⟨0, _⟩ => exact Fin.ext (by blk_simp [idx t])
    | ⟨1, _⟩ => exact Fin.ext (by blk_simp [idx t])
  rw [he]
  pointwise
  rw [sitofp_zero]

/-- A block's first stored value is the result at the place where the block sits. -/
theorem tile (c : Dev nD) (t : Fin cfg0.N) (r : Fin 512) (d : Fin 4096) (j : Fin 16384) (e : Fin 4112)
    (hj : j.val = t.val * 512 + r.val) (he : e.val = d.val) :
    k0_pay3 (F := Ideal) (iblk m c 2 t) (k0_pay1 (F := Ideal) (iblk m c 0 t) (iblk m c 1 t)) (ix2 r d)
      = prodAt (m ((c : Thread nD τ).loc main_arg0)) (m ((c : Thread nD τ).loc main_arg1)) (m ((c : Thread nD τ).loc main_arg2)) j e := by
  have hx : (fun k : Fin 1024 => iblk m c 0 t (ix2 r k)) = fun k => m ((c : Thread nD τ).loc main_arg0) (ix2 j k) :=
    funext fun k => rows m c t r k j hj
  have hg : (fun k : Fin 1024 => iblk m c 1 t (ix2 0 k)) = fun k => m ((c : Thread nD τ).loc main_arg1) (ix1 k) :=
    funext fun k => gain m c t k
  have he' : e = ⟨d.val, by omega⟩ := Fin.ext he
  have hw : (fun k : Fin 1024 => iblk m c 2 t (ix2 k d)) = fun k => m ((c : Thread nD τ).loc main_arg2) (ix2 k e) :=
    funext fun k => by rw [he']; exact weight m c t k d
  refine (pay_at _ _ _ r d).trans ?_
  unfold prodAt
  rw [hx, hg, hw]

/-- A block's second stored value is the second result at the place where the block sits. -/
theorem tile2 (c : Dev nD) (t : Fin cfg0.N) (r : Fin 512) (d : Fin 128) (j : Fin 16384) (e : Fin 128)
    (hj : j.val = t.val * 512 + r.val) (he : e = d) :
    k0_pay2 (F := Ideal) (iblk m c 3 t) (k0_pay1 (F := Ideal) (iblk m c 0 t) (iblk m c 1 t)) (ix2 r d)
      = auxAt (m ((c : Thread nD τ).loc main_arg0)) (m ((c : Thread nD τ).loc main_arg1)) (m ((c : Thread nD τ).loc main_arg2)) j e := by
  subst he
  have hx : (fun k : Fin 1024 => iblk m c 0 t (ix2 r k)) = fun k => m ((c : Thread nD τ).loc main_arg0) (ix2 j k) :=
    funext fun k => rows m c t r k j hj
  have hg : (fun k : Fin 1024 => iblk m c 1 t (ix2 0 k)) = fun k => m ((c : Thread nD τ).loc main_arg1) (ix1 k) :=
    funext fun k => gain m c t k
  refine (aux_at _ _ _ r e).trans ?_
  unfold auxAt
  split
  · rename_i h
    have hw : (fun k : Fin 1024 => iblk m c 3 t (ix2 k e))
        = fun k => m ((c : Thread nD τ).loc main_arg2) (ix2 k ⟨4096 + e.val, by omega⟩) :=
      funext fun k => (waux m c t k e).trans (dif_pos h)
    unfold prodAt
    rw [hx, hg, hw]
  · rename_i h
    have hw : (fun k : Fin 1024 => iblk m c 3 t (ix2 k e)) = fun _ => (0 : EReal) :=
      funext fun k => (waux m c t k e).trans (dif_neg h)
    rw [hw]
    exact Finset.sum_eq_zero fun k _ => mul_zero _

/-- THE RESULT ARRAY of a run: `out` of the arguments. -/
theorem final (c : Dev nD) : (dats m 0 c).arrAt 4 cfg0.N
    = out (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold outsAt0
  frame_out
  refine (congrArg _ (eq_ix2 y)).trans (tile m c t (y 0) (y 1) _ _ ?_ ?_)
  · blk_simp [idx t] <;> try omega
  · blk_simp [idx t] <;> try omega

/-- THE RESULT ARRAY of a run: `aux` of the arguments. -/
theorem final2 (c : Dev nD) : (dats m 0 c).arrAt 5 cfg0.N
    = aux (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold outsAt0
  frame_out
  refine (congrArg _ (eq_ix2 y)).trans (tile2 m c t (y 0) (y 1) _ _ ?_ ?_)
  · blk_simp [idx t] <;> try omega
  · refine Fin.ext ?_; blk_simp [idx t] <;> try omega

/-- What the lines after the kernel leave in the last buffer: the convolution's window of the arguments. -/
theorem tail (c : Dev nD) : Pipeline.afterTail₀ cfgs (dats m) 0 (V0 m) [hostOps1] c main_v8
    = conv (m ((c : Thread nD τ).loc main_arg0)) (m ((c : Thread nD τ).loc main_arg1)) (m ((c : Thread nD τ).loc main_arg2)) := by
  refine Eq.trans ?_ (conv_eq _ _ _)
  rw [← final m c, ← Pipeline.withArrays_arr spec0 launch0.win.arr_inj c (V0 m c) (fun w => (dats m 0 c).arrAt w cfg0.N) 4]
  unfold Pipeline.afterTail₀
  simp only [hostOps1, List.flatten_cons, List.flatten_nil, List.append_nil]
  after_results
  rfl

/-- A run ends with the three result arrays, and keeps its arguments. -/
theorem run (ρ : Dev nD → PrngReg) : θ_run (defs (F := Ideal)) (onTc (τ := τ) (main (F := Ideal))) (s₀ m ρ) (fun r => ∀ c : Dev nD,
    r.2.mem ((c : Thread nD τ).loc main_v6_0)
      = out (m ((c : Thread nD τ).loc main_arg0)) (m ((c : Thread nD τ).loc main_arg1)) (m ((c : Thread nD τ).loc main_arg2))
    ∧ r.2.mem ((c : Thread nD τ).loc main_v6_1)
      = aux (m ((c : Thread nD τ).loc main_arg0)) (m ((c : Thread nD τ).loc main_arg1)) (m ((c : Thread nD τ).loc main_arg2))
    ∧ r.2.mem ((c : Thread nD τ).loc main_v8)
      = conv (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) :=
  (θ_run _ _ _).mono (fun _ h c =>
    ⟨((h c).1 4).trans (final m c),
     ((h c).1 5).trans (final2 m c),
     ((h c).2 main_v8 (Pipeline.mem_restRefs_of main_v8 (by decide) (by decide))).trans (tail m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main (F := Ideal) m ρ)

end Cert.ProjIdeal.Blk

end
-- ==== Proof.ProjEq.lean ====
/- The input projection of the delta rule layer: its reference read at an index, and the two pairs of arrays equal. -/
module

public import proofs.«01_k».proof.Proof.Gen.ProjRefIdeal.Read
public import proofs.«01_k».proof.Proof.ProjBlock

@[expose] public section

set_option maxRecDepth 16384

noncomputable section

namespace Cert.ProjRefIdeal.Rd

open Cert.ProjRefIdeal Cert.ProjRefIdeal.Gen Cert.ProjRefIdeal.Read Idealize.ShloMosaic Idealize.ShloMosaic.TcCoe
open Cert.Dense
open Cert.ProjIdeal.Blk (prodAt auxAt)

variable (x : FVec Ideal S16384x1024 .f32) (g : FVec Ideal S1024 .f32) (w : FVec Ideal S1024x4112 .f32)

/-- The norm of the rows. -/
theorem norm_at (r : Fin 16384) (d : Fin 1024) : val_main_v12 (F := Ideal) x g (ix2 r d)
    = rms c1024 (fun k : Fin 1024 => x (ix2 r k)) (fun k => g (ix1 k)) d := by
  pointwise [val_main_v12, val_main_v11, val_main_v10, val_main_v9, val_main_v8, val_main_v7, val_main_v6,
    val_main_v5, val_main_v4, val_main_v3, val_main_v2, val_main_v1, val_main_v0, val_main_cst, val_main_cst_0,
    val_main_cst_1]
  rfl

/-- The product. -/
theorem prod_at (r : Fin 16384) (d : Fin 4112) : val_main_v13 (F := Ideal) x g w (ix2 r d) = prodAt x g w r d := by
  pointwise [val_main_v13]
  exact Finset.sum_congr rfl fun k _ => congrArg (· * _) (norm_at x g r k)

/-- The reference's first result is the kernel's. -/
theorem result : val_main_v18 (F := Ideal) x g w = Cert.ProjIdeal.Blk.out x g w := by
  funext j
  rw [eq_ix2 j]
  generalize j 0 = r
  generalize hd : j 1 = d
  refine Eq.trans ?_ (prod_at x g w r ⟨d.val, lt_trans d.isLt (by decide)⟩)
  pointwise [val_main_v18]

/-- The reference's second result is the kernel's. -/
theorem result2 : val_main_v15 (F := Ideal) x g w = Cert.ProjIdeal.Blk.aux x g w := by
  funext j
  rw [eq_ix2 j]
  generalize j 0 = r
  generalize hd : j 1 = d
  show _ = auxAt x g w r d
  unfold auxAt
  pointwise [val_main_v15, val_main_v14, val_main_call0_v0, val_main_c]
  rw [sitofp_zero]
  split
  · rename_i h
    exact prod_at x g w r ⟨4096 + d.val, by omega⟩
  · rfl

/-- The reference's third result is the kernel's. -/
theorem result3 : val_main_v19 (F := Ideal) x g w = Cert.ProjIdeal.Blk.conv x g w := by
  funext j
  rw [eq_ix3 j]
  generalize j 0 = b
  generalize j 1 = r
  generalize j 2 = d
  have hb : b.val < 4 := b.isLt
  have hr : r.val < 3 := r.isLt
  have hd : d.val < 3072 := d.isLt
  refine Eq.trans ?_ (prod_at x g w ⟨b.val * 4096 + (4093 + r.val), by omega⟩ ⟨d.val, by omega⟩)
  unfold val_main_v19 val_main_v17 val_main_v16
  generalize val_main_v13 (F := Ideal) x g w = y
  pointwise

end Cert.ProjRefIdeal.Rd

end
-- ==== Proof.QueryBlock.lean ====
/- The query projection: what a block of rows stores, and from it the whole result array. -/
module

public import proofs.«01_k».proof.Proof.Gen.QueryIdeal.Value
public import proofs.«01_k».proof.Proof.Dense
public import Idealize.ShloMosaic.Lib.Pipeline.ValueKit
public import Idealize.ShloMosaic.Lib.Claim

@[expose] public section

set_option maxRecDepth 16384

noncomputable section

namespace Cert.QueryIdeal.Blk

open Cert.QueryIdeal Cert.QueryIdeal.Gen Idealize.ShloMosaic Idealize.ShloMosaic.TcCoe Idealize.SL.Sem
open Idealize.ShloMosaic.Pipeline (Dat)
open Cert.Dense

/-- The result at row `r`, column `d`: the norm of the row times the weight's column. -/
def outAt (x : FVec Ideal S16384x1024 .f32) (g : FVec Ideal S1024 .f32) (w : FVec Ideal S1024x1024 .f32)
    (r : Fin 16384) (d : Fin 1024) : EReal :=
  dot (rms c1024 (fun k : Fin 1024 => x (ix2 r k)) (fun k => g (ix1 k))) (fun k => w (ix2 k d))

/-- The result array. -/
def out (x : FVec Ideal S16384x1024 .f32) (g : FVec Ideal S1024 .f32) (w : FVec Ideal S1024x1024 .f32) :
    FVec Ideal S16384x1024 .bf16 := fun j => outAt x g w (j 0) (j 1)

/-- One block's stored value at an index. -/
theorem pay_at (x : FVec Ideal S1024x1024 .f32) (g : FVec Ideal S1x1024 .f32) (w : FVec Ideal S1024x1024 .bf16)
    (r : Fin 1024) (d : Fin 1024) :
    k0_pay2 (F := Ideal) w (k0_pay1 (F := Ideal) x g) (ix2 r d)
      = dot (rms c1024 (fun k : Fin 1024 => x (ix2 r k)) (fun k => g (ix2 0 k))) (fun k => w (ix2 k d)) := by
  pointwise [k0_pay2, k0_pay1]
  rfl

variable (m : (ℓ : Loc nD τ sig) → Buf (Elt Ideal) ℓ)

/-- Where every window's block sits, at every point of the grid. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The staged rows are the argument's rows. -/
theorem rows (c : Dev nD) (t : Fin cfg0.N) (r : Fin 1024) (d : Fin 1024) (j : Fin 16384) (hj : j.val = t.val * 1024 + r.val) :
    iblk m c 0 t (ix2 r d) = m ((c : Thread nD τ).loc main_arg0) (ix2 j d) := by
  unfold iblk
  entry_read
  blk_ext [idx t]

/-- The staged gain is the argument. -/
theorem gain (c : Dev nD) (t : Fin cfg0.N) (d : Fin 1024) :
    iblk m c 1 t (ix2 0 d) = m ((c : Thread nD τ).loc main_arg1) (ix1 d) := by
  unfold iblk
  entry_read
  blk_simp
  pointwise
  blk_ext [idx t]

/-- The staged weight is the argument. -/
theorem weight (c : Dev nD) (t : Fin cfg0.N) (r : Fin 1024) (d : Fin 1024) :
    iblk m c 2 t (ix2 r d) = m ((c : Thread nD τ).loc main_arg2) (ix2 r d) := by
  unfold iblk
  entry_read
  blk_simp
  pointwise
  blk_ext [idx t]

/-- A block's stored value is the result at the place where the block sits. -/
theorem tile (c : Dev nD) (t : Fin cfg0.N) (r : Fin 1024) (d : Fin 1024) (j : Fin 16384) (e : Fin 1024)
    (hj : j.val = t.val * 1024 + r.val) (he : e = d) :
    k0_pay2 (F := Ideal) (iblk m c 2 t) (k0_pay1 (F := Ideal) (iblk m c 0 t) (iblk m c 1 t)) (ix2 r d)
      = outAt (m ((c : Thread nD τ).loc main_arg0)) (m ((c : Thread nD τ).loc main_arg1)) (m ((c : Thread nD τ).loc main_arg2)) j e := by
  subst he
  have hx : (fun k : Fin 1024 => iblk m c 0 t (ix2 r k)) = fun k => m ((c : Thread nD τ).loc main_arg0) (ix2 j k) :=
    funext fun k => rows m c t r k j hj
  have hg : (fun k : Fin 1024 => iblk m c 1 t (ix2 0 k)) = fun k => m ((c : Thread nD τ).loc main_arg1) (ix1 k) :=
    funext fun k => gain m c t k
  have hw : (fun k : Fin 1024 => iblk m c 2 t (ix2 k e)) = fun k => m ((c : Thread nD τ).loc main_arg2) (ix2 k e) :=
    funext fun k => weight m c t k e
  refine (pay_at _ _ _ r e).trans ?_
  unfold outAt
  rw [hx, hg, hw]

/-- THE RESULT ARRAY of a run: `out` of the arguments. -/
theorem final (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  refine (congrArg _ (eq_ix2 y)).trans (tile m c t (y 0) (y 1) _ _ ?_ ?_)
  · blk_simp [idx t] <;> try omega
  · refine Fin.ext ?_; blk_simp [idx t] <;> try omega

end Cert.QueryIdeal.Blk

end
-- ==== Proof.QueryEq.lean ====
/- The query projection: its reference read at an index, and the two arrays equal. -/
module

public import proofs.«01_k».proof.Proof.Gen.QueryRefIdeal.Read
public import proofs.«01_k».proof.Proof.QueryBlock

@[expose] public section

set_option maxRecDepth 16384

noncomputable section

namespace Cert.QueryRefIdeal.Rd

open Cert.QueryRefIdeal Cert.QueryRefIdeal.Gen Cert.QueryRefIdeal.Read Idealize.ShloMosaic Idealize.ShloMosaic.TcCoe
open Cert.Dense

variable (x : FVec Ideal S16384x1024 .f32) (g : FVec Ideal S1024 .f32) (w : FVec Ideal S1024x1024 .f32)

/-- The norm of the rows. -/
theorem norm_at (r : Fin 16384) (d : Fin 1024) : val_main_v12 (F := Ideal) x g (ix2 r d)
    = rms c1024 (fun k : Fin 1024 => x (ix2 r k)) (fun k => g (ix1 k)) d := by
  pointwise [val_main_v12, val_main_v11, val_main_v10, val_main_v9, val_main_v8, val_main_v7, val_main_v6,
    val_main_v5, val_main_v4, val_main_v3, val_main_v2, val_main_v1, val_main_v0, val_main_cst, val_main_cst_0,
    val_main_cst_1]
  rfl

/-- The reference's result is the kernel's. -/
theorem result : val_main_v14 (F := Ideal) x g w = Cert.QueryIdeal.Blk.out x g w := by
  funext j
  rw [eq_ix2 j]
  generalize j 0 = r
  generalize j 1 = d
  show _ = Cert.QueryIdeal.Blk.outAt x g w r d
  pointwise [val_main_v14, val_main_v13]
  exact Finset.sum_congr rfl fun k _ => congrArg (· * _) (norm_at x g r k)

end Cert.QueryRefIdeal.Rd

end
-- ==== Proof.AttOutBlock.lean ====
/- The output projection of attention: what a block of rows stores, and from it the whole result array. -/
module

public import proofs.«01_k».proof.Proof.Gen.AttOutIdeal.Value
public import proofs.«01_k».proof.Proof.Dense
public import Idealize.ShloMosaic.Lib.Pipeline.ValueKit
public import Idealize.ShloMosaic.Lib.Claim

@[expose] public section

set_option maxRecDepth 16384

noncomputable section

namespace Cert.AttOutIdeal.Blk

open Cert.AttOutIdeal Cert.AttOutIdeal.Gen Idealize.ShloMosaic Idealize.ShloMosaic.TcCoe Idealize.SL.Sem
open Idealize.ShloMosaic.Pipeline (Dat)
open Cert.Dense

/-- The result at row `r`, column `d`: the row of `o` times the weight's column, added to `x`. -/
def outAt (o : FVec Ideal S16384x1024 .bf16) (w : FVec Ideal S1024x1024 .f32) (x : FVec Ideal S16384x1024 .f32)
    (r : Fin 16384) (d : Fin 1024) : EReal :=
  x (ix2 r d) + dot (fun k : Fin 1024 => o (ix2 r k)) (fun k => w (ix2 k d))

/-- The result array. -/
def out (o : FVec Ideal S16384x1024 .bf16) (w : FVec Ideal S1024x1024 .f32) (x : FVec Ideal S16384x1024 .f32) :
    FVec Ideal S16384x1024 .f32 := fun j => outAt o w x (j 0) (j 1)

/-- One block's stored value at an index. -/
theorem pay_at (o : FVec Ideal S1024x1024 .bf16) (w : FVec Ideal S1024x1024 .bf16) (x : FVec Ideal S1024x1024 .f32)
    (r : Fin 1024) (d : Fin 1024) :
    k0_pay2 (F := Ideal) w (k0_pay1 (F := Ideal) o) x (ix2 r d)
      = x (ix2 r d) + dot (fun k : Fin 1024 => o (ix2 r k)) (fun k => w (ix2 k d)) := by
  pointwise [k0_pay2, k0_pay1]
  exact add_comm _ _

variable (m : (ℓ : Loc nD τ sig) → Buf (Elt Ideal) ℓ)

/-- Where every window's block sits, at every point of the grid. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The staged rows are the argument's rows. -/
theorem rows (c : Dev nD) (t : Fin cfg0.N) (r : Fin 1024) (d : Fin 1024) (j : Fin 16384) (hj : j.val = t.val * 1024 + r.val) :
    iblk m c 0 t (ix2 r d) = m ((c : Thread nD τ).loc main_arg0) (ix2 j d) := by
  unfold iblk
  entry_read
  blk_ext [idx t]

/-- The staged rows of the residual. -/
theorem resid (c : Dev nD) (t : Fin cfg0.N) (r : Fin 1024) (d : Fin 1024) (j : Fin 16384) (hj : j.val = t.val * 1024 + r.val) :
    iblk m c 2 t (ix2 r d) = m ((c : Thread nD τ).loc main_arg2) (ix2 j d) := by
  unfold iblk
  entry_read
  blk_ext [idx t]

/-- The staged weight is the argument. -/
theorem weight (c : Dev nD) (t : Fin cfg0.N) (r : Fin 1024) (d : Fin 1024) :
    iblk m c 1 t (ix2 r d) = m ((c : Thread nD τ).loc main_arg1) (ix2 r d) := by
  unfold iblk
  entry_read
  blk_simp
  pointwise
  blk_ext [idx t]

/-- A block's stored value is the result at the place where the block sits. -/
theorem tile (c : Dev nD) (t : Fin cfg0.N) (r : Fin 1024) (d : Fin 1024) (j : Fin 16384) (e : Fin 1024)
    (hj : j.val = t.val * 1024 + r.val) (he : e = d) :
    k0_pay2 (F := Ideal) (iblk m c 1 t) (k0_pay1 (F := Ideal) (iblk m c 0 t)) (iblk m c 2 t) (ix2 r d)
      = outAt (m ((c : Thread nD τ).loc main_arg0)) (m ((c : Thread nD τ).loc main_arg1)) (m ((c : Thread nD τ).loc main_arg2)) j e := by
  subst he
  have hx : (fun k : Fin 1024 => iblk m c 0 t (ix2 r k)) = fun k => m ((c : Thread nD τ).loc main_arg0) (ix2 j k) :=
    funext fun k => rows m c t r k j hj
  have hw : (fun k : Fin 1024 => iblk m c 1 t (ix2 k e)) = fun k => m ((c : Thread nD τ).loc main_arg1) (ix2 k e) :=
    funext fun k => weight m c t k e
  refine (pay_at _ _ _ r e).trans ?_
  unfold outAt
  rw [hx, hw, resid m c t r e j hj]

/-- THE RESULT ARRAY of a run: `out` of the arguments. -/
theorem final (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  refine (congrArg _ (eq_ix2 y)).trans (tile m c t (y 0) (y 1) _ _ ?_ ?_)
  · blk_simp [idx t] <;> try omega
  · refine Fin.ext ?_; blk_simp [idx t] <;> try omega

end Cert.AttOutIdeal.Blk

end
-- ==== Proof.AttOutEq.lean ====
/- The output projection of attention: its reference read at an index, and the two arrays equal. -/
module

public import proofs.«01_k».proof.Proof.Gen.AttOutRefIdeal.Read
public import proofs.«01_k».proof.Proof.AttOutBlock

@[expose] public section

set_option maxRecDepth 16384

noncomputable section

namespace Cert.AttOutRefIdeal.Rd

open Cert.AttOutRefIdeal Cert.AttOutRefIdeal.Gen Cert.AttOutRefIdeal.Read Idealize.ShloMosaic Idealize.ShloMosaic.TcCoe
open Cert.Dense

variable (o : FVec Ideal S16384x1024 .bf16) (w : FVec Ideal S1024x1024 .f32) (x : FVec Ideal S16384x1024 .f32)

/-- The reference's result is the kernel's. -/
theorem result : val_main_v2 (F := Ideal) o w x = Cert.AttOutIdeal.Blk.out o w x := by
  funext j
  rw [eq_ix2 j]
  generalize j 0 = r
  generalize j 1 = d
  show _ = Cert.AttOutIdeal.Blk.outAt o w x r d
  pointwise [val_main_v2, val_main_v1, val_main_v0]
  rfl

end Cert.AttOutRefIdeal.Rd

end
-- ==== Proof.GdnOutBlock.lean ====
/- The gated output projection of the delta rule layer: what a block of rows stores, and from it the whole result array. -/
module

public import proofs.«01_k».proof.Proof.Gen.GdnOutIdeal.Value
public import proofs.«01_k».proof.Proof.Dense
public import Idealize.ShloMosaic.Lib.Pipeline.ValueKit
public import Idealize.ShloMosaic.Lib.Claim

@[expose] public section

set_option maxRecDepth 16384

noncomputable section

namespace Cert.GdnOutIdeal.Blk

open Cert.GdnOutIdeal Cert.GdnOutIdeal.Gen Idealize.ShloMosaic Idealize.ShloMosaic.TcCoe Idealize.SL.Sem
open Idealize.ShloMosaic.Pipeline (Dat)
open Cert.Dense

/-- The result at row `r`, column `d`: the gated row times the weight's column, added to `x`. The gate is
    the last quarter of the projection's columns. -/
def outAt (o : FVec Ideal S16384x1024 .bf16) (p : FVec Ideal S16384x4096 .f32) (g : FVec Ideal S128 .f32)
    (w : FVec Ideal S1024x1024 .f32) (x : FVec Ideal S16384x1024 .f32) (r : Fin 16384) (d : Fin 1024) : EReal :=
  x (ix2 r d) + dot (gated (fun k => o (ix2 r k)) (fun k => p (ix2 r ⟨3072 + k.val, by omega⟩)) (fun e => g (ix1 e)))
    (fun k => w (ix2 k d))

/-- The result array. -/
def out (o : FVec Ideal S16384x1024 .bf16) (p : FVec Ideal S16384x4096 .f32) (g : FVec Ideal S128 .f32)
    (w : FVec Ideal S1024x1024 .f32) (x : FVec Ideal S16384x1024 .f32) : FVec Ideal S16384x1024 .f32 :=
  fun j => outAt o p g w x (j 0) (j 1)

section pay

variable (o : FVec Ideal S512x1024 .bf16) (z : FVec Ideal S512x1024 .f32) (g : FVec Ideal S1x128 .f32)

/-- The eighth head's piece, which the body forms just before the join. -/
def piece7 : FVec Ideal S512x128 .f32 :=
  mulf (mulf (mulf (k0_pay18 (F := Ideal) o)
        (broadcastTo S512x128 (rsqrt (addf (k0_pay21 (F := Ideal) o) k0_pay22)) broadcasts_S512x1_S512x128))
      (broadcastTo S512x128 (k0_pay20 (F := Ideal) g) broadcasts_S1x128_S512x128))
    (mulf (k0_pay19 (F := Ideal) z) (logistic (k0_pay19 (F := Ideal) z)))

/-- The block's stored value from the eight pieces. -/
def store (p0 p1 p2 p3 p4 p5 p6 p7 : FVec Ideal S512x128 .f32) (x : FVec Ideal S512x1024 .f32)
    (w : FVec Ideal S1024x1024 .bf16) : FVec Ideal S512x1024 .f32 :=
  addf x (matmul dot_S512x1024_S1024x1024_S512x1024_1_0_0_1_n_n none
    (concatenate S512x1024 1 [⟨S512x128, truncf .bf16 p0 bitsLt_bf16_f32⟩, ⟨S512x128, truncf .bf16 p1 bitsLt_bf16_f32⟩,
      ⟨S512x128, truncf .bf16 p2 bitsLt_bf16_f32⟩, ⟨S512x128, truncf .bf16 p3 bitsLt_bf16_f32⟩,
      ⟨S512x128, truncf .bf16 p4 bitsLt_bf16_f32⟩, ⟨S512x128, truncf .bf16 p5 bitsLt_bf16_f32⟩,
      ⟨S512x128, truncf .bf16 p6 bitsLt_bf16_f32⟩, ⟨S512x128, truncf .bf16 p7 bitsLt_bf16_f32⟩]
      concatenates_S512x128_S512x128_S512x128_S512x128_S512x128_S512x128_S512x128_S512x128_S512x1024_d1)
    (shapeCast S1024x1024 w shapeCasts_S1024x1024_S1024x1024) (constant S512x1024 .f32 0x00000000#32))

/-- The body's last value is `store` of its pieces. -/
theorem store_eq (p0 p1 p2 p3 p4 p5 p6 : FVec Ideal S512x128 .f32) (x : FVec Ideal S512x1024 .f32)
    (w : FVec Ideal S1024x1024 .bf16) :
    k0_pay1 (F := Ideal) p0 p1 p2 p3 p4 p5 p6 (k0_pay18 o) (k0_pay19 z) (k0_pay20 g) (k0_pay21 o) k0_pay22 x w
      = store p0 p1 p2 p3 p4 p5 p6 (piece7 o z g) x w := rfl

/-- Head 0. -/
theorem piece0_at (r : Fin 512) (d : Fin 128) :
    (k0_pay2 (F := Ideal) o z g) (ix2 r d) = headAt (fun k => o (ix2 r k)) (fun k => z (ix2 r k)) (fun e => g (ix2 0 e)) 0 d := by
  have e0 : ∀ d : Fin 128, (⟨128 * (0 : Fin 8).val + d.val, by show 128 * 0 + d.val < 1024; omega⟩ : Fin 1024) = ⟨d.val, by omega⟩ :=
    fun d => Fin.ext (by show 128 * 0 + d.val = d.val; omega)
  pointwise [k0_pay2]
  unfold headAt rms
  simp only [e0]
  rfl

/-- Head 1. -/
theorem piece1_at (r : Fin 512) (d : Fin 128) :
    (k0_pay5 (F := Ideal) (k0_pay3 (F := Ideal) z) (k0_pay4 (F := Ideal) o g)) (ix2 r d) = headAt (fun k => o (ix2 r k)) (fun k => z (ix2 r k)) (fun e => g (ix2 0 e)) 1 d := by
  pointwise [k0_pay5, k0_pay3, k0_pay4]
  rfl

/-- Head 2. -/
theorem piece2_at (r : Fin 512) (d : Fin 128) :
    (k0_pay6 (F := Ideal) o z g) (ix2 r d) = headAt (fun k => o (ix2 r k)) (fun k => z (ix2 r k)) (fun e => g (ix2 0 e)) 2 d := by
  pointwise [k0_pay6]
  rfl

/-- Head 3. -/
theorem piece3_at (r : Fin 512) (d : Fin 128) :
    (k0_pay10 (F := Ideal) (k0_pay7 (F := Ideal) z) (k0_pay8 (F := Ideal) g) (k0_pay9 (F := Ideal) o)) (ix2 r d) = headAt (fun k => o (ix2 r k)) (fun k => z (ix2 r k)) (fun e => g (ix2 0 e)) 3 d := by
  pointwise [k0_pay10, k0_pay7, k0_pay8, k0_pay9]
  rfl

/-- Head 4. -/
theorem piece4_at (r : Fin 512) (d : Fin 128) :
    (k0_pay11 (F := Ideal) o z g) (ix2 r d) = headAt (fun k => o (ix2 r k)) (fun k => z (ix2 r k)) (fun e => g (ix2 0 e)) 4 d := by
  pointwise [k0_pay11]
  rfl

/-- Head 5. -/
theorem piece5_at (r : Fin 512) (d : Fin 128) :
    (k0_pay16 (F := Ideal) (k0_pay12 (F := Ideal) o) (k0_pay13 (F := Ideal) z) (k0_pay14 (F := Ideal) g) (k0_pay15 (F := Ideal) o)) (ix2 r d) = headAt (fun k => o (ix2 r k)) (fun k => z (ix2 r k)) (fun e => g (ix2 0 e)) 5 d := by
  pointwise [k0_pay16, k0_pay12, k0_pay13, k0_pay14, k0_pay15]
  rfl

/-- Head 6. -/
theorem piece6_at (r : Fin 512) (d : Fin 128) :
    (k0_pay17 (F := Ideal) o z g) (ix2 r d) = headAt (fun k => o (ix2 r k)) (fun k => z (ix2 r k)) (fun e => g (ix2 0 e)) 6 d := by
  pointwise [k0_pay17]
  rfl

/-- Head 7. -/
theorem piece7_at (r : Fin 512) (d : Fin 128) :
    (piece7 o z g) (ix2 r d) = headAt (fun k => o (ix2 r k)) (fun k => z (ix2 r k)) (fun e => g (ix2 0 e)) 7 d := by
  pointwise [piece7, k0_pay18, k0_pay19, k0_pay20, k0_pay21, k0_pay22]
  rfl

end pay

/-- A block's stored value at an index, whatever the pieces are. -/
theorem store_at (p0 p1 p2 p3 p4 p5 p6 p7 : FVec Ideal S512x128 .f32) (x : FVec Ideal S512x1024 .f32)
    (w : FVec Ideal S1024x1024 .bf16) (o z : Fin 1024 → EReal) (g : Fin 128 → EReal) (r : Fin 512) (d : Fin 1024)
    (h0 : ∀ e, p0 (ix2 r e) = headAt o z g 0 e) (h1 : ∀ e, p1 (ix2 r e) = headAt o z g 1 e)
    (h2 : ∀ e, p2 (ix2 r e) = headAt o z g 2 e) (h3 : ∀ e, p3 (ix2 r e) = headAt o z g 3 e)
    (h4 : ∀ e, p4 (ix2 r e) = headAt o z g 4 e) (h5 : ∀ e, p5 (ix2 r e) = headAt o z g 5 e)
    (h6 : ∀ e, p6 (ix2 r e) = headAt o z g 6 e) (h7 : ∀ e, p7 (ix2 r e) = headAt o z g 7 e) :
    store p0 p1 p2 p3 p4 p5 p6 p7 x w (ix2 r d) = x (ix2 r d) + dot (gated o z g) (fun k => w (ix2 k d)) := by
  pointwise [store]
  refine congrArg (x (ix2 r d) + ·) (Finset.sum_congr rfl fun k _ => congrArg (· * _) ?_)
  have hk := k.isLt
  repeat' split
  · exact (h0 _).trans (headAt_eq o z g _ _ _ (by show k.val = 128 * 0 + k.val; omega))
  · exact (h1 _).trans (headAt_eq o z g _ _ _ (by show k.val = 128 * 1 + (k.val - 128); omega))
  · exact (h2 _).trans (headAt_eq o z g _ _ _ (by show k.val = 128 * 2 + (k.val - 128 - 128); omega))
  · exact (h3 _).trans (headAt_eq o z g _ _ _ (by show k.val = 128 * 3 + (k.val - 128 - 128 - 128); omega))
  · exact (h4 _).trans (headAt_eq o z g _ _ _ (by show k.val = 128 * 4 + (k.val - 128 - 128 - 128 - 128); omega))
  · exact (h5 _).trans (headAt_eq o z g _ _ _ (by show k.val = 128 * 5 + (k.val - 128 - 128 - 128 - 128 - 128); omega))
  · exact (h6 _).trans (headAt_eq o z g _ _ _ (by
      show k.val = 128 * 6 + (k.val - 128 - 128 - 128 - 128 - 128 - 128); omega))
  · exact (h7 _).trans (headAt_eq o z g _ _ _ (by
      show k.val = 128 * 7 + (k.val - 128 - 128 - 128 - 128 - 128 - 128 - 128); omega))

variable (m : (ℓ : Loc nD τ sig) → Buf (Elt Ideal) ℓ)

/-- Where every window's block sits, at every point of the grid. -/
theorem idx : ∀ t : Fin cfg0.N, win0_0.index t = ![t.val, 0] ∧ win0_1.index t = ![t.val, 3] ∧ win0_2.index t = ![0, 0] ∧ win0_3.index t = ![0, 0] ∧ win0_4.index t = ![t.val, 0] ∧ win0_5.index t = ![t.val, 0] :=
  (by decide +kernel : ∀ t : Fin grid0.N, _)

/-- The staged rows are the argument's rows. -/
theorem rows (c : Dev nD) (t : Fin cfg0.N) (r : Fin 512) (d : Fin 1024) (j : Fin 16384) (hj : j.val = t.val * 512 + r.val) :
    iblk m c 0 t (ix2 r d) = m ((c : Thread nD τ).loc main_arg0) (ix2 j d) := by
  unfold iblk
  entry_read
  blk_ext [idx t]

/-- The staged gate: the last quarter of the projection. -/
theorem gate (c : Dev nD) (t : Fin cfg0.N) (r : Fin 512) (d : Fin 1024) (j : Fin 16384) (hj : j.val = t.val * 512 + r.val) :
    iblk m c 1 t (ix2 r d) = m ((c : Thread nD τ).loc main_arg1) (ix2 j ⟨3072 + d.val, by omega⟩) := by
  unfold iblk
  entry_read
  blk_ext [idx t]

/-- The staged gain is the argument. -/
theorem gain (c : Dev nD) (t : Fin cfg0.N) (d : Fin 128) :
    iblk m c 2 t (ix2 0 d) = m ((c : Thread nD τ).loc main_arg2) (ix1 d) := by
  unfold iblk
  entry_read
  blk_simp
  pointwise
  blk_ext [idx t]

/-- The staged weight is the argument. -/
theorem weight (c : Dev nD) (t : Fin cfg0.N) (r : Fin 1024) (d : Fin 1024) :
    iblk m c 3 t (ix2 r d) = m ((c : Thread nD τ).loc main_arg3) (ix2 r d) := by
  unfold iblk
  entry_read
  blk_simp
  pointwise
  blk_ext [idx t]

/-- The staged rows of the residual. -/
theorem resid (c : Dev nD) (t : Fin cfg0.N) (r : Fin 512) (d : Fin 1024) (j : Fin 16384) (hj : j.val = t.val * 512 + r.val) :
    iblk m c 4 t (ix2 r d) = m ((c : Thread nD τ).loc main_arg4) (ix2 j d) := by
  unfold iblk
  entry_read
  blk_ext [idx t]

/-- A block's stored value is the result at the place where the block sits. -/
theorem tile (c : Dev nD) (t : Fin cfg0.N) (r : Fin 512) (d : Fin 1024) (j : Fin 16384) (e : Fin 1024)
    (hj : j.val = t.val * 512 + r.val) (he : e = d) :
    k0_pay1 (F := Ideal) (k0_pay2 (F := Ideal) (iblk m c 0 t) (iblk m c 1 t) (iblk m c 2 t)) (k0_pay5 (F := Ideal) (k0_pay3 (F := Ideal) (iblk m c 1 t)) (k0_pay4 (F := Ideal) (iblk m c 0 t) (iblk m c 2 t))) (k0_pay6 (F := Ideal) (iblk m c 0 t) (iblk m c 1 t) (iblk m c 2 t)) (k0_pay10 (F := Ideal) (k0_pay7 (F := Ideal) (iblk m c 1 t)) (k0_pay8 (F := Ideal) (iblk m c 2 t)) (k0_pay9 (F := Ideal) (iblk m c 0 t))) (k0_pay11 (F := Ideal) (iblk m c 0 t) (iblk m c 1 t) (iblk m c 2 t)) (k0_pay16 (F := Ideal) (k0_pay12 (F := Ideal) (iblk m c 0 t)) (k0_pay13 (F := Ideal) (iblk m c 1 t)) (k0_pay14 (F := Ideal) (iblk m c 2 t)) (k0_pay15 (F := Ideal) (iblk m c 0 t))) (k0_pay17 (F := Ideal) (iblk m c 0 t) (iblk m c 1 t) (iblk m c 2 t)) (k0_pay18 (F := Ideal) (iblk m c 0 t)) (k0_pay19 (F := Ideal) (iblk m c 1 t)) (k0_pay20 (F := Ideal) (iblk m c 2 t)) (k0_pay21 (F := Ideal) (iblk m c 0 t)) (k0_pay22 (F := Ideal)) (iblk m c 4 t) (iblk m c 3 t) (ix2 r d)
      = outAt (m ((c : Thread nD τ).loc main_arg0)) (m ((c : Thread nD τ).loc main_arg1)) (m ((c : Thread nD τ).loc main_arg2)) (m ((c : Thread nD τ).loc main_arg3)) (m ((c : Thread nD τ).loc main_arg4)) j e := by
  subst he
  have ho : (fun k : Fin 1024 => iblk m c 0 t (ix2 r k)) = fun k => m ((c : Thread nD τ).loc main_arg0) (ix2 j k) :=
    funext fun k => rows m c t r k j hj
  have hz : (fun k : Fin 1024 => iblk m c 1 t (ix2 r k))
      = fun k => m ((c : Thread nD τ).loc main_arg1) (ix2 j ⟨3072 + k.val, by omega⟩) :=
    funext fun k => gate m c t r k j hj
  have hg : (fun k : Fin 128 => iblk m c 2 t (ix2 0 k)) = fun k => m ((c : Thread nD τ).loc main_arg2) (ix1 k) :=
    funext fun k => gain m c t k
  have hw : (fun k : Fin 1024 => iblk m c 3 t (ix2 k e)) = fun k => m ((c : Thread nD τ).loc main_arg3) (ix2 k e) :=
    funext fun k => weight m c t k e
  refine (congrFun (store_eq (iblk m c 0 t) (iblk m c 1 t) (iblk m c 2 t) _ _ _ _ _ _ _ (iblk m c 4 t) (iblk m c 3 t)) (ix2 r e)).trans ?_
  refine (store_at _ _ _ _ _ _ _ _ _ _ (fun k : Fin 1024 => iblk m c 0 t (ix2 r k)) (fun k : Fin 1024 => iblk m c 1 t (ix2 r k))
    (fun k : Fin 128 => iblk m c 2 t (ix2 0 k)) r e (piece0_at _ _ _ r) (piece1_at _ _ _ r) (piece2_at _ _ _ r) (piece3_at _ _ _ r) (piece4_at _ _ _ r) (piece5_at _ _ _ r) (piece6_at _ _ _ r) (piece7_at _ _ _ r)).trans ?_
  unfold outAt
  rw [ho, hz, hg, hw, resid m c t r e j hj]

/-- THE RESULT ARRAY of a run: `out` of the arguments. -/
theorem final (c : Dev nD) : (dats m 0 c).arrAt 5 cfg0.N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  refine (congrArg _ (eq_ix2 y)).trans (tile m c t (y 0) (y 1) _ _ ?_ ?_)
  · blk_simp [idx t] <;> try omega
  · refine Fin.ext ?_; blk_simp [idx t] <;> try omega

end Cert.GdnOutIdeal.Blk

end
-- ==== Proof.GdnOutEq.lean ====
/- The gated output projection of the delta rule layer: its reference read at an index, and the two arrays equal. -/
module

public import proofs.«01_k».proof.Proof.Gen.GdnOutRefIdeal.Read
public import proofs.«01_k».proof.Proof.GdnOutBlock

@[expose] public section

set_option maxRecDepth 16384

noncomputable section

namespace Cert.GdnOutRefIdeal.Rd

open Cert.GdnOutRefIdeal Cert.GdnOutRefIdeal.Gen Cert.GdnOutRefIdeal.Read Idealize.ShloMosaic Idealize.ShloMosaic.TcCoe
open Cert.Dense

variable (o : FVec Ideal S16384x1024 .bf16) (p : FVec Ideal S16384x4096 .f32) (g : FVec Ideal S128 .f32)
    (w : FVec Ideal S1024x1024 .f32) (x : FVec Ideal S16384x1024 .f32)

/-- The rows by heads. -/
theorem heads_at (r : Fin 16384) (h : Fin 8) (d : Fin 128) :
    val_main_v1 (F := Ideal) o (ix3 r h d) = o (ix2 r ⟨128 * h.val + d.val, by omega⟩) := by
  pointwise [val_main_v1, val_main_v0]
  exact congrArg (fun z => o (ix2 r z)) (Fin.ext (by show h.val * 128 + d.val = 128 * h.val + d.val; omega))

/-- The gate by heads. -/
theorem gates_at (r : Fin 16384) (h : Fin 8) (d : Fin 128) :
    val_main_v3 (F := Ideal) p (ix3 r h d) = p (ix2 r ⟨3072 + (128 * h.val + d.val), by omega⟩) := by
  pointwise [val_main_v3, val_main_v2]
  exact congrArg (fun z => p (ix2 r z)) (Fin.ext (by
    show 3072 + (h.val * 128 + d.val) = 3072 + (128 * h.val + d.val); omega))

/-- The norm of every head. -/
theorem norm_at (r : Fin 16384) (h : Fin 8) (d : Fin 128) : val_main_v16 (F := Ideal) o g (ix3 r h d)
    = rms c128 (fun e : Fin 128 => val_main_v1 (F := Ideal) o (ix3 r h e)) (fun e => g (ix1 e)) d := by
  pointwise [val_main_v16, val_main_v15, val_main_v14, val_main_v13, val_main_v12, val_main_v11, val_main_v10,
    val_main_v9, val_main_v8, val_main_v7, val_main_v6, val_main_v5, val_main_v4, val_main_cst, val_main_cst_0,
    val_main_cst_1]
  rfl

/-- The gate times its logistic function, as the reference spells it. -/
theorem gate_at (r : Fin 16384) (h : Fin 8) (d : Fin 128) : val_main_v17 (F := Ideal) p (ix3 r h d)
    = silu (val_main_v3 (F := Ideal) p (ix3 r h d)) := by
  pointwise [val_main_v17, val_main_call0_v5, val_main_call0_v4, val_main_call0_v3, val_main_call0_v2, val_main_call0_v1,
    val_main_call0_v0, val_main_call0_cst, val_main_call0_cst_0]
  rfl

/-- One entry of a head. -/
theorem head_at (r : Fin 16384) (h : Fin 8) (d : Fin 128) : val_main_v18 (F := Ideal) o p g (ix3 r h d)
    = headAt (fun k => o (ix2 r k)) (fun k => p (ix2 r ⟨3072 + k.val, by omega⟩)) (fun e => g (ix1 e)) h d := by
  pointwise [val_main_v18]
  rw [norm_at, gate_at, gates_at]
  simp only [heads_at]
  rfl

/-- The heads joined again. -/
theorem joined_at (r : Fin 16384) (k : Fin 1024) : val_main_v19 (F := Ideal) o p g (ix2 r k)
    = val_main_v18 (F := Ideal) o p g (ix3 r ⟨k.val / 128, by omega⟩ ⟨k.val % 128, by omega⟩) := by
  pointwise [val_main_v19]

/-- The reference's result is the kernel's. -/
theorem result : val_main_v21 (F := Ideal) o p g w x = Cert.GdnOutIdeal.Blk.out o p g w x := by
  funext j
  rw [eq_ix2 j]
  generalize j 0 = r
  generalize j 1 = d
  show _ = Cert.GdnOutIdeal.Blk.outAt o p g w x r d
  pointwise [val_main_v21, val_main_v20]
  refine congrArg (x (ix2 r d) + ·) (Finset.sum_congr rfl fun k _ => congrArg (· * _) ?_)
  exact (joined_at o p g r k).trans (head_at o p g r _ _)

end Cert.GdnOutRefIdeal.Rd

end
-- ==== Proof.SharedBlock.lean ====
/- The shared key and value projection: what a block of rows stores, and from it the whole result array. -/
module

public import proofs.«01_k».proof.Proof.Gen.SharedIdeal.Frame
public import proofs.«01_k».proof.Proof.Dense
public import Idealize.ShloMosaic.Lib.Pipeline.ValueKit
public import Idealize.ShloMosaic.Lib.Claim

@[expose] public section

set_option maxRecDepth 16384

noncomputable section

namespace Cert.SharedIdeal.Blk

open Cert.SharedIdeal Cert.SharedIdeal.Gen Idealize.ShloMosaic Idealize.ShloMosaic.TcCoe Idealize.SL.Sem
open Idealize.ShloMosaic.Pipeline (Dat)
open Cert.Dense

/-- The result at row `r`, column `d`: the norm of the row times the weight's column. -/
def outAt (x : FVec Ideal S16384x1024 .f32) (g : FVec Ideal S1024 .f32) (w : FVec Ideal S1024x512 .f32)
    (r : Fin 16384) (d : Fin 512) : EReal :=
  dot (rms c1024 (fun k : Fin 1024 => x (ix2 r k)) (fun k => g (ix1 k))) (fun k => w (ix2 k d))

/-- The result array. -/
def out (x : FVec Ideal S16384x1024 .f32) (g : FVec Ideal S1024 .f32) (w : FVec Ideal S1024x512 .f32) :
    FVec Ideal S16384x512 .f32 := fun j => outAt x g w (j 0) (j 1)

/-- The values' window at batch row `b`, position `r` of the last 128, head `h`, column `d`: the second half of the result
    at that position. -/
def winAt (x : FVec Ideal S16384x1024 .f32) (g : FVec Ideal S1024 .f32) (w : FVec Ideal S1024x512 .f32)
    (b : Fin 4) (r : Fin 128) (h : Fin 4) (d : Fin 64) : EReal :=
  outAt x g w ⟨b.val * 4096 + (3968 + r.val), by omega⟩ ⟨256 + (h.val * 64 + d.val), by omega⟩

/-- The values' window. -/
def win (x : FVec Ideal S16384x1024 .f32) (g : FVec Ideal S1024 .f32) (w : FVec Ideal S1024x512 .f32) :
    FVec Ideal S4x128x4x64 .f32 := fun j => winAt x g w (j 0) (j 1) (j 2) (j 3)

/-- The window is the last positions and the last columns of the result, laid out by heads. -/
theorem win_eq (x : FVec Ideal S16384x1024 .f32) (g : FVec Ideal S1024 .f32) (w : FVec Ideal S1024x512 .f32) :
    shapeCast S4x128x4x64 (extractStridedSlice S4x128x256 ![0, 3968, 256]
      (shapeCast S4x4096x512 (out x g w) shapeCasts_S16384x512_S4x4096x512) slices_S4x4096x512_S4x128x256_0_3968_256)
      shapeCasts_S4x128x256_S4x128x4x64 = win x g w := by
  funext j
  rw [eq_ix4 j]
  generalize j 0 = b
  generalize j 1 = r
  generalize j 2 = h
  generalize j 3 = d
  have hb : b.val < 4 := b.isLt
  have hr : r.val < 128 := r.isLt
  have hh : h.val < 4 := h.isLt
  have hd : d.val < 64 := d.isLt
  refine Eq.trans ?_ (show out x g w (ix2 ⟨b.val * 4096 + (3968 + r.val), by omega⟩ ⟨256 + (h.val * 64 + d.val), by omega⟩)
    = win x g w (ix4 b r h d) from rfl)
  generalize out x g w = y
  pointwise

/-- One block's stored value at an index. -/
theorem pay_at (x : FVec Ideal S1024x1024 .f32) (g : FVec Ideal S1x1024 .f32) (w : FVec Ideal S1024x512 .bf16)
    (r : Fin 1024) (d : Fin 512) :
    k0_pay2 (F := Ideal) w (k0_pay1 (F := Ideal) x g) (ix2 r d)
      = dot (rms c1024 (fun k : Fin 1024 => x (ix2 r k)) (fun k => g (ix2 0 k))) (fun k => w (ix2 k d)) := by
  pointwise [k0_pay2, k0_pay1]
  rfl

variable (m : (ℓ : Loc nD τ sig) → Buf (Elt Ideal) ℓ)

/-- Where every window's block sits, at every point of the grid. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The staged rows are the argument's rows. -/
theorem rows (c : Dev nD) (t : Fin cfg0.N) (r : Fin 1024) (d : Fin 1024) (j : Fin 16384) (hj : j.val = t.val * 1024 + r.val) :
    iblk m c 0 t (ix2 r d) = m ((c : Thread nD τ).loc main_arg0) (ix2 j d) := by
  unfold iblk
  simp only [V, V0, hostOps0, List.flatten_cons, List.flatten_nil, List.append_nil, List.cons_append, List.nil_append]
  entry_read
  blk_ext [idx t]

/-- The staged gain is the argument. -/
theorem gain (c : Dev nD) (t : Fin cfg0.N) (d : Fin 1024) :
    iblk m c 1 t (ix2 0 d) = m ((c : Thread nD τ).loc main_arg1) (ix1 d) := by
  unfold iblk
  simp only [V, V0, hostOps0, List.flatten_cons, List.flatten_nil, List.append_nil, List.cons_append, List.nil_append]
  entry_read
  blk_simp
  pointwise
  blk_ext [idx t]

/-- The staged weight is the argument. -/
theorem weight (c : Dev nD) (t : Fin cfg0.N) (r : Fin 1024) (d : Fin 512) :
    iblk m c 2 t (ix2 r d) = m ((c : Thread nD τ).loc main_arg2) (ix2 r d) := by
  unfold iblk
  simp only [V, V0, hostOps0, List.flatten_cons, List.flatten_nil, List.append_nil, List.cons_append, List.nil_append]
  entry_read
  blk_simp
  pointwise
  blk_ext [idx t]

/-- A block's stored value is the result at the place where the block sits. -/
theorem tile (c : Dev nD) (t : Fin cfg0.N) (r : Fin 1024) (d : Fin 512) (j : Fin 16384) (e : Fin 512)
    (hj : j.val = t.val * 1024 + r.val) (he : e = d) :
    k0_pay2 (F := Ideal) (iblk m c 2 t) (k0_pay1 (F := Ideal) (iblk m c 0 t) (iblk m c 1 t)) (ix2 r d)
      = outAt (m ((c : Thread nD τ).loc main_arg0)) (m ((c : Thread nD τ).loc main_arg1)) (m ((c : Thread nD τ).loc main_arg2)) j e := by
  subst he
  have hx : (fun k : Fin 1024 => iblk m c 0 t (ix2 r k)) = fun k => m ((c : Thread nD τ).loc main_arg0) (ix2 j k) :=
    funext fun k => rows m c t r k j hj
  have hg : (fun k : Fin 1024 => iblk m c 1 t (ix2 0 k)) = fun k => m ((c : Thread nD τ).loc main_arg1) (ix1 k) :=
    funext fun k => gain m c t k
  have hw : (fun k : Fin 1024 => iblk m c 2 t (ix2 k e)) = fun k => m ((c : Thread nD τ).loc main_arg2) (ix2 k e) :=
    funext fun k => weight m c t k e
  refine (pay_at _ _ _ r e).trans ?_
  unfold outAt
  rw [hx, hg, hw]

/-- THE RESULT ARRAY of a run: `out` of the arguments. -/
theorem final (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  refine (congrArg _ (eq_ix2 y)).trans (tile m c t (y 0) (y 1) _ _ ?_ ?_)
  · blk_simp [idx t] <;> try omega
  · refine Fin.ext ?_; blk_simp [idx t] <;> try omega

/-- What the lines after the kernel leave in the last buffer: the values' window of the arguments. -/
theorem tail (c : Dev nD) : Pipeline.afterTail₀ cfgs (dats m) 0 (V0 m) [hostOps1] c main_v5
    = win (m ((c : Thread nD τ).loc main_arg0)) (m ((c : Thread nD τ).loc main_arg1)) (m ((c : Thread nD τ).loc main_arg2)) := by
  refine Eq.trans ?_ (win_eq _ _ _)
  rw [← final m c, ← Pipeline.withArrays_arr spec0 launch0.win.arr_inj c (V0 m c) (fun w => (dats m 0 c).arrAt w cfg0.N) 3]
  unfold Pipeline.afterTail₀
  simp only [hostOps1, List.flatten_cons, List.flatten_nil, List.append_nil]
  after_results
  rfl

/-- A run ends with the result array and the values' window, and keeps its arguments. -/
theorem run (ρ : Dev nD → PrngReg) : θ_run (defs (F := Ideal)) (onTc (τ := τ) (main (F := Ideal))) (s₀ m ρ) (fun r => ∀ c : Dev nD,
    r.2.mem ((c : Thread nD τ).loc main_v2)
      = out (m ((c : Thread nD τ).loc main_arg0)) (m ((c : Thread nD τ).loc main_arg1)) (m ((c : Thread nD τ).loc main_arg2))
    ∧ r.2.mem ((c : Thread nD τ).loc main_v5)
      = win (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) :=
  (θ_run _ _ _).mono (fun _ h c =>
    ⟨((h c).1 3).trans (final m c),
     ((h c).2 main_v5 (Pipeline.mem_restRefs_of main_v5 (by decide) (by decide))).trans (tail m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main (F := Ideal) m ρ)

end Cert.SharedIdeal.Blk

end
-- ==== Proof.SharedEq.lean ====
/- The shared key and value projection: its reference read at an index, and the two arrays equal. -/
module

public import proofs.«01_k».proof.Proof.Gen.SharedRefIdeal.Read
public import proofs.«01_k».proof.Proof.SharedBlock

@[expose] public section

set_option maxRecDepth 16384

noncomputable section

namespace Cert.SharedRefIdeal.Rd

open Cert.SharedRefIdeal Cert.SharedRefIdeal.Gen Cert.SharedRefIdeal.Read Idealize.ShloMosaic Idealize.ShloMosaic.TcCoe
open Cert.Dense

variable (x : FVec Ideal S16384x1024 .f32) (g : FVec Ideal S1024 .f32) (w : FVec Ideal S1024x512 .f32)

/-- The norm of the rows. -/
theorem norm_at (r : Fin 16384) (d : Fin 1024) : val_main_v12 (F := Ideal) x g (ix2 r d)
    = rms c1024 (fun k : Fin 1024 => x (ix2 r k)) (fun k => g (ix1 k)) d := by
  pointwise [val_main_v12, val_main_v11, val_main_v10, val_main_v9, val_main_v8, val_main_v7, val_main_v6,
    val_main_v5, val_main_v4, val_main_v3, val_main_v2, val_main_v1, val_main_v0, val_main_cst, val_main_cst_0,
    val_main_cst_1]
  rfl

/-- The reference's result is the kernel's. -/
theorem result : val_main_v13 (F := Ideal) x g w = Cert.SharedIdeal.Blk.out x g w := by
  funext j
  rw [eq_ix2 j]
  generalize j 0 = r
  generalize j 1 = d
  show _ = Cert.SharedIdeal.Blk.outAt x g w r d
  pointwise [val_main_v13]
  exact Finset.sum_congr rfl fun k _ => congrArg (· * _) (norm_at x g r k)

/-- The reference's window of the values is the kernel's. -/
theorem result2 : val_main_v16 (F := Ideal) x g w = Cert.SharedIdeal.Blk.win x g w := by
  funext j
  rw [eq_ix4 j]
  generalize j 0 = b
  generalize j 1 = r
  generalize j 2 = h
  generalize j 3 = d
  have hb : b.val < 4 := b.isLt
  have hr : r.val < 128 := r.isLt
  have hh : h.val < 4 := h.isLt
  have hd : d.val < 64 := d.isLt
  refine Eq.trans ?_ (congrFun (result x g w) (ix2 ⟨b.val * 4096 + (3968 + r.val), by omega⟩ ⟨256 + (h.val * 64 + d.val), by omega⟩))
  unfold val_main_v16 val_main_v15 val_main_v14
  generalize val_main_v13 (F := Ideal) x g w = y
  pointwise

end Cert.SharedRefIdeal.Rd

end
-- ==== Proof.ExpertsIdealRun.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.WholeRead
public import Idealize.ShloMosaic.Lib.VecWindow

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

/-- The two tables as the body is handed them. -/
abbrev names : Memref sig .tc .smem S78 .i32 := Memref.whole main_arg0
abbrev count : Memref sig .tc .smem S1 .i32 := Memref.whole main_arg1

/-- A table's contents on core `c`. -/
abbrev Held (c : Dev nD) {S : Shape} (M : Memref sig .tc .smem S .i32) : Type := Buf (Elt F) (M.view.loc (c : Thread nD τ))

/-- The half share of a table that the body reads under. -/
abbrev half (c : Dev nD) {S : Shape} (M : Memref sig .tc .smem S .i32) (f : Held (F := F) c M) : sProp 𝕄 :=
  M.view.loc (c : Thread nD τ) ↦{fullShare.right} f

/-- The word that says how many tiles are used, as the body reads it. -/
abbrev word (c : Dev nD) (n1 : Held (F := F) c count) : BitVec 32 :=
  n1 ((Rect.unit (s := S1) ![0] S1.size inb_S1_S1_0).emb (Shape.Idx.first (by decide)))

/-- Reading a whole block gives the block. -/
theorem read_block2 {κ : Kind} {sp : Space} {e : EltTy} {m : Memref sig κ sp S512x1024 e} (h : m.IsWhole) (X : S512x1024.Idx → Elt F e)
    (inb : ∀ a, (![0, 0] : Fin 2 → ℕ) a + S512x1024.size a ≤ S512x1024.size a) :
    View.readAt (Elt F) m.view (Rect.unit (s := S512x1024) ![0, 0] S512x1024.size inb).toLoadRect (h.unread X) = X := by
  funext x
  refine (h.readAt_unread X _ x).trans (congrArg X ?_)
  funext a; apply Fin.ext; fin_cases a <;> simp [LoadRect.idx, Rect.toLoadRect]

/-- Reading a whole block of one leading index gives the block. -/
theorem read_block3 {κ : Kind} {sp : Space} {e : EltTy} {m : Memref sig κ sp S1x1024x1024 e} (h : m.IsWhole) (X : S1x1024x1024.Idx → Elt F e)
    (inb : ∀ a, (![0, 0, 0] : Fin 3 → ℕ) a + S1x1024x1024.size a ≤ S1x1024x1024.size a) :
    View.readAt (Elt F) m.view (Rect.unit (s := S1x1024x1024) ![0, 0, 0] S1x1024x1024.size inb).toLoadRect (h.unread X) = X := by
  funext x
  refine (h.readAt_unread X _ x).trans (congrArg X ?_)
  funext a; apply Fin.ext; fin_cases a <;> simp [LoadRect.idx, Rect.toLoadRect]
  have h0 : (x 0).val < 1 := (x 0).isLt
  omega

/-- The four input blocks, each whole at its contents. -/
abbrev entry (c : Dev nD) (a3 : Memref sig .tc .vmem S512x1024 .f32) (a4 a5 a6 : Memref sig .tc .vmem S1x1024x1024 .bf16)
    (x0 : Vec F S512x1024 .f32) (x1 x2 x3 : Vec F S1x1024x1024 .bf16) : sProp 𝕄 :=
  iprop(owns (c : Thread nD τ) a3 fullShare x0 ∗ owns (c : Thread nD τ) a4 fullShare x1 ∗ owns (c : Thread nD τ) a5 fullShare x2 ∗ owns (c : Thread nD τ) a6 fullShare x3)

set_option maxHeartbeats 1000000 in
/-- A tile that is used: the body leaves the two products' tile in the output's block. -/
theorem used (c : Dev nD) (i : grid0.Coords) {a3 : Memref sig .tc .vmem S512x1024 .f32} (h3 : a3.IsWhole) {a4 : Memref sig .tc .vmem S1x1024x1024 .bf16} (h4 : a4.IsWhole)
    {a5 : Memref sig .tc .vmem S1x1024x1024 .bf16} (h5 : a5.IsWhole) {a6 : Memref sig .tc .vmem S1x1024x1024 .bf16} (h6 : a6.IsWhole) {a7 : Memref sig .tc .vmem S512x1024 .f32} (h7 : a7.IsWhole)
    (x0 : Vec F S512x1024 .f32) (x1 x2 x3 : Vec F S1x1024x1024 .bf16) (n0 : Held (F := F) c names) (n1 : Held (F := F) c count)
    (hc : k0_cond1 i (word c n1) = 1#1) (hd : ¬k0_cond2 i (word c n1) = 1#1) (E : Set ℕ) (K : PUnit → sProp 𝕄) :
    iprop(entry c a3 a4 a5 a6 x0 x1 x2 x3 ∗ (∃ d, owns (c : Thread nD τ) a7 fullShare d) ∗ half c names n0 ∗ half c count n1
        ∗ (iprop(entry c a3 a4 a5 a6 x0 x1 x2 x3 ∗ owns (c : Thread nD τ) a7 fullShare (k0_pay1 x0 x1 x2 x3) ∗ half c names n0 ∗ half c count n1) -∗ K ⟨⟩))
      ⊢ wp frame (wpE (defs₀ (F := F)) Variants.none c none) E
          (cc0_moe_experts i names (Memref.isWhole_whole _) count (Memref.isWhole_whole _) a3 h3 a4 h4 a5 h5 a6 h6 a7 h7) K := by
  unfold entry
  simp only [cc0_moe_experts_eq_skeleton]; unfold cc0_moe_experts_skel
  unfold owns
  iintro ⟨⟨⟨%f0, %hf0, H0⟩, ⟨%f1, %hf1, H1⟩, ⟨%f2, %hf2, H2⟩, ⟨%f3, %hf3, H3⟩⟩, ⟨%d4, %f4, -, H4⟩, HT0, HT1, Hk⟩
  obtain rfl := h3.eq_unread hf0; obtain rfl := h4.eq_unread hf1; obtain rfl := h5.eq_unread hf2; obtain rfl := h6.eq_unread hf3
  sl_exec (disch := first | sl_exact hc | sl_exact hd)
  sl_step
  iapply Hk
  isplitl [H0 H1 H2 H3]
  · isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    iexists _; isplitr; · ipureintro; exact h6.read_unread _
    iexact H3
  isplitl [H4]
  · iexists _; isplitr
    swap; · iexact H4
    ipureintro
    refine (View.read_writes_full _ _ (s := S512x1024) (off := ![0, 0]) _ _ _).trans ?_
    rw [read_block2 h3, read_block3 h4, read_block3 h5, read_block3 h6]
  isplitl [HT0]; · iexact HT0
  iexact HT1

set_option maxHeartbeats 1000000 in
/-- A tile that is not used: the body leaves zeros in the output's block. -/
theorem unused (c : Dev nD) (i : grid0.Coords) {a3 : Memref sig .tc .vmem S512x1024 .f32} (h3 : a3.IsWhole) {a4 : Memref sig .tc .vmem S1x1024x1024 .bf16} (h4 : a4.IsWhole)
    {a5 : Memref sig .tc .vmem S1x1024x1024 .bf16} (h5 : a5.IsWhole) {a6 : Memref sig .tc .vmem S1x1024x1024 .bf16} (h6 : a6.IsWhole) {a7 : Memref sig .tc .vmem S512x1024 .f32} (h7 : a7.IsWhole)
    (x0 : Vec F S512x1024 .f32) (x1 x2 x3 : Vec F S1x1024x1024 .bf16) (n0 : Held (F := F) c names) (n1 : Held (F := F) c count)
    (hc : ¬k0_cond1 i (word c n1) = 1#1) (hd : k0_cond2 i (word c n1) = 1#1) (E : Set ℕ) (K : PUnit → sProp 𝕄) :
    iprop(entry c a3 a4 a5 a6 x0 x1 x2 x3 ∗ (∃ d, owns (c : Thread nD τ) a7 fullShare d) ∗ half c names n0 ∗ half c count n1
        ∗ (iprop(entry c a3 a4 a5 a6 x0 x1 x2 x3 ∗ owns (c : Thread nD τ) a7 fullShare k0_pay2 ∗ half c names n0 ∗ half c count n1) -∗ K ⟨⟩))
      ⊢ wp frame (wpE (defs₀ (F := F)) Variants.none c none) E
          (cc0_moe_experts i names (Memref.isWhole_whole _) count (Memref.isWhole_whole _) a3 h3 a4 h4 a5 h5 a6 h6 a7 h7) K := by
  unfold entry
  simp only [cc0_moe_experts_eq_skeleton]; unfold cc0_moe_experts_skel
  unfold owns
  iintro ⟨⟨⟨%f0, %hf0, H0⟩, ⟨%f1, %hf1, H1⟩, ⟨%f2, %hf2, H2⟩, ⟨%f3, %hf3, H3⟩⟩, ⟨%d4, %f4, -, H4⟩, HT0, HT1, Hk⟩
  obtain rfl := h3.eq_unread hf0; obtain rfl := h4.eq_unread hf1; obtain rfl := h5.eq_unread hf2; obtain rfl := h6.eq_unread hf3
  sl_exec (disch := first | sl_exact hc | sl_exact hd)
  sl_step
  iapply Hk
  isplitl [H0 H1 H2 H3]
  · isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    iexists _; isplitr; · ipureintro; exact h6.read_unread _
    iexact H3
  isplitl [H4]
  · iexists _; isplitr
    swap; · iexact H4
    ipureintro
    refine (View.read_writes_full _ _ (s := S512x1024) (off := ![0, 0]) _ _ _).trans ?_
    rfl
  isplitl [HT0]; · iexact HT0
  iexact HT1

end Cert.ExpertsIdeal.Run

end
-- ==== Proof.ExpertsIdealFrame.lean ====
module

public import proofs.«01_k».proof.Proof.ExpertsIdealRun
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.WholeRead
public import Idealize.ShloMosaic.Lib.VecWindow

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the tables as the region finds them -/

/-- Core `c`'s buffers when the region is entered: the two weight arrays are cast. -/
abbrev V (c : Dev nD) (b : Ref sig .tc) : Buf (Elt F) ((c : Thread nD τ).loc b) := StableHlo.after hostOps0 (fun b => m (c, b)) b

/-- The casts take no fresh buffer. -/
theorem hostOps0_fresh : (hostOps0 : List (HloOp τ sig (Elt F))).Forall fun op => op.fresh = ∅ := by
  simp only [List.Forall]; repeat' constructor

set_option maxHeartbeats 800000 in
/-- The program is the two casts, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no cast writes is found as launched. -/
theorem kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-- The region finds `main_arg0` as launched: the host writes only the two cast arrays. -/
theorem V_main_arg0 (c : Dev nD) : V m c main_arg0 = m ((c : Thread nD τ).loc main_arg0) := kept m c main_arg0 (by decide) (by decide)
/-- The region finds `main_arg1` as launched: the host writes only the two cast arrays. -/
theorem V_main_arg1 (c : Dev nD) : V m c main_arg1 = m ((c : Thread nD τ).loc main_arg1) := kept m c main_arg1 (by decide) (by decide)
/-- The region finds `main_arg2` as launched: the host writes only the two cast arrays. -/
theorem V_main_arg2 (c : Dev nD) : V m c main_arg2 = m ((c : Thread nD τ).loc main_arg2) := kept m c main_arg2 (by decide) (by decide)
/-- The region finds `main_arg3` as launched: the host writes only the two cast arrays. -/
theorem V_main_arg3 (c : Dev nD) : V m c main_arg3 = m ((c : Thread nD τ).loc main_arg3) := kept m c main_arg3 (by decide) (by decide)
/-- The region finds `main_arg4` as launched: the host writes only the two cast arrays. -/
theorem V_main_arg4 (c : Dev nD) : V m c main_arg4 = m ((c : Thread nD τ).loc main_arg4) := kept m c main_arg4 (by decide) (by decide)

/-- The tables' contents (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block that the tables name is inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves, one by one. -/
theorem halves (c : Dev nD) : (Pipeline.ΦT pre0 (tbl m) c : sProp 𝕄) = iprop(half c names (tbl m 0) ∗ half c count (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input 0's block is in place at every point, for proof data over the arrays as found that leaves it in place. -/
theorem before_0_of (hO : Ok m) {c : Dev nD} (dat : Dat τ (Elt F) Unit ℕ (UR sig nD τ) ℕ (cfgM m hO) c) (hA : dat.A 0 = V m c (Pipeline.arrRef spec0 0))
    (h : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [h]; unfold Dat.blockOf iblk; rw [hA]; try rfl) t d).trans
    (by unfold Dat.fetched Dat.blockOf iblk; rw [hA]; try rfl)
/-- Input 1's block is in place at every point, for proof data over the arrays as found that leaves it in place. -/
theorem before_1_of (hO : Ok m) {c : Dev nD} (dat : Dat τ (Elt F) Unit ℕ (UR sig nD τ) ℕ (cfgM m hO) c) (hA : dat.A 1 = V m c (Pipeline.arrRef spec0 1))
    (h : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [h]; unfold Dat.blockOf iblk; rw [hA]; try rfl) t d).trans
    (by unfold Dat.fetched Dat.blockOf iblk; rw [hA]; try rfl)
/-- Input 2's block is in place at every point, for proof data over the arrays as found that leaves it in place. -/
theorem before_2_of (hO : Ok m) {c : Dev nD} (dat : Dat τ (Elt F) Unit ℕ (UR sig nD τ) ℕ (cfgM m hO) c) (hA : dat.A 2 = V m c (Pipeline.arrRef spec0 2))
    (h : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [h]; unfold Dat.blockOf iblk; rw [hA]; try rfl) t d).trans
    (by unfold Dat.fetched Dat.blockOf iblk; rw [hA]; try rfl)
/-- Input 3's block is in place at every point, for proof data over the arrays as found that leaves it in place. -/
theorem before_3_of (hO : Ok m) {c : Dev nD} (dat : Dat τ (Elt F) Unit ℕ (UR sig nD τ) ℕ (cfgM m hO) c) (hA : dat.A 3 = V m c (Pipeline.arrRef spec0 3))
    (h : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [h]; unfold Dat.blockOf iblk; rw [hA]; try rfl) t d).trans
    (by unfold Dat.fetched Dat.blockOf iblk; rw [hA]; try rfl)

/-- Exactly one of the body's two branches runs. -/
theorem second_iff (i : grid0.Coords) (v : BitVec 32) : k0_cond2 i v = 1#1 ↔ ¬k0_cond1 i v = 1#1 := by
  unfold k0_cond1 k0_cond2
  dsimp only
  generalize Scalar.cmpi .slt (BitVec.ofNat 32 (i 0).val) v = b
  revert b; decide

/-- The output is stored at every point. -/
theorem live (pf : pre0.Contents (Elt F)) (i : grid0.Coords) : idle0 pf 4 i = false := by
  show (!(k0_cond1 i (pf.atD 1 ![0]) == 1#1) && !(k0_cond2 i (pf.atD 1 ![0]) == 1#1)) = false
  by_cases h : k0_cond1 i (pf.atD 1 ![0]) = 1#1
  · simp [h]
  · simp [(second_iff i _).mpr h]

/-- What the body leaves in the output's block at point `t`. -/
def tile (hO : Ok m) (c : Dev nD) (t : Fin (cfgM m hO).N) : Vec F S512x1024 .f32 :=
  if k0_cond1 (grid0.coords t) (word c (tbl m 1)) = 1#1 then k0_pay1 (iblk m hO c 0 t) (iblk m hO c 1 t) (iblk m hO c 2 t) (iblk m hO c 3 t) else k0_pay2

/-! ## The pipeline's proof data -/

/-- The arrays as found, each block after the body, the tables' halves beside the invariant, nothing owed, and each
    input's share of its array (the two halves of the gate and up weights are one array). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => tile m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by
  dsimp only [dats]; try rfl
theorem after_1 (hO : Ok m) (c : Dev nD) (t : Fin (cfgM m hO).N) : (dats m hO 0 c).after 1 t = iblk m hO c 1 t := by
  dsimp only [dats]; try rfl
theorem after_2 (hO : Ok m) (c : Dev nD) (t : Fin (cfgM m hO).N) : (dats m hO 0 c).after 2 t = iblk m hO c 2 t := by
  dsimp only [dats]; try rfl
theorem after_3 (hO : Ok m) (c : Dev nD) (t : Fin (cfgM m hO).N) : (dats m hO 0 c).after 3 t = iblk m hO c 3 t := by
  dsimp only [dats]; try rfl
theorem after_4 (hO : Ok m) (c : Dev nD) (t : Fin (cfgM m hO).N) : (dats m hO 0 c).after 4 t = tile m hO c t := by
  dsimp only [dats]; try rfl
theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d

/-! ## The body at a point -/

abbrev stg0 (hO : Ok m) (t : Fin (cfgM m hO).N) : Memref sig .tc .vmem S512x1024 .f32 := spec0_0.stage ((cfgM m hO).slots t 0)
abbrev stg1 (hO : Ok m) (t : Fin (cfgM m hO).N) : Memref sig .tc .vmem S1x1024x1024 .bf16 := spec0_1.stage ((cfgM m hO).slots t 1)
abbrev stg2 (hO : Ok m) (t : Fin (cfgM m hO).N) : Memref sig .tc .vmem S1x1024x1024 .bf16 := spec0_2.stage ((cfgM m hO).slots t 2)
abbrev stg3 (hO : Ok m) (t : Fin (cfgM m hO).N) : Memref sig .tc .vmem S1x1024x1024 .bf16 := spec0_3.stage ((cfgM m hO).slots t 3)
abbrev stg4 (hO : Ok m) (t : Fin (cfgM m hO).N) : Memref sig .tc .vmem S512x1024 .f32 := spec0_4.stage ((cfgM m hO).slots t 4)

/-- The body at point `t`, on the point's staging buffers. -/
abbrev bodyAt (a : (pcfg0 (F := F)).Adm) (t : Fin (cfg0 a).N) : Prog (TpuEff nD τ sig (Elt F) Λ₀ .tc) PUnit :=
  cc0_moe_experts (grid0.coords t) names (Memref.isWhole_whole _) count (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t))

set_option maxHeartbeats 800000 in
/-- The body at any point: used or not, by the word the second table holds. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3]
  rw [after_0, after_1, after_2, after_3, after_4,
    show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, halves]
  by_cases h : k0_cond1 (grid0.coords t) (word c (tbl m 1)) = 1#1
  · rw [show tile m hO c t = k0_pay1 (iblk m hO c 0 t) (iblk m hO c 1 t) (iblk m hO c 2 t) (iblk m hO c 3 t) from if_pos h]
    iintro ⟨⟨HΦ, ⟨HT0, HT1⟩⟩, Ho, ⟨%d0, H0⟩, ⟨%d1, H1⟩, ⟨%d2, H2⟩, ⟨%d3, H3⟩, ⟨%d4, H4⟩⟩
    iapply (used c (grid0.coords t) _ _ _ _ _ (iblk m hO c 0 t) (iblk m hO c 1 t) (iblk m hO c 2 t) (iblk m hO c 3 t) (tbl m 0) (tbl m 1) h (fun hd => (second_iff _ _).mp hd h) Set.univ _)
    isplitl [H0 H1 H2 H3]
    · isplitl [H0]; · iexact H0
      isplitl [H1]; · iexact H1
      isplitl [H2]; · iexact H2
      iexact H3
    isplitl [H4]; · iexists _; iexact H4
    isplitl [HT0]; · iexact HT0
    isplitl [HT1]; · iexact HT1
    iintro ⟨⟨H0, H1, H2, H3⟩, H4, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [show tile m hO c t = k0_pay2 from if_neg h]
    iintro ⟨⟨HΦ, ⟨HT0, HT1⟩⟩, Ho, ⟨%d0, H0⟩, ⟨%d1, H1⟩, ⟨%d2, H2⟩, ⟨%d3, H3⟩, ⟨%d4, H4⟩⟩
    iapply (unused c (grid0.coords t) _ _ _ _ _ (iblk m hO c 0 t) (iblk m hO c 1 t) (iblk m hO c 2 t) (iblk m hO c 3 t) (tbl m 0) (tbl m 1) h ((second_iff _ _).mpr h) Set.univ _)
    isplitl [H0 H1 H2 H3]
    · isplitl [H0]; · iexact H0
      isplitl [H1]; · iexact H1
      isplitl [H2]; · iexact H2
      iexact H3
    isplitl [H4]; · iexists _; iexact H4
    isplitl [HT0]; · iexact HT0
    isplitl [HT1]; · iexact HT1
    iintro ⟨⟨H0, H1, H2, H3⟩, H4, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4

/-- The body table's row at point `t` is the body. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The body obligation, at every point. -/
theorem body_obligation (hO : Ok m) (c : Dev nD) : BodyObligation (dats (F := F) m hO 0 c) (defs₀ (F := F)) Variants.none () Set.univ := fun t => by
  have h4 : (cfgM m hO).idle (4 : Fin 5) ((cfgM m hO).grid.coords t) = false := live _ _
  rw [bigSep_W0, bigSep_W0, defs₀_row m hO]
  rw [h4]
  exact triple_restated (sound_body m hO c t) rfl .rfl fun _ => .rfl

/-! ## The run and the frame -/

set_option backward.isDefEq.respectTransparency.types false in
/-- Every weakly fair execution ends, with the pipeline's arrays as computed and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The argument arrays end as they were, given the arrays' contents at the end. -/
theorem kept_of (hO : Ok m) {r : PUnit × MemSt nD τ sig (Elt F)} (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).1 0).trans (((dats m hO 0 c).arrAt_in 0 rfl _).trans ((A_eq m hO c 0).trans (V_main_arg2 m c))),
    ((h c).2 main_arg3 (by decide : main_arg3 ∈ Pipeline.restRefs sig spec0)).trans (V_main_arg3 m c),
    ((h c).2 main_arg4 (by decide : main_arg4 ∈ Pipeline.restRefs sig spec0)).trans (V_main_arg4 m c)⟩

/-- The program runs, its argument arrays end unchanged and every counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => kept_of m hO h.1 c, h.2⟩) (run_main_quiescent m ρ hO)

/-- The program runs; its result is what the blocks left by the body make of it, and its argument arrays end unchanged. -/
theorem run_result (hO : Ok m) : θ_run defs (onTc (τ := τ) (main (F := F))) ⟨m, fun _ => 0, ρ⟩ (fun r => ∀ c : Dev nD,
      r.2.mem ((c.tc : Thread nD τ).loc main_v2) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 4, kept_of m hO h.1 c⟩) (run_main_quiescent m ρ hO)

end Cert.ExpertsIdeal.Run

end
-- ==== Proof.ExpertsTables.lean ====
/- The grouped experts' tables: what the precondition says of their words, and the word arithmetic of the index maps. -/
module

public import proofs.«01_k».proof.Proof.Gen.Pre_experts_named
public import Idealize.ShloMosaic.Lib.ReduceAll
public import Idealize.ShloMosaic.Lib.WordCmp

@[expose] public section

namespace Cert.ExpertsTables

open Cert.Pre_experts_named Cert.Pre_experts_named.Gen
open Idealize.ShloMosaic

variable {F : FTy → Type} [FloatOps F]

/-- The precondition, read back: every tile names one of the eight experts, and at least one tile is used. -/
theorem bounds (a0 : IVec S78 32) (a1 : IVec S1 32) (x : FVec F S39936x1024 .f32) (g : FVec F S8x1024x2048 .f32)
    (d : FVec F S8x1024x1024 .f32) (h : fn (F := F) a0 a1 x g d = fun _ => 1#1) :
    (∀ e, (a0 e).toNat < 8) ∧ ∀ e, 1 ≤ (a1 e).toInt := by
  have u : Subsingleton S_.Idx := ⟨fun y z => funext fun a => a.elim0⟩
  have e := congrFun h fun a => a.elim0
  dsimp only [fn, andi] at e
  rw [IntOp.andi_eq_one, IntOp.andi_eq_one] at e
  obtain ⟨⟨e1, e2⟩, e3⟩ := e
  refine ⟨fun i => ?_, fun i => ?_⟩
  · have l := IntOp.cmpi_sge.mp (Host.reduce_andi_all _ _ _ _ _ e1 i)
    have r := IntOp.cmpi_slt.mp (Host.reduce_andi_all _ _ _ _ _ e2 i)
    have l' : 0 ≤ (a0 i).toInt := l
    have r' : (a0 i).toInt < 8 := r
    have q := BitVec.toInt_eq_toNat_cond (a0 i)
    split at q <;> omega
  · exact IntOp.cmpi_sge.mp (Host.reduce_andi_all _ _ _ _ _ e3 i)

/-- A small number as a word, read signed. -/
theorem small (i : ℕ) (hi : i < 78) : (BitVec.ofNat 32 i).toInt = i ∧ (BitVec.ofNat 32 i).toNat = i :=
  ⟨WordCmp.toInt_ofNat_of_lt (by omega), WordCmp.toNat_ofNat_of_lt (by omega)⟩

/-- One less than a positive word, read signed. -/
theorem pred (n : BitVec 32) (hn : 1 ≤ n.toInt) : (n - 1#32).toInt = n.toInt - 1 ∧ (n - 1#32).toNat = n.toNat - 1 ∧ n.toInt = n.toNat := by
  have q := BitVec.toInt_eq_toNat_cond n
  have l := n.isLt
  have s : (n - 1#32).toNat = n.toNat - 1 := by
    rw [BitVec.toNat_sub, show (1#32).toNat = 1 from rfl]; split at q <;> omega
  have q' := BitVec.toInt_eq_toNat_cond (n - 1#32)
  rw [s] at q'
  split at q <;> split at q' <;> omega

/-- The rows' block of a tile is no later than the tile. -/
theorem row_le (i : ℕ) (hi : i < 78) (n : BitVec 32) (hn : 1 ≤ n.toInt) :
    (Scalar.minsi (BitVec.ofNat 32 i) (Scalar.subi n 1#32)).toNat ≤ i := by
  have a := small i hi
  have b := pred n hn
  show (IntOp.minsi (BitVec.ofNat 32 i) (n - 1#32)).toNat ≤ i
  unfold IntOp.minsi
  split
  · omega
  · rename_i h
    simp only [BitVec.slt_iff_toInt_lt, BitVec.sle_iff_toInt_le] at h
    omega

/-- Of a used tile it is the tile's own. -/
theorem row_eq (i : ℕ) (hi : i < 78) (n : BitVec 32) (hn : 1 ≤ n.toInt) (h : (i : ℤ) < n.toInt) :
    (Scalar.minsi (BitVec.ofNat 32 i) (Scalar.subi n 1#32)).toNat = i := by
  have a := small i hi
  have b := pred n hn
  show (IntOp.minsi (BitVec.ofNat 32 i) (n - 1#32)).toNat = i
  unfold IntOp.minsi
  split
  · omega
  · rename_i h'
    simp only [BitVec.slt_iff_toInt_lt, BitVec.sle_iff_toInt_le] at h'
    omega

end Cert.ExpertsTables
-- ==== Proof.ExpertsIdealNamed.lean ====
/- The grouped experts: what the precondition gives, every block that the tables name is inside its array. -/
module

public import proofs.«01_k».proof.Proof.ExpertsIdealFrame
public import proofs.«01_k».proof.Proof.ExpertsTables

@[expose] public section

set_option maxRecDepth 16384

noncomputable section

namespace Cert.ExpertsIdeal.Run

open Idealize.ShloMosaic Idealize.ShloMosaic.TcCoe
open Cert.ExpertsIdeal.Gen

variable {F : FTy → Type} [FloatOps F]
variable (m : (ℓ : Loc nD τ sig) → Buf (Elt F) ℓ)

/-- The words of the two tables: every tile names an expert, and at least one tile is used. -/
structure Named : Prop where
  name : ∀ e : S78.Idx, (show BitVec 32 from m (((0 : Dev nD) : Thread nD τ).loc main_arg0) e).toNat < 8
  used : ∀ e : S1.Idx, 1 ≤ (show BitVec 32 from m (((0 : Dev nD) : Thread nD τ).loc main_arg1) e).toInt

/-- The word that names tile `i`'s expert, as the index maps read it. -/
abbrev nameAt (i : grid0.Coords) : BitVec 32 := (tbl m).at 0 (Rect.unit (s := S78) (k0_off1 i) S1.size (k0_off1_inb i)) numel1_S1
/-- The word that says how many tiles are used, as the index maps read it. -/
abbrev countAt : BitVec 32 := (tbl m).at 1 (Rect.unit (s := S1) ![0] S1.size inb_S1_S1_0) numel1_S1

variable {m}

theorem nameAt_lt (hn : Named m) (i : grid0.Coords) : (nameAt m i).toNat < 8 := by
  have e : tbl m 0 = m (((0 : Dev nD) : Thread nD τ).loc main_arg0) := V_main_arg0 m 0
  exact lt_of_eq_of_lt (congrArg BitVec.toNat (congrFun e _)) (hn.name _)
theorem countAt_pos (hn : Named m) : 1 ≤ (countAt m).toInt := by
  have e : tbl m 1 = m (((0 : Dev nD) : Thread nD τ).loc main_arg1) := V_main_arg1 m 0
  exact le_of_le_of_eq (hn.used _) (congrArg BitVec.toInt (congrFun e _)).symm

/-- The rows' block is inside its array. -/
theorem rows_inside (hn : Named m) (i : grid0.Coords) (a : Fin 2) :
    (cc0_transform_0 inb_S1_S1_0 numel1_S1 (tbl m) i a + 1) * S512x1024.size a ≤ S39936x1024.size a := by
  have h : (Scalar.minsi (BitVec.ofNat 32 (i 0).val) (Scalar.subi (countAt m) 1#32)).toNat ≤ (i 0).val :=
    Cert.ExpertsTables.row_le _ (i 0).isLt _ (countAt_pos hn)
  have hi : (i 0).val < 78 := (i 0).isLt
  match a with
  | ⟨0, _⟩ =>
    show ((Scalar.minsi (BitVec.ofNat 32 (i 0).val) (Scalar.subi (countAt m) 1#32)).toNat + 1) * 512 ≤ 39936
    omega
  | ⟨1, _⟩ => show (0 + 1) * 1024 ≤ 1024; omega

/-- The gate weight's block is inside its array. -/
theorem gate_inside (hn : Named m) (i : grid0.Coords) (a : Fin 3) :
    (cc0_transform_1 k0_off1_inb numel1_S1 (tbl m) i a + 1) * S1x1024x1024.size a ≤ S8x1024x2048.size a := by
  have h := nameAt_lt hn i
  match a with
  | ⟨0, _⟩ => show ((nameAt m i).toNat + 1) * 1 ≤ 8; omega
  | ⟨1, _⟩ => show (0 + 1) * 1024 ≤ 1024; omega
  | ⟨2, _⟩ => show (0 + 1) * 1024 ≤ 2048; omega

/-- The up weight's block is inside its array. -/
theorem up_inside (hn : Named m) (i : grid0.Coords) (a : Fin 3) :
    (cc0_transform_2 k0_off1_inb numel1_S1 (tbl m) i a + 1) * S1x1024x1024.size a ≤ S8x1024x2048.size a := by
  have h := nameAt_lt hn i
  match a with
  | ⟨0, _⟩ => show ((nameAt m i).toNat + 1) * 1 ≤ 8; omega
  | ⟨1, _⟩ => show (0 + 1) * 1024 ≤ 1024; omega
  | ⟨2, _⟩ => show (1 + 1) * 1024 ≤ 2048; omega

/-- The down weight's block is inside its array. -/
theorem down_inside (hn : Named m) (i : grid0.Coords) (a : Fin 3) :
    (cc0_transform_3 k0_off1_inb numel1_S1 (tbl m) i a + 1) * S1x1024x1024.size a ≤ S8x1024x1024.size a := by
  have h := nameAt_lt hn i
  match a with
  | ⟨0, _⟩ => show ((nameAt m i).toNat + 1) * 1 ≤ 8; omega
  | ⟨1, _⟩ => show (0 + 1) * 1024 ≤ 1024; omega
  | ⟨2, _⟩ => show (0 + 1) * 1024 ≤ 1024; omega

/-- Every block that the tables name is inside its array. -/
theorem ok (hn : Named m) : Ok m :=
  ⟨fun i => ⟨rows_inside hn i, .inl rfl⟩,
    fun i => ⟨gate_inside hn i, .inr (Affine.block_words_dvd (of_decide_eq_true rfl) (by decide))⟩,
    fun i => ⟨up_inside hn i, .inr (Affine.block_words_dvd (of_decide_eq_true rfl) (by decide))⟩,
    fun i => ⟨down_inside hn i, .inr (Affine.block_words_dvd (of_decide_eq_true rfl) (by decide))⟩⟩

end Cert.ExpertsIdeal.Run

end
-- ==== Proof.ExpertsBlock.lean ====
/- The grouped experts: what a tile's block stores, and from it the whole result array. -/
module

public import proofs.«01_k».proof.Proof.ExpertsIdealNamed
public import proofs.«01_k».proof.Proof.Dense
public import Idealize.ShloMosaic.Lib.Pipeline.ValueKit
public import Idealize.ShloMosaic.Lib.Claim

@[expose] public section

set_option maxRecDepth 16384

noncomputable section

namespace Cert.ExpertsIdeal.Blk

open Cert.ExpertsIdeal Cert.ExpertsIdeal.Gen Cert.ExpertsIdeal.Run Idealize.ShloMosaic Idealize.ShloMosaic.TcCoe Idealize.SL.Sem
open Idealize.ShloMosaic.Pipeline (Dat)
open Cert.Dense

/-- Entry `d` of the gated product of a row with one expert's weights. -/
def expertAt (x : Fin 1024 → EReal) (a b w : Fin 1024 → Fin 1024 → EReal) (d : Fin 1024) : EReal :=
  dot (fun f : Fin 1024 => silu (dot x (fun k => a k f)) * dot x (fun k => b k f)) (fun f => w f d)

/-- The result at row `r`, column `d`: in a used tile the gated product with the weights of the tile's expert, else zero. -/
def outAt (te : IVec S78 32) (nu : IVec S1 32) (x : FVec Ideal S39936x1024 .f32) (wgu : FVec Ideal S8x1024x2048 .f32)
    (wd : FVec Ideal S8x1024x1024 .f32) (r : Fin 39936) (d : Fin 1024) : EReal :=
  if ((r.val / 512 : ℕ) : ℤ) < (nu (ix1 0)).toInt then
    expertAt (fun k => x (ix2 r k))
      (fun k f => wgu (ix3 (Fin.ofNat 8 (te (ix1 ⟨r.val / 512, by omega⟩)).toNat) k ⟨f.val, by omega⟩))
      (fun k f => wgu (ix3 (Fin.ofNat 8 (te (ix1 ⟨r.val / 512, by omega⟩)).toNat) k ⟨1024 + f.val, by omega⟩))
      (fun k f => wd (ix3 (Fin.ofNat 8 (te (ix1 ⟨r.val / 512, by omega⟩)).toNat) k f)) d
  else 0

/-- The result array. -/
def out (te : IVec S78 32) (nu : IVec S1 32) (x : FVec Ideal S39936x1024 .f32) (wgu : FVec Ideal S8x1024x2048 .f32)
    (wd : FVec Ideal S8x1024x1024 .f32) : FVec Ideal S39936x1024 .f32 := fun j => outAt te nu x wgu wd (j 0) (j 1)

/-- A used block's stored value at an index. -/
theorem pay_at (x : FVec Ideal S512x1024 .f32) (a b w : FVec Ideal S1x1024x1024 .bf16) (r : Fin 512) (d : Fin 1024) :
    k0_pay1 (F := Ideal) x a b w (ix2 r d)
      = expertAt (fun k => x (ix2 r k)) (fun k f => a (ix3 0 k f)) (fun k f => b (ix3 0 k f)) (fun k f => w (ix3 0 k f)) d := by
  pointwise [k0_pay1]
  rfl

/-- An unused block's. -/
theorem pay_zero (r : Fin 512) (d : Fin 1024) : k0_pay2 (F := Ideal) (ix2 r d) = 0 := by
  pointwise [k0_pay2]

variable (m : (ℓ : Loc nD τ sig) → Buf (Elt Ideal) ℓ)

/-- The grid's one coordinate at a point is the point's number. -/
theorem point : ∀ t : Fin grid0.N, (grid0.coords t 0).val = t.val := by decide +kernel

theorem idx0 (hO : Ok m) (t : Fin (cfgM m hO).N) : ((cfgM m hO).win 0).index t
    = ![(Scalar.minsi (BitVec.ofNat 32 (grid0.coords t 0).val) (Scalar.subi (countAt m) 1#32)).toNat, 0] := rfl
theorem idx1 (hO : Ok m) (t : Fin (cfgM m hO).N) : ((cfgM m hO).win 1).index t = ![(nameAt m (grid0.coords t)).toNat, 0, 0] := rfl
theorem idx2 (hO : Ok m) (t : Fin (cfgM m hO).N) : ((cfgM m hO).win 2).index t = ![(nameAt m (grid0.coords t)).toNat, 0, 1] := rfl
theorem idx3 (hO : Ok m) (t : Fin (cfgM m hO).N) : ((cfgM m hO).win 3).index t = ![(nameAt m (grid0.coords t)).toNat, 0, 0] := rfl
theorem idx4 (hO : Ok m) (t : Fin (cfgM m hO).N) : ((cfgM m hO).win 4).index t = ![t.val, 0] := by
  have h : ∀ t : Fin grid0.N, cc0_transform_4 (grid0.coords t) = ![t.val, 0] := by decide +kernel
  exact h t

/-- Where an element of a block sits in its array, at any contents of the tables. -/
theorem place (A : (pcfg0 (F := Ideal)).Adm) (w : Fin 5) (t : Fin (cfg0 A).N) (y : (((cfg0 A).win w).xblock ((cfg0 A).grid.coords t)).Idx)
    (a : Fin ((cfg0 A).win w).shape.rank) (hk : ((cfg0 A).win w).kind = .blocked) :
    ((((cfg0 A).win w).rect t).emb y a : ℕ) = ((cfg0 A).win w).index t a * ((cfg0 A).win w).size a + y a :=
  Pipeline.Window.rect_emb_val _ t y a hk

/-- A used tile's staged rows are the tile's rows. -/
theorem rows (hO : Ok m) (c : Dev nD) (t : Fin (cfgM m hO).N)
    (ht : (Scalar.minsi (BitVec.ofNat 32 (grid0.coords t 0).val) (Scalar.subi (countAt m) 1#32)).toNat = t.val)
    (r : Fin 512) (d : Fin 1024) (j : Fin 39936) (hj : j.val = t.val * 512 + r.val) :
    iblk m hO c 0 t (ix2 r d) = m ((c : Thread nD τ).loc main_arg2) (ix2 j d) := by
  have e : iblk m hO c 0 t (ix2 r d) = V m c main_arg2 ((((cfg0 (adm m hO)).win 0).rect t).emb (ix2 r d)) := rfl
  rw [e, V_main_arg2]
  refine congrArg (m ((c : Thread nD τ).loc main_arg2)) (funext fun a => Fin.ext ?_)
  refine (place (adm m hO) 0 t (ix2 r d) a rfl).trans ?_
  match a with
  | ⟨0, _⟩ =>
    show (Scalar.minsi (BitVec.ofNat 32 (grid0.coords t 0).val) (Scalar.subi (countAt m) 1#32)).toNat * 512 + r.val = j.val
    omega
  | ⟨1, _⟩ => show 0 * 1024 + d.val = d.val; omega

/-- The cast of the joined weight is the joined weight. -/
theorem V_main_v0 (c : Dev nD) : V m c main_v0 = m ((c : Thread nD τ).loc main_arg3) := by
  funext i
  entry_read
  pointwise

/-- The cast of the down weight is the down weight. -/
theorem V_main_v1 (c : Dev nD) : V m c main_v1 = m ((c : Thread nD τ).loc main_arg4) := by
  funext i
  entry_read
  pointwise

/-- The staged gate weight is the columns 0 to 1023 of the named expert's joined weight. -/
theorem wgate (hO : Ok m) (c : Dev nD) (t : Fin (cfgM m hO).N) (k f : Fin 1024) (e : Fin 8) (he : e.val = (nameAt m (grid0.coords t)).toNat) :
    iblk m hO c 1 t (ix3 0 k f) = m ((c : Thread nD τ).loc main_arg3) (ix3 e k ⟨f.val, by omega⟩) := by
  have h : iblk m hO c 1 t (ix3 0 k f) = V m c main_v0 ((((cfg0 (adm m hO)).win 1).rect t).emb (ix3 0 k f)) := rfl
  rw [h, V_main_v0]
  refine congrArg (m ((c : Thread nD τ).loc main_arg3)) (funext fun a => Fin.ext ?_)
  refine (place (adm m hO) 1 t (ix3 0 k f) a rfl).trans ?_
  match a with
  | ⟨0, _⟩ => show (nameAt m (grid0.coords t)).toNat * 1 + 0 = e.val; omega
  | ⟨1, _⟩ => show 0 * 1024 + k.val = k.val; omega
  | ⟨2, _⟩ => show 0 * 1024 + f.val = f.val; omega

/-- The staged up weight is the columns 1024 to 2047. -/
theorem wup (hO : Ok m) (c : Dev nD) (t : Fin (cfgM m hO).N) (k f : Fin 1024) (e : Fin 8) (he : e.val = (nameAt m (grid0.coords t)).toNat) :
    iblk m hO c 2 t (ix3 0 k f) = m ((c : Thread nD τ).loc main_arg3) (ix3 e k ⟨1024 + f.val, by omega⟩) := by
  have h : iblk m hO c 2 t (ix3 0 k f) = V m c main_v0 ((((cfg0 (adm m hO)).win 2).rect t).emb (ix3 0 k f)) := rfl
  rw [h, V_main_v0]
  refine congrArg (m ((c : Thread nD τ).loc main_arg3)) (funext fun a => Fin.ext ?_)
  refine (place (adm m hO) 2 t (ix3 0 k f) a rfl).trans ?_
  match a with
  | ⟨0, _⟩ => show (nameAt m (grid0.coords t)).toNat * 1 + 0 = e.val; omega
  | ⟨1, _⟩ => show 0 * 1024 + k.val = k.val; omega
  | ⟨2, _⟩ => show 1 * 1024 + f.val = 1024 + f.val; omega

/-- The staged down weight is the named expert's. -/
theorem wdown (hO : Ok m) (c : Dev nD) (t : Fin (cfgM m hO).N) (k f : Fin 1024) (e : Fin 8) (he : e.val = (nameAt m (grid0.coords t)).toNat) :
    iblk m hO c 3 t (ix3 0 k f) = m ((c : Thread nD τ).loc main_arg4) (ix3 e k f) := by
  have h : iblk m hO c 3 t (ix3 0 k f) = V m c main_v1 ((((cfg0 (adm m hO)).win 3).rect t).emb (ix3 0 k f)) := rfl
  rw [h, V_main_v1]
  refine congrArg (m ((c : Thread nD τ).loc main_arg4)) (funext fun a => Fin.ext ?_)
  refine (place (adm m hO) 3 t (ix3 0 k f) a rfl).trans ?_
  match a with
  | ⟨0, _⟩ => show (nameAt m (grid0.coords t)).toNat * 1 + 0 = e.val; omega
  | ⟨1, _⟩ => show 0 * 1024 + k.val = k.val; omega
  | ⟨2, _⟩ => show 0 * 1024 + f.val = f.val; omega

/-- A tile is used where its number is below the count. -/
theorem used_iff (i : grid0.Coords) (n : BitVec 32) : k0_cond1 i n = 1#1 ↔ ((i 0).val : ℤ) < n.toInt := by
  have hi : (i 0).val < 78 := (i 0).isLt
  have s := (Cert.ExpertsTables.small (i 0).val hi).1
  have q : Scalar.cmpi .slt (BitVec.ofNat 32 (i 0).val) n = 1#1 ↔ ((i 0).val : ℤ) < n.toInt := by
    refine Iff.trans (IntOp.cmpi_slt (x := BitVec.ofNat 32 (i 0).val) (y := n)) ?_
    rw [s]
  refine Iff.trans ?_ q
  unfold k0_cond1
  dsimp only
  generalize Scalar.cmpi .slt (BitVec.ofNat 32 (i 0).val) n = b
  revert b; decide

/-- The name of a row's tile, as the index maps read it. -/
theorem name_eq (c : Dev nD) (t : Fin grid0.N) (q : Fin 78) (hq : q.val = t.val) :
    nameAt m (grid0.coords t) = m ((c : Thread nD τ).loc main_arg0) (ix1 q) := by
  obtain rfl : c = 0 := Subsingleton.elim _ _
  have e : tbl m 0 = m (((0 : Dev nD) : Thread nD τ).loc main_arg0) := V_main_arg0 m 0
  refine (congrFun e _).trans (congrArg (m (((0 : Dev nD) : Thread nD τ).loc main_arg0)) (funext fun a => Fin.ext ?_))
  match a with
  | ⟨0, _⟩ =>
    have o := congrFun (k0_off1_eq (grid0.coords t)) 0
    show k0_off1 (grid0.coords t) 0 + 1 * 0 = q.val
    rw [o, hq]
    exact point t

/-- The count, as the index maps and the body read it. -/
theorem count_eq (c : Dev nD) : countAt m = m ((c : Thread nD τ).loc main_arg1) (ix1 0) := by
  obtain rfl : c = 0 := Subsingleton.elim _ _
  have e : tbl m 1 = m (((0 : Dev nD) : Thread nD τ).loc main_arg1) := V_main_arg1 m 0
  refine (congrFun e _).trans (congrArg (m (((0 : Dev nD) : Thread nD τ).loc main_arg1)) (funext fun a => ?_))
  match a with
  | ⟨0, _⟩ => exact Subsingleton.elim (α := Fin 1) _ _

/-- A block's stored value is the result at the place where the block sits. -/
theorem block (hn : Named m) (c : Dev nD) (t : Fin (cfgM m (ok hn)).N) (r : Fin 512) (d : Fin 1024) (j : Fin 39936) (e : Fin 1024)
    (hj : j.val = t.val * 512 + r.val) (he : e = d) :
    tile m (ok hn) c t (ix2 r d)
      = outAt (m ((c : Thread nD τ).loc main_arg0)) (m ((c : Thread nD τ).loc main_arg1)) (m ((c : Thread nD τ).loc main_arg2))
          (m ((c : Thread nD τ).loc main_arg3)) (m ((c : Thread nD τ).loc main_arg4)) j e := by
  subst he
  have hq : j.val / 512 = t.val := by omega
  have hw : word c (tbl m 1) = m ((c : Thread nD τ).loc main_arg1) (ix1 0) := count_eq m c
  have hp : (grid0.coords t 0).val = t.val := point t
  have hu := used_iff (grid0.coords t) (word c (tbl m 1))
  rw [hw, hp, ← hq] at hu
  unfold tile outAt
  rw [hw]
  by_cases h : ((j.val / 512 : ℕ) : ℤ) < (show BitVec 32 from m ((c : Thread nD τ).loc main_arg1) (ix1 0)).toInt
  · rw [if_pos (hu.mpr h), if_pos h]
    have hc : 1 ≤ (countAt m).toInt := countAt_pos hn
    have ht : (Scalar.minsi (BitVec.ofNat 32 (grid0.coords t 0).val) (Scalar.subi (countAt m) 1#32)).toNat = t.val := by
      rw [hp]
      exact Cert.ExpertsTables.row_eq t.val t.isLt _ hc (by rw [count_eq m c, ← hq]; exact h)
    have hname := name_eq m c t ⟨j.val / 512, by omega⟩ hq
    have hlt := nameAt_lt hn (grid0.coords t)
    rw [hname] at hlt
    have hexp : (Fin.ofNat 8 (show BitVec 32 from m ((c : Thread nD τ).loc main_arg0) (ix1 ⟨j.val / 512, by omega⟩)).toNat).val
        = (nameAt m (grid0.coords t)).toNat := by
      rw [hname]; exact Nat.mod_eq_of_lt hlt
    refine (pay_at _ _ _ _ r e).trans ?_
    refine congr (congr (congr (congr (congrArg expertAt ?_) ?_) ?_) ?_) rfl
    · exact funext fun k => rows m (ok hn) c t ht r k j hj
    · exact funext fun k => funext fun f => wgate m (ok hn) c t k f _ hexp
    · exact funext fun k => funext fun f => wup m (ok hn) c t k f _ hexp
    · exact funext fun k => funext fun f => wdown m (ok hn) c t k f _ hexp
  · rw [if_neg (fun h' => h (hu.mp h')), if_neg h]
    exact pay_zero r e

/-- Where a block's element sits in the result. -/
theorem sits (hO : Ok m) (t : Fin (cfgM m hO).N) (r : Fin 512) (d : Fin 1024) (j : Fin 39936) (hj : j.val = t.val * 512 + r.val) :
    (((cfg0 (adm m hO)).win 4).rect t).emb (ix2 r d) = ix2 j d := by
  refine funext fun a => Fin.ext ?_
  refine (place (adm m hO) 4 t (ix2 r d) a rfl).trans ?_
  have h := congrFun (idx4 m hO t) a
  match a with
  | ⟨0, _⟩ => exact (congrArg (fun n : ℕ => n * 512 + r.val) h).trans hj.symm
  | ⟨1, _⟩ => exact (congrArg (fun n : ℕ => n * 1024 + d.val) h).trans (show 0 * 1024 + d.val = d.val by omega)

/-- Every point's block is written back. -/
theorem flushes (hO : Ok m) (t : Fin (cfgM m hO).N) : ((cfgM m hO).win 4).flush t = true := by
  have h : ∀ t : Fin grid0.N, Pipeline.Window.flushOf grid0 true cc0_transform_4 t = true := by decide +kernel
  exact h t

/-- A block's stored value is the result read through the block. -/
theorem stored (hn : Named m) (c : Dev nD) (t : Fin (cfgM m (ok hn)).N) (y : S512x1024.Idx) :
    tile m (ok hn) c t y = out (m ((c : Thread nD τ).loc main_arg0)) (m ((c : Thread nD τ).loc main_arg1)) (m ((c : Thread nD τ).loc main_arg2))
          (m ((c : Thread nD τ).loc main_arg3)) (m ((c : Thread nD τ).loc main_arg4))
      ((((cfg0 (adm m (ok hn))).win 4).rect t).emb y) := by
  rw [eq_ix2 y]
  generalize y 0 = r
  generalize y 1 = d
  have hr : r.val < 512 := r.isLt
  have ht : t.val < 78 := t.isLt
  have e := sits m (ok hn) t r d ⟨t.val * 512 + r.val, by omega⟩ rfl
  exact (block m hn c t r d ⟨t.val * 512 + r.val, by omega⟩ d rfl rfl).trans (congrArg (out (m ((c : Thread nD τ).loc main_arg0)) (m ((c : Thread nD τ).loc main_arg1)) (m ((c : Thread nD τ).loc main_arg2))
          (m ((c : Thread nD τ).loc main_arg3)) (m ((c : Thread nD τ).loc main_arg4))) e.symm)

/-- Every place of the result is in some block. -/
theorem covered (hO : Ok m) (j : S39936x1024.Idx) :
    ∃ t : Fin (cfgM m hO).N, ∃ y : S512x1024.Idx, (((cfg0 (adm m hO)).win 4).rect t).emb y = j := by
  rw [eq_ix2 j]
  generalize j 0 = r
  generalize j 1 = d
  have hr : r.val < 39936 := r.isLt
  have ht : r.val / 512 < 78 := by omega
  exact ⟨⟨r.val / 512, ht⟩, ix2 ⟨r.val % 512, by omega⟩ d,
    sits m hO ⟨r.val / 512, ht⟩ ⟨r.val % 512, by omega⟩ d r (show r.val = r.val / 512 * 512 + r.val % 512 by omega)⟩

/-- THE RESULT ARRAY of a run: `out` of the arguments. -/
theorem final (hn : Named m) (c : Dev nD) : (dats m (ok hn) 0 c).arrAt 4 (cfgM m (ok hn)).N
    = out (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m (ok hn) 0 c).arrAt_eq_of_cover 4 _ (fun t _ => funext fun y => ?_) fun i => ?_
  · exact (congrFun (after_4 m (ok hn) c t) y).trans (stored m hn c t y)
  · obtain ⟨t, y, e⟩ := covered m (ok hn) i
    exact ⟨t, flushes m (ok hn) t, e ▸ View.emb_mem_set _ y⟩

end Cert.ExpertsIdeal.Blk

end
-- ==== Proof.ExpertsGather.lean ====
/- A stack of matrices gathered by number: one row of the result names one matrix of the stack. -/
module

public import Idealize.ShloMosaic.Lib.ValueIdx

@[expose] public section

noncomputable section

namespace Cert.Stack

open Idealize.ShloMosaic Idealize.ShloMosaic.ValueIdx

variable {α : Type}

/-- The dimension numbers of a gather of whole `K × L` matrices out of a stack of `N`, one for each of `R` numbers. -/
abbrev stackDims (N K L R : Nat)
    (wf : GatherDims.WF ⟨3, ![N, K, L]⟩ ⟨2, ![R, 1]⟩ ⟨3, ![R, K, L]⟩ [1, 2] [0] [] [0] [] 1 ![1, K, L]) :
    GatherDims ⟨3, ![N, K, L]⟩ ⟨2, ![R, 1]⟩ ⟨3, ![R, K, L]⟩ where
  offsetDims := [1, 2]
  collapsedSliceDims := [0]
  operandBatchingDims := []
  startIndicesBatchingDims := []
  startIndexMap := [0]
  indexVectorDim := 1
  sliceSizes := ![1, K, L]
  wf := wf

/-- The gathered array at `(t, k, f)` is the stack at the number of `t`, read signed and clamped, and `k`, `f`. -/
theorem gather_stack {N K L R w : Nat} (hN : 0 < N)
    (wf : GatherDims.WF ⟨3, ![N, K, L]⟩ ⟨2, ![R, 1]⟩ ⟨3, ![R, K, L]⟩ [1, 2] [0] [] [0] [] 1 ![1, K, L])
    (x : (⟨3, ![N, K, L]⟩ : Shape).Idx → α) (idx : IVec ⟨2, ![R, 1]⟩ w) (t : Fin R) (k : Fin K) (f : Fin L) :
    Host.gather (stackDims N K L R wf) x idx (ix3 t k f)
      = x (ix3 ⟨min (idx (ix2 t 0)).toInt.toNat (N - 1), by omega⟩ k f) := by
  have s0 : (stackDims N K L R wf).start (ix3 t k f) idx (0 : Fin 3) = min (idx (ix2 t 0)).toInt.toNat (N - 1) := by
    unfold GatherDims.start
    rw [dif_pos (show (0 : Fin 3) ∈ (stackDims N K L R wf).startIndexMap from List.mem_singleton.mpr rfl)]
    have hsi : (stackDims N K L R wf).siIdx (ix3 t k f) ⟨List.idxOf (0 : Fin 3) (stackDims N K L R wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  have s1 : (stackDims N K L R wf).start (ix3 t k f) idx (1 : Fin 3) = 0 := by
    unfold GatherDims.start
    exact dif_neg (show ¬ (1 : Fin 3) ∈ ([0] : List (Fin 3)) by decide)
  have s2 : (stackDims N K L R wf).start (ix3 t k f) idx (2 : Fin 3) = 0 := by
    unfold GatherDims.start
    exact dif_neg (show ¬ (2 : Fin 3) ∈ ([0] : List (Fin 3)) by decide)
  have o0 : (stackDims N K L R wf).offCoord (ix3 t k f) (0 : Fin 3) = 0 :=
    GatherDims.offCoord_eq_zero _ _ _ (fun h => ((GatherDims.mem_sKept _ _).mp h).1 (List.mem_singleton.mpr rfl))
  have o1 : (stackDims N K L R wf).offCoord (ix3 t k f) (1 : Fin 3) = k.val := rfl
  have o2 : (stackDims N K L R wf).offCoord (ix3 t k f) (2 : Fin 3) = f.val := rfl
  unfold Host.gather
  congr 1
  funext a
  refine Fin.ext ?_
  show (stackDims N K L R wf).start (ix3 t k f) idx a + (stackDims N K L R wf).batchCoord (ix3 t k f) a
    + (stackDims N K L R wf).offCoord (ix3 t k f) a = _
  rw [GatherDims.batchCoord_eq_zero _ _ _ List.not_mem_nil, Nat.add_zero]
  match a with
  | ⟨0, _⟩ => exact (congrArg₂ (· + ·) s0 o0).trans (Nat.add_zero _)
  | ⟨1, _⟩ => exact (congrArg₂ (· + ·) s1 o1).trans (Nat.zero_add _)
  | ⟨2, _⟩ => exact (congrArg₂ (· + ·) s2 o2).trans (Nat.zero_add _)

end Cert.Stack

end
-- ==== Proof.ExpertsEq.lean ====
/- The grouped experts: the reference read at an index, and the two arrays equal. -/
module

public import proofs.«01_k».proof.Proof.Gen.ExpertsRefIdeal.Read
public import proofs.«01_k».proof.Proof.ExpertsBlock
public import proofs.«01_k».proof.Proof.ExpertsGather

@[expose] public section

set_option maxRecDepth 16384

noncomputable section

namespace Cert.ExpertsRefIdeal.Rd

open Cert.ExpertsRefIdeal Cert.ExpertsRefIdeal.Gen Cert.ExpertsRefIdeal.Read Idealize.ShloMosaic Idealize.ShloMosaic.TcCoe
open Cert.Dense

variable (te : IVec S78 32) (nu : IVec S1 32) (x : FVec Ideal S39936x1024 .f32) (wgu : FVec Ideal S8x1024x2048 .f32)
    (wd : FVec Ideal S8x1024x1024 .f32)

/-- A word below eight, read signed. -/
theorem toInt_of_lt (b : BitVec 32) (h : b.toNat < 8) : b.toInt = (b.toNat : ℤ) := by
  rw [BitVec.toInt_eq_toNat_of_lt (by omega)]

/-- A name that is not negative is not wrapped. -/
theorem unwrapped (b : BitVec 32) (h : b.toNat < 8) : Scalar.select (IntOp.cmpi .slt b 0#32) (IntOp.addi b 8#32) b = b := by
  have n : ¬ IntOp.cmpi .slt b 0#32 = 1#1 := by
    intro q
    have l : b.toInt < (0#32 : BitVec 32).toInt := IntOp.cmpi_slt.mp q
    rw [toInt_of_lt b h] at l
    have z : (0#32 : BitVec 32).toInt = 0 := by decide
    omega
  rw [ValueIdx.eq_zero_of_ne_one n]
  exact ValueIdx.select_zero _ _

/-- The number a clamped name selects. -/
theorem clamped (b : BitVec 32) (h : b.toNat < 8) (hlt : min b.toInt.toNat (8 - 1) < 8) :
    (⟨min b.toInt.toNat (8 - 1), hlt⟩ : Fin 8) = Fin.ofNat 8 b.toNat := by
  refine Fin.ext ?_
  show min b.toInt.toNat (8 - 1) = b.toNat % 8
  rw [toInt_of_lt b h]
  omega

/-- The names by which the joined weights are gathered. -/
theorem name1 (h : ∀ e, (te e).toNat < 8) (t : Fin 78) : val_main_v6 (F := Ideal) te (ix2 t 0) = te (ix1 t) := by
  rw [val_main_v6_apply]
  have e : idx_main_v6 (ix2 t 0) = ix1 t := funext fun a => match a with | ⟨0, _⟩ => rfl
  rw [e, val_main_v5_apply, val_main_v2_apply, val_main_v4_apply, val_main_v1_apply, val_main_v3_apply,
    val_main_c_apply, val_main_c_0_apply]
  exact unwrapped _ (h _)

/-- The names by which the down weights are gathered. -/
theorem name2 (h : ∀ e, (te e).toNat < 8) (t : Fin 78) : val_main_v13 (F := Ideal) te (ix2 t 0) = te (ix1 t) := by
  rw [val_main_v13_apply]
  have e : idx_main_v13 (ix2 t 0) = ix1 t := funext fun a => match a with | ⟨0, _⟩ => rfl
  rw [e, val_main_v12_apply, val_main_v9_apply, val_main_v11_apply, val_main_v8_apply, val_main_v10_apply,
    val_main_c_1_apply, val_main_c_2_apply]
  exact unwrapped _ (h _)

/-- The gathered joined weight of a tile is its expert's. -/
theorem joined_of (h : ∀ e, (te e).toNat < 8) (t : Fin 78) (k : Fin 1024) (f : Fin 2048) :
    val_main_v7 (F := Ideal) te wgu (ix3 t k f) = wgu (ix3 (Fin.ofNat 8 (te (ix1 t)).toNat) k f) := by
  unfold val_main_v7
  refine (Cert.Stack.gather_stack (by decide) _ wgu (val_main_v6 (F := Ideal) te) t k f).trans ?_
  refine congrArg (fun e : Fin 8 => wgu (ix3 e k f)) ?_
  have n := name1 te h t
  refine Eq.trans (Fin.ext ?_) (clamped (te (ix1 t)) (h _) (by omega))
  exact congrArg (fun b : BitVec 32 => min b.toInt.toNat (8 - 1)) n

/-- The gathered down weight of a tile is its expert's. -/
theorem down_of (h : ∀ e, (te e).toNat < 8) (t : Fin 78) (k f : Fin 1024) :
    val_main_v14 (F := Ideal) te wd (ix3 t k f) = wd (ix3 (Fin.ofNat 8 (te (ix1 t)).toNat) k f) := by
  unfold val_main_v14
  refine (Cert.Stack.gather_stack (by decide) _ wd (val_main_v13 (F := Ideal) te) t k f).trans ?_
  refine congrArg (fun e : Fin 8 => wd (ix3 e k f)) ?_
  have n := name2 te h t
  refine Eq.trans (Fin.ext ?_) (clamped (te (ix1 t)) (h _) (by omega))
  exact congrArg (fun b : BitVec 32 => min b.toInt.toNat (8 - 1)) n

/-- A tile's rows. -/
theorem row_of (t : Fin 78) (r : Fin 512) (k : Fin 1024) (j : Fin 39936) (hj : j.val = t.val * 512 + r.val) :
    val_main_v0 (F := Ideal) x (ix3 t r k) = x (ix2 j k) := by
  rw [val_main_v0_apply]
  refine congrArg x (funext fun a => Fin.ext ?_)
  match a with
  | ⟨0, _⟩ => show ((t.val * 512 + r.val) * 1024 + k.val) / 1024 = j.val; omega
  | ⟨1, _⟩ => show ((t.val * 512 + r.val) * 1024 + k.val) % 1024 = k.val; omega

/-- The product of a tile's row with its expert's joined weight. -/
theorem joined_at (h : ∀ e, (te e).toNat < 8) (t : Fin 78) (r : Fin 512) (f : Fin 2048) (j : Fin 39936) (hj : j.val = t.val * 512 + r.val) :
    val_main_v15 (F := Ideal) te x wgu (ix3 t r f)
      = dot (fun k : Fin 1024 => x (ix2 j k)) (fun k => wgu (ix3 (Fin.ofNat 8 (te (ix1 t)).toNat) k f)) := by
  rw [val_main_v15_apply]
  refine Finset.sum_congr rfl fun k _ => ?_
  have el : lidx_main_v15 (ix3 t r f) k = ix3 t r k := funext fun a => match a with | ⟨0, _⟩ => rfl | ⟨1, _⟩ => rfl | ⟨2, _⟩ => rfl
  have er : ridx_main_v15 (ix3 t r f) k = ix3 t k f := funext fun a => match a with | ⟨0, _⟩ => rfl | ⟨1, _⟩ => rfl | ⟨2, _⟩ => rfl
  rw [el, er, row_of x t r k j hj, joined_of te wgu h t k f]

/-- The logistic function as the reference spells it. -/
theorem gate_at (t : Fin 78) (r : Fin 512) (f : Fin 1024) : val_main_call0_v5 (F := Ideal) te x wgu (ix3 t r f)
    = Ideal.logistic (val_main_v16 (F := Ideal) te x wgu (ix3 t r f)) := by
  pointwise [val_main_call0_v5, val_main_call0_v4, val_main_call0_v3, val_main_call0_v2, val_main_call0_v1,
    val_main_call0_v0, val_main_call0_cst, val_main_call0_cst_0]
  rfl

/-- The left half of the product. -/
theorem left_at (h : ∀ e, (te e).toNat < 8) (t : Fin 78) (r : Fin 512) (f : Fin 1024) (j : Fin 39936) (hj : j.val = t.val * 512 + r.val) :
    val_main_v16 (F := Ideal) te x wgu (ix3 t r f)
      = dot (fun k : Fin 1024 => x (ix2 j k)) (fun k => wgu (ix3 (Fin.ofNat 8 (te (ix1 t)).toNat) k ⟨f.val, by omega⟩)) := by
  rw [val_main_v16_apply]
  have e : idx_main_v16 (ix3 t r f) = ix3 t r ⟨f.val, by omega⟩ := funext fun a => match a with | ⟨0, _⟩ => rfl | ⟨1, _⟩ => rfl | ⟨2, _⟩ => rfl
  rw [e]
  exact joined_at te x wgu h t r _ j hj

/-- The right half of the product. -/
theorem right_at (h : ∀ e, (te e).toNat < 8) (t : Fin 78) (r : Fin 512) (f : Fin 1024) (j : Fin 39936) (hj : j.val = t.val * 512 + r.val) :
    val_main_v17 (F := Ideal) te x wgu (ix3 t r f)
      = dot (fun k : Fin 1024 => x (ix2 j k)) (fun k => wgu (ix3 (Fin.ofNat 8 (te (ix1 t)).toNat) k ⟨1024 + f.val, by omega⟩)) := by
  rw [val_main_v17_apply]
  have e : idx_main_v17 (ix3 t r f) = ix3 t r ⟨1024 + f.val, by omega⟩ := funext fun a => match a with | ⟨0, _⟩ => rfl | ⟨1, _⟩ => rfl | ⟨2, _⟩ => rfl
  rw [e]
  exact joined_at te x wgu h t r _ j hj

/-- The gated product. -/
theorem hidden_at (h : ∀ e, (te e).toNat < 8) (t : Fin 78) (r : Fin 512) (f : Fin 1024) (j : Fin 39936) (hj : j.val = t.val * 512 + r.val) :
    val_main_v19 (F := Ideal) te x wgu (ix3 t r f)
      = silu (dot (fun k : Fin 1024 => x (ix2 j k)) (fun k => wgu (ix3 (Fin.ofNat 8 (te (ix1 t)).toNat) k ⟨f.val, by omega⟩)))
        * dot (fun k : Fin 1024 => x (ix2 j k)) (fun k => wgu (ix3 (Fin.ofNat 8 (te (ix1 t)).toNat) k ⟨1024 + f.val, by omega⟩)) := by
  rw [val_main_v19_apply, val_main_v18_apply, gate_at, left_at te x wgu h t r f j hj, right_at te x wgu h t r f j hj]
  rfl

/-- A tile's row through its expert. -/
theorem expert_at (h : ∀ e, (te e).toNat < 8) (t : Fin 78) (r : Fin 512) (d : Fin 1024) (j : Fin 39936) (hj : j.val = t.val * 512 + r.val) :
    val_main_v20 (F := Ideal) te x wgu wd (ix3 t r d)
      = Cert.ExpertsIdeal.Blk.expertAt (fun k => x (ix2 j k))
          (fun k f => wgu (ix3 (Fin.ofNat 8 (te (ix1 t)).toNat) k ⟨f.val, by omega⟩))
          (fun k f => wgu (ix3 (Fin.ofNat 8 (te (ix1 t)).toNat) k ⟨1024 + f.val, by omega⟩))
          (fun k f => wd (ix3 (Fin.ofNat 8 (te (ix1 t)).toNat) k f)) d := by
  rw [val_main_v20_apply]
  unfold Cert.ExpertsIdeal.Blk.expertAt
  show _ = ∑ f : Fin 1024, _
  refine Finset.sum_congr rfl fun f _ => ?_
  have el : lidx_main_v20 (ix3 t r d) f = ix3 t r f := funext fun a => match a with | ⟨0, _⟩ => rfl | ⟨1, _⟩ => rfl | ⟨2, _⟩ => rfl
  have er : ridx_main_v20 (ix3 t r d) f = ix3 t f d := funext fun a => match a with | ⟨0, _⟩ => rfl | ⟨1, _⟩ => rfl | ⟨2, _⟩ => rfl
  rw [el, er, hidden_at te x wgu h t r f j hj, down_of te wd h t f d]

/-- Whether a tile is used. -/
theorem used_at (t : Fin 78) (r : Fin 512) (d : Fin 1024) :
    val_main_call1_v1 (F := Ideal) nu (ix3 t r d) = 1#1 ↔ (t.val : ℤ) < (nu (ix1 0)).toInt := by
  have e1 : idx_main_v25 (idx_main_call1_v1 (ix3 t r d)) = ix1 t := funext fun a => match a with | ⟨0, _⟩ => rfl
  have e2 : val_main_v23 (F := Ideal) nu (ix1 t) = nu (ix1 0) := by
    rw [val_main_v23_apply]
    unfold val_main_v22 shapeCast
    refine congrArg nu (funext fun a => ?_)
    match a with
    | ⟨0, _⟩ => exact Subsingleton.elim (α := Fin 1) _ _
  rw [val_main_call1_v1_apply, val_main_v25_apply, e1, val_main_v24_apply, val_main_v21_apply, e2]
  refine Iff.trans IntOp.cmpi_slt ?_
  have s := (Cert.ExpertsTables.small t.val t.isLt).1
  show (BitVec.ofNat 32 t.val).toInt < _ ↔ _
  rw [s]

/-- The reference's result at a row and a column. -/
theorem result_at (h : ∀ e, (te e).toNat < 8) (r : Fin 39936) (d : Fin 1024) :
    val_main_v27 (F := Ideal) te nu x wgu wd (ix2 r d) = Cert.ExpertsIdeal.Blk.outAt te nu x wgu wd r d := by
  have hr : r.val < 39936 := r.isLt
  have hd : d.val < 1024 := d.isLt
  have e : idx_main_v27 (ix2 r d) = ix3 ⟨r.val / 512, by omega⟩ ⟨r.val % 512, by omega⟩ d := by
    refine funext fun a => Fin.ext ?_
    match a with
    | ⟨0, _⟩ => show (r.val * 1024 + d.val) / 524288 = r.val / 512; omega
    | ⟨1, _⟩ => show (r.val * 1024 + d.val) / 1024 % 512 = r.val % 512; omega
    | ⟨2, _⟩ => show (r.val * 1024 + d.val) % 1024 = d.val; omega
  rw [val_main_v27_apply, e, val_main_v26_apply]
  have u := used_at nu ⟨r.val / 512, by omega⟩ ⟨r.val % 512, by omega⟩ d
  unfold Cert.ExpertsIdeal.Blk.outAt
  by_cases q : ((r.val / 512 : ℕ) : ℤ) < (nu (ix1 0)).toInt
  · rw [if_pos q, u.mpr q]
    refine (ValueIdx.select_one _ _).trans ?_
    exact expert_at te x wgu wd h _ _ d r (show r.val = r.val / 512 * 512 + r.val % 512 by omega)
  · rw [if_neg q, ValueIdx.eq_zero_of_ne_one (fun c => q (u.mp c))]
    refine (ValueIdx.select_zero _ _).trans ?_
    rw [val_main_call1_v2_apply, val_main_call1_v0_apply]
    pointwise [val_main_cst]

/-- The reference's result is the kernel's. -/
theorem result (h : ∀ e, (te e).toNat < 8) :
    val_main_v27 (F := Ideal) te nu x wgu wd = Cert.ExpertsIdeal.Blk.out te nu x wgu wd := by
  funext j
  rw [eq_ix2 j]
  exact result_at te nu x wgu wd h (j 0) (j 1)

end Cert.ExpertsRefIdeal.Rd

end
-- ==== Proof.Finite.lean ====
/- Finite extended reals: a number that is no infinity leaves no rest when it is split, and the norm of any row is finite
   where the gain is. No program is mentioned here. -/
module

public import proofs.«01_k».proof.Proof.Dense

@[expose] public section

noncomputable section

namespace Cert.Dense

open Idealize.ShloMosaic

/-- Neither of the two infinities. -/
def Finite (x : EReal) : Prop := x ≠ ⊤ ∧ x ≠ ⊥

/-- A real is finite. -/
theorem finite_coe (r : ℝ) : Finite (r : EReal) := ⟨EReal.coe_ne_top r, EReal.coe_ne_bot r⟩

/-- A product of finite numbers is finite. -/
theorem Finite.mul {x y : EReal} (hx : Finite x) (hy : Finite y) : Finite (x * y) := by
  lift x to ℝ using hx
  lift y to ℝ using hy
  rw [← EReal.coe_mul]
  exact finite_coe _

/-- The rest of a finite number is zero. -/
theorem Finite.rest {x : EReal} (hx : Finite x) : x - x = 0 := EReal.sub_self hx.1 hx.2

/-- A number whose magnitude is below infinity is finite. -/
theorem finite_of_abs {x : EReal} (h : max x (-x) < ⊤) : Finite x := by
  refine ⟨fun e => ?_, fun e => ?_⟩ <;> subst e <;> simp at h

/-- The word of infinity. -/
theorem ofBits_inf : Ideal.ofBits .f32 0x7F800000#32 = (⊤ : EReal) := by
  simp [Ideal.ofBits, Ideal.ieee]

/-- The comparison that the precondition makes. -/
theorem finite_of_cmp {x : EReal} (h : Ideal.cmp .olt (max x (-x)) (Ideal.ofBits .f32 0x7F800000#32) = 1#1) : Finite x := by
  rw [ofBits_inf] at h
  refine finite_of_abs ?_
  by_contra hn
  simp [Ideal.cmp, hn] at h

/-- The length of a row is the real 1024. -/
theorem c1024_eq : c1024 = ((1024 : ℝ) : EReal) := by
  unfold c1024
  simp [Ideal.ofBits, Ideal.ieee, -EReal.coe_mul]; norm_num

/-- The number under the root is a positive real. -/
theorem eps_pos : 0 < eps := by
  unfold eps
  simp [Ideal.ofBits, Ideal.ieee, -EReal.coe_mul]

/-- A square is not negative. -/
theorem square_nonneg (x : EReal) : 0 ≤ x * x := by
  induction x with
  | bot => simp
  | top => simp
  | coe r => rw [← EReal.coe_mul]; exact EReal.coe_nonneg.mpr (mul_self_nonneg r)

/-- The square of an infinity. -/
theorem square_top {x : EReal} (h : ¬ Finite x) : x * x = ⊤ := by
  induction x with
  | bot => simp
  | top => simp
  | coe r => exact absurd (finite_coe r) h

/-- The inverse root of a positive number is finite. -/
theorem rsqrt_finite {y : EReal} (h : 0 < y) : Finite (Ideal.rsqrt y) := by
  induction y with
  | bot => simp at h
  | top => exact finite_coe 0
  | coe r =>
    have hr : 0 < r := EReal.coe_pos.mp h
    show Finite (if r < 0 then ⊥ else if r = 0 then ⊤ else ((Real.sqrt r)⁻¹ : ℝ))
    rw [if_neg (not_lt.mpr hr.le), if_neg hr.ne']
    exact finite_coe _

/-- The norm of any row is finite where the gain is: an infinite entry makes the mean infinite, and the row zero. -/
theorem rms_finite {n : ℕ} (x g : Fin n → EReal) (d : Fin n) (hg : Finite (g d)) : Finite (rms c1024 x g d) := by
  have hs : 0 ≤ ∑ k, x k * x k := Finset.sum_nonneg fun k _ => square_nonneg (x k)
  have hc : c1024 ≠ 0 := by rw [c1024_eq]; exact EReal.coe_ne_zero.mpr (by norm_num)
  have hi : (0 : EReal) < c1024⁻¹ := by
    rw [c1024_eq, ← EReal.coe_inv]; exact EReal.coe_pos.mpr (by norm_num)
  have hd : Ideal.div (∑ k, x k * x k) c1024 = (∑ k, x k * x k) * c1024⁻¹ := if_neg hc
  unfold rms
  refine Finite.mul ?_ hg
  rw [hd]
  by_cases hx : Finite (x d)
  · exact hx.mul (rsqrt_finite (lt_of_lt_of_le eps_pos (le_add_of_nonneg_left (mul_nonneg hs hi.le))))
  · have ht : ∑ k, x k * x k = ⊤ := top_le_iff.mp
      ((square_top hx).symm.le.trans (Finset.single_le_sum (fun k _ => square_nonneg (x k)) (Finset.mem_univ d)))
    have he : eps ≠ ⊥ := (bot_lt_iff_ne_bot.mp (lt_of_le_of_lt bot_le eps_pos))
    rw [ht, EReal.top_mul_of_pos hi, EReal.top_add_of_ne_bot he]
    have h0 : Ideal.rsqrt ⊤ = 0 := rfl
    rw [h0, mul_zero]
    exact finite_coe 0

/-- The three products of split factors are the product, when neither factor has a rest. -/
theorem dot_split {n : ℕ} (x w : Fin n → EReal) (hx : ∀ k, Finite (x k)) (hw : ∀ k, Finite (w k)) :
    ∑ k, x k * w k + (∑ k, (x k - x k) * w k + ∑ k, x k * (w k - w k)) = dot x w := by
  have h1 : ∑ k, (x k - x k) * w k = 0 := Finset.sum_eq_zero fun k _ => by rw [(hx k).rest, zero_mul]
  have h2 : ∑ k, x k * (w k - w k) = 0 := Finset.sum_eq_zero fun k _ => by rw [(hw k).rest, mul_zero]
  rw [h1, h2, add_zero, add_zero]
  rfl

end Cert.Dense

end
-- ==== Proof.SampleBlock.lean ====
/- The sample batch's shared key and value projection: what the block of rows stores, from it the whole result array, and
   the new window of values that the lines after the call make of it and of the cache. -/
module

public import proofs.«01_k».proof.Proof.Gen.SampleIdeal.Frame
public import proofs.«01_k».proof.Proof.Finite
public import Idealize.ShloMosaic.Lib.Pipeline.ValueKit
public import Idealize.ShloMosaic.Lib.Pipeline.ReadBack
public import Idealize.ShloMosaic.Lib.Claim

@[expose] public section

set_option maxRecDepth 16384

noncomputable section

namespace Cert.SampleIdeal.Blk

open Cert.SampleIdeal Cert.SampleIdeal.Gen Idealize.ShloMosaic Idealize.ShloMosaic.TcCoe Idealize.SL.Sem
open Idealize.ShloMosaic.Pipeline (Dat)
open Cert.Dense

/-- The norm of row `r`. -/
def normAt (x : FVec Ideal S128x1024 .f32) (g : FVec Ideal S1024 .f32) (r : Fin 128) : Fin 1024 → EReal :=
  rms c1024 (fun k : Fin 1024 => x (ix2 r k)) (fun k => g (ix1 k))

/-- The result at row `r`, column `d`: the norm of the row times the weight's column. -/
def outAt (x : FVec Ideal S128x1024 .f32) (g : FVec Ideal S1024 .f32) (w : FVec Ideal S1024x512 .f32)
    (r : Fin 128) (d : Fin 512) : EReal :=
  dot (normAt x g r) (fun k => w (ix2 k d))

/-- The result array. -/
def out (x : FVec Ideal S128x1024 .f32) (g : FVec Ideal S1024 .f32) (w : FVec Ideal S1024x512 .f32) :
    FVec Ideal S128x512 .f32 := fun j => outAt x g w (j 0) (j 1)

/-- The new window of values at batch row `b`, position `r`, head `h`, column `d`: the cache moved up by one position, and
    in the last position the second half of the result's columns, laid out by heads. -/
def winAt (x : FVec Ideal S128x1024 .f32) (g : FVec Ideal S1024 .f32) (w : FVec Ideal S1024x512 .f32)
    (v : FVec Ideal S128x128x4x64 .f32) (b r : Fin 128) (h : Fin 4) (d : Fin 64) : EReal :=
  if p : 1 + r.val < 128 then v (ix4 b ⟨1 + r.val, p⟩ h d)
  else outAt x g w b ⟨256 + (h.val * 64 + d.val), by omega⟩

/-- The new window of values. -/
def win (x : FVec Ideal S128x1024 .f32) (g : FVec Ideal S1024 .f32) (w : FVec Ideal S1024x512 .f32)
    (v : FVec Ideal S128x128x4x64 .f32) : FVec Ideal S128x128x4x64 .f32 := fun j => winAt x g w v (j 0) (j 1) (j 2) (j 3)

/-- The window is the cache and the new values joined, the oldest position dropped, laid out by heads. -/
theorem win_eq (x : FVec Ideal S128x1024 .f32) (g : FVec Ideal S1024 .f32) (w : FVec Ideal S1024x512 .f32)
    (v : FVec Ideal S128x128x4x64 .f32) :
    shapeCast S128x128x4x64 (extractStridedSlice S128x128x256 ![0, 1, 0]
      (concatenate S128x129x256 1 [⟨S128x128x256, shapeCast S128x128x256 v shapeCasts_S128x128x4x64_S128x128x256⟩,
        ⟨S128x1x256, broadcastInDim S128x1x256 ![0, 2] bcast_S128x256_S128x1x256_0_2
          (extractStridedSlice S128x256 ![0, 256] (out x g w) slices_S128x512_S128x256_0_256)⟩]
        concatenates_S128x128x256_S128x1x256_S128x129x256_d1)
      slices_S128x129x256_S128x128x256_0_1_0) shapeCasts_S128x128x256_S128x128x4x64 = win x g w v := by
  funext j
  rw [eq_ix4 j]
  generalize j 0 = b
  generalize j 1 = r
  generalize j 2 = h
  generalize j 3 = d
  have hb : b.val < 128 := b.isLt
  have hr : r.val < 128 := r.isLt
  have hh : h.val < 4 := h.isLt
  have hd : d.val < 64 := d.isLt
  refine Eq.trans ?_ (show (if p : 1 + r.val < 128 then v (ix4 b ⟨1 + r.val, p⟩ h d)
      else out x g w (ix2 b ⟨256 + (h.val * 64 + d.val), by omega⟩)) = win x g w v (ix4 b r h d) from rfl)
  generalize out x g w = y
  pointwise

/-- One block's stored value at an index: the product of the two factors, and of each with the other's rest. -/
theorem pay_at (x : FVec Ideal S128x1024 .f32) (g : FVec Ideal S1x1024 .f32) (w : FVec Ideal S1024x512 .f32)
    (r : Fin 128) (d : Fin 512) :
    k0_pay5 (F := Ideal) w (k0_pay3 (F := Ideal) x g) (k0_pay4 (F := Ideal) x g) (ix2 r d)
      = (let n := rms c1024 (fun k : Fin 1024 => x (ix2 r k)) (fun k => g (ix2 0 k))
        ∑ k, n k * w (ix2 k d) + (∑ k, (n k - n k) * w (ix2 k d) + ∑ k, n k * (w (ix2 k d) - w (ix2 k d)))) := by
  pointwise [k0_pay5, k0_pay4, k0_pay3, k0_pay2, k0_pay1]
  rfl

variable (m : (ℓ : Loc nD τ sig) → Buf (Elt Ideal) ℓ)

/-- Where every window's block sits, at every point of the grid. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The staged rows are the argument's rows. -/
theorem rows (c : Dev nD) (t : Fin cfg0.N) (r : Fin 128) (d : Fin 1024) (j : Fin 128) (hj : j.val = t.val * 128 + r.val) :
    iblk m c 0 t (ix2 r d) = m ((c : Thread nD τ).loc main_arg0) (ix2 j d) := by
  unfold iblk
  simp only [V, V0, hostOps0, List.flatten_cons, List.flatten_nil, List.append_nil, List.cons_append, List.nil_append]
  entry_read
  blk_ext [idx t]

/-- The staged gain is the argument. -/
theorem gain (c : Dev nD) (t : Fin cfg0.N) (d : Fin 1024) :
    iblk m c 1 t (ix2 0 d) = m ((c : Thread nD τ).loc main_arg1) (ix1 d) := by
  unfold iblk
  simp only [V, V0, hostOps0, List.flatten_cons, List.flatten_nil, List.append_nil, List.cons_append, List.nil_append]
  entry_read
  blk_simp
  pointwise
  blk_ext [idx t]

/-- The staged weight is the argument. -/
theorem weight (c : Dev nD) (t : Fin cfg0.N) (r : Fin 1024) (d : Fin 512) :
    iblk m c 2 t (ix2 r d) = m ((c : Thread nD τ).loc main_arg2) (ix2 r d) := by
  unfold iblk
  simp only [V, V0, hostOps0, List.flatten_cons, List.flatten_nil, List.append_nil, List.cons_append, List.nil_append]
  entry_read
  blk_ext [idx t]

/-- The gain and the weight hold no infinity. -/
structure Fine (c : Dev nD) : Prop where
  gain : ∀ k : Fin 1024, Finite (m ((c : Thread nD τ).loc main_arg1) (ix1 k))
  weight : ∀ (k : Fin 1024) (d : Fin 512), Finite (m ((c : Thread nD τ).loc main_arg2) (ix2 k d))

variable {m}

/-- A block's stored value is the result at the place where the block sits. -/
theorem tile (c : Dev nD) (hf : Fine m c) (t : Fin cfg0.N) (r : Fin 128) (d : Fin 512) (j : Fin 128) (e : Fin 512)
    (hj : j.val = t.val * 128 + r.val) (he : e = d) :
    k0_pay5 (F := Ideal) (iblk m c 2 t) (k0_pay3 (F := Ideal) (iblk m c 0 t) (iblk m c 1 t))
        (k0_pay4 (F := Ideal) (iblk m c 0 t) (iblk m c 1 t)) (ix2 r d)
      = outAt (m ((c : Thread nD τ).loc main_arg0)) (m ((c : Thread nD τ).loc main_arg1)) (m ((c : Thread nD τ).loc main_arg2)) j e := by
  subst he
  have hx : (fun k : Fin 1024 => iblk m c 0 t (ix2 r k)) = fun k => m ((c : Thread nD τ).loc main_arg0) (ix2 j k) :=
    funext fun k => rows m c t r k j hj
  have hg : (fun k : Fin 1024 => iblk m c 1 t (ix2 0 k)) = fun k => m ((c : Thread nD τ).loc main_arg1) (ix1 k) :=
    funext fun k => gain m c t k
  have hw : ∀ k : Fin 1024, iblk m c 2 t (ix2 k e) = m ((c : Thread nD τ).loc main_arg2) (ix2 k e) :=
    fun k => weight m c t k e
  refine (pay_at _ _ _ r e).trans ?_
  rw [hx, hg]
  simp only [hw]
  exact dot_split (normAt _ _ j) _ (fun k => rms_finite _ _ k (hf.gain k)) fun k => hf.weight k e

/-- THE RESULT ARRAY of a run: `out` of the arguments. -/
theorem final (c : Dev nD) (hf : Fine m c) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  rw [View.readCov_cons_toLoadRect, View.readCov_skip _ _ _ _ _ (by decide), View.readCov_cons_toLoadRect]
  refine (congrArg _ (eq_ix2 y)).trans (tile c hf t (y 0) (y 1) _ _ ?_ ?_)
  · blk_simp [idx t] <;> try omega
  · refine Fin.ext ?_; blk_simp [idx t] <;> try omega

/-- What the lines after the kernel leave in the last buffer: the new window of values of the arguments. -/
theorem tail (c : Dev nD) (hf : Fine m c) : Pipeline.afterTail₀ cfgs (dats m) 0 (V0 m) [hostOps1] c main_v7
    = win (m ((c : Thread nD τ).loc main_arg0)) (m ((c : Thread nD τ).loc main_arg1)) (m ((c : Thread nD τ).loc main_arg2))
      (m ((c : Thread nD τ).loc main_arg3)) := by
  have e : Pipeline.withArrays spec0 c (V0 m c) (fun w => (dats m 0 c).arrAt w cfg0.N) (Proc.devRef .tc main_arg3)
      = m ((c : Thread nD τ).loc main_arg3) :=
    (Pipeline.withArrays_of_ne _ c (V0 m c) _ main_arg3 (by decide)).trans (V_main_arg3 m c)
  refine Eq.trans ?_ (win_eq _ _ _ _)
  rw [← final c hf, ← e, ← Pipeline.withArrays_arr spec0 launch0.win.arr_inj c (V0 m c) (fun w => (dats m 0 c).arrAt w cfg0.N) 3]
  unfold Pipeline.afterTail₀
  simp only [hostOps1, List.flatten_cons, List.flatten_nil, List.append_nil]
  after_results
  rfl

/-- A run ends with the result array and the new window of values, and keeps its arguments. -/
theorem run (ρ : Dev nD → PrngReg) (hf : ∀ c, Fine m c) : θ_run (defs (F := Ideal)) (onTc (τ := τ) (main (F := Ideal))) (s₀ m ρ) (fun r => ∀ c : Dev nD,
    r.2.mem ((c : Thread nD τ).loc main_v1)
      = out (m ((c : Thread nD τ).loc main_arg0)) (m ((c : Thread nD τ).loc main_arg1)) (m ((c : Thread nD τ).loc main_arg2))
    ∧ r.2.mem ((c : Thread nD τ).loc main_v7)
      = win (m ((c : Thread nD τ).loc main_arg0)) (m ((c : Thread nD τ).loc main_arg1)) (m ((c : Thread nD τ).loc main_arg2))
        (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run _ _ _).mono (fun _ h c =>
    ⟨((h c).1 3).trans (final c (hf c)),
     ((h c).2 main_v7 (Pipeline.mem_restRefs_of main_v7 (by decide) (by decide))).trans (tail c (hf c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c))),
     ((h c).2 main_arg3 (Pipeline.mem_restRefs_of main_arg3 (by decide) (by decide))).trans (W_main_arg3 m (dats m) c)⟩)
    (run_main (F := Ideal) m ρ)

end Cert.SampleIdeal.Blk

end
-- ==== Proof.SampleEq.lean ====
/- The sample batch's shared key and value projection: its reference read at an index, the two pairs of arrays equal, and
   what the precondition says of the gain and the weight. -/
module

public import proofs.«01_k».proof.Defs
public import proofs.«01_k».proof.Proof.Gen.Pre_sample_finite
public import proofs.«01_k».proof.Proof.Gen.SampleRefIdeal.Read
public import proofs.«01_k».proof.Proof.SampleBlock
public import Idealize.ShloMosaic.Lib.ReduceAll

@[expose] public section

set_option maxRecDepth 16384

noncomputable section

namespace Cert.SampleRefIdeal.Rd

open Cert.SampleRefIdeal Cert.SampleRefIdeal.Gen Cert.SampleRefIdeal.Read Idealize.ShloMosaic Idealize.ShloMosaic.TcCoe
open Cert.Dense

variable (x : FVec Ideal S128x1024 .f32) (g : FVec Ideal S1024 .f32) (w : FVec Ideal S1024x512 .f32)
  (v : FVec Ideal S128x128x4x64 .f32)

/-- The norm of the rows. -/
theorem norm_at (r : Fin 128) (d : Fin 1024) : val_main_v12 (F := Ideal) x g (ix2 r d)
    = rms c1024 (fun k : Fin 1024 => x (ix2 r k)) (fun k => g (ix1 k)) d := by
  pointwise [val_main_v12, val_main_v11, val_main_v10, val_main_v9, val_main_v8, val_main_v7, val_main_v6,
    val_main_v5, val_main_v4, val_main_v3, val_main_v2, val_main_v1, val_main_v0, val_main_cst, val_main_cst_0,
    val_main_cst_1]
  rfl

/-- The reference's result is the kernel's. -/
theorem result : val_main_v13 (F := Ideal) x g w = Cert.SampleIdeal.Blk.out x g w := by
  funext j
  rw [eq_ix2 j]
  generalize j 0 = r
  generalize j 1 = d
  show _ = Cert.SampleIdeal.Blk.outAt x g w r d
  pointwise [val_main_v13]
  exact Finset.sum_congr rfl fun k _ => congrArg (· * _) (norm_at x g r k)

/-- The reference's new window of values is the kernel's. -/
theorem result2 : val_main_v17 (F := Ideal) x g w v = Cert.SampleIdeal.Blk.win x g w v := by
  funext j
  rw [eq_ix4 j]
  generalize j 0 = b
  generalize j 1 = r
  generalize j 2 = h
  generalize j 3 = d
  have hb : b.val < 128 := b.isLt
  have hr : r.val < 128 := r.isLt
  have hh : h.val < 4 := h.isLt
  have hd : d.val < 64 := d.isLt
  refine Eq.trans ?_ (show (if p : 1 + r.val < 128 then v (ix4 b ⟨1 + r.val, p⟩ h d)
      else Cert.SampleIdeal.Blk.out x g w (ix2 b ⟨256 + (h.val * 64 + d.val), by omega⟩))
    = Cert.SampleIdeal.Blk.win x g w v (ix4 b r h d) from rfl)
  rw [← result x g w]
  unfold val_main_v17 val_main_v16 val_main_v15 val_main_v14
  generalize val_main_v13 (F := Ideal) x g w = y
  pointwise

end Cert.SampleRefIdeal.Rd

namespace Cert.SamplePre

open Cert.Pre_sample_finite Cert.Pre_sample_finite.Gen Idealize.ShloMosaic
open Cert.Dense

/-- The precondition, read back: no element of the gain or of the weight is an infinity. -/
theorem finite (x : FVec Ideal S128x1024 .f32) (g : FVec Ideal S1024 .f32) (w : FVec Ideal S1024x512 .f32)
    (v : FVec Ideal S128x128x4x64 .f32) (h : fn (F := Ideal) x g w v = fun _ => 1#1) :
    (∀ i, Finite (g i)) ∧ ∀ i, Finite (w i) := by
  have u : Subsingleton S_.Idx := ⟨fun y z => funext fun a => a.elim0⟩
  have e := congrFun h fun a => a.elim0
  dsimp only [fn, andi] at e
  rw [IntOp.andi_eq_one] at e
  exact ⟨fun i => finite_of_cmp (Host.reduce_andi_all _ _ _ _ _ e.1 i),
    fun i => finite_of_cmp (Host.reduce_andi_all _ _ _ _ _ e.2 i)⟩

/-- The same of a memory that meets the precondition, on every device. -/
theorem fine (m : (ℓ : Loc Cert.SampleIdeal.nD Cert.SampleIdeal.τ Cert.SampleIdeal.sig) → Buf (Elt Ideal) ℓ)
    (h : Cert.Pre_SampleIdeal_sample_finite (hPre_sample_finite := Cert.Pre_sample_finite.Gen.facts) m)
    (c : Dev Cert.SampleIdeal.nD) : Cert.SampleIdeal.Blk.Fine m c :=
  have f := finite _ _ _ _ (h c)
  ⟨fun k => f.1 _, fun k d => f.2 _⟩

end Cert.SamplePre

end
-- ==== Proof.SampleInIdealRun.lean ====
/- The sample batch's input projection: what the body does at the first column of blocks, where it also fills the scratch
   and stores the gates, and at the later ones, where it reads the scratch as the first left it. -/
module

public import proofs.«01_k».proof.Proof.Gen.SampleInIdeal.Frame
public import proofs.«01_k».proof.Proof.Gen.SampleInIdeal.Skeleton
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.Claim
public import Idealize.ShloMosaic.Lib.WholeRead
public import Idealize.ShloMosaic.Lib.VecWindow

@[expose] public section

set_option maxRecDepth 16384

noncomputable section

namespace Cert.SampleInIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SampleInIdeal.Gen

variable {F : FTy → Type} [FloatOps F]

local notation "𝕄" => MT nD τ sig Unit (Elt F) ℕ (UR sig nD τ) ℕ

/-- Reading a whole block of two axes gives the block. -/
theorem read_block2 {κ : Kind} {sp : Space} {a b : ℕ} {e : EltTy} {m : Memref sig κ sp ⟨2, ![a, b]⟩ e} (h : m.IsWhole)
    (X : (⟨2, ![a, b]⟩ : Shape).Idx → Elt F e)
    (inb : ∀ k, (![0, 0] : Fin 2 → ℕ) k + (⟨2, ![a, b]⟩ : Shape).size k ≤ (⟨2, ![a, b]⟩ : Shape).size k) :
    View.readAt (Elt F) m.view (Rect.unit (s := ⟨2, ![a, b]⟩) ![0, 0] (⟨2, ![a, b]⟩ : Shape).size inb).toLoadRect (h.unread X) = X := by
  funext x
  refine (h.readAt_unread X _ x).trans (congrArg X ?_)
  funext k; apply Fin.ext; fin_cases k <;> simp [LoadRect.idx, Rect.toLoadRect]

/-- Reading a whole block of three axes gives the block. -/
theorem read_block3 {κ : Kind} {sp : Space} {a b d : ℕ} {e : EltTy} {m : Memref sig κ sp ⟨3, ![a, b, d]⟩ e} (h : m.IsWhole)
    (X : (⟨3, ![a, b, d]⟩ : Shape).Idx → Elt F e)
    (inb : ∀ k, (![0, 0, 0] : Fin 3 → ℕ) k + (⟨3, ![a, b, d]⟩ : Shape).size k ≤ (⟨3, ![a, b, d]⟩ : Shape).size k) :
    View.readAt (Elt F) m.view (Rect.unit (s := ⟨3, ![a, b, d]⟩) ![0, 0, 0] (⟨3, ![a, b, d]⟩ : Shape).size inb).toLoadRect (h.unread X) = X := by
  funext x
  refine (h.readAt_unread X _ x).trans (congrArg X ?_)
  funext k; apply Fin.ext; fin_cases k <;> simp [LoadRect.idx, Rect.toLoadRect]

/-- The two slots of the scratch. -/
abbrev slot0 : Rect S2x128x1024 := Rect.unit (s := S2x128x1024) ![0, 0, 0] S1x128x1024.size inb_S2x128x1024_S1x128x1024_0_0_0
abbrev slot1 : Rect S2x128x1024 := Rect.unit (s := S2x128x1024) ![1, 0, 0] S1x128x1024.size inb_S2x128x1024_S1x128x1024_1_0_0

/-- A slot's indices lie in it. -/
theorem in0 (j : slot0.toLoadRect.shape.Idx) : slot0.toLoadRect.idx j ∈ slot0.set := LoadRect.idx_mem_of_within (by decide) j
theorem in1 (j : slot1.toLoadRect.shape.Idx) : slot1.toLoadRect.idx j ∈ slot1.set := LoadRect.idx_mem_of_within (by decide) j

/-- A rectangle just written reads as what was written. -/
theorem read_last {κ : Kind} {sp : Space} {s : Shape} {e : EltTy} (v : View sig κ sp s e) (f : v.ty.Contents (Elt F)) (r : Rect s)
    (w : r.shape.Idx → Elt F e) (L : List (View.Piece (Elt F) s e)) (h : ∀ j, r.toLoadRect.idx j ∈ r.set) :
    v.readAt (Elt F) r.toLoadRect (v.writes (Elt F) f (⟨r, w⟩ :: L)) = w :=
  (View.readAt_writes_of_cover v f _ r.toLoadRect fun j => ⟨⟨r, w⟩, List.mem_cons_self, h j⟩).trans (View.readCov_cons_toLoadRect v r w L)

/-- The scratch holds `lo` in its first slot and `hi` in its second. -/
def Slots (c : Dev nD) (a8 : Memref sig .tc .vmem S2x128x1024 .bf16) (lo hi : Vec F S1x128x1024 .bf16) : sProp 𝕄 :=
  iprop(∃ f, ⌜View.readAt (Elt F) a8.view slot0.toLoadRect f = lo ∧ View.readAt (Elt F) a8.view slot1.toLoadRect f = hi⌝
    ∗ a8.view.loc (c : Thread nD τ) ↦[a8.view.set]{fullShare} f)

/-- The gates' block, from the rows, the gain and the gates' weight. -/
def gates (x : Vec F S128x1024 .f32) (g : Vec F S1x1024 .f32) (wa : Vec F S1x1024x128 .f32) : FVec F S128x128 .f32 :=
  k0_pay1 (k0_pay8 (k0_pay5 x g)) (k0_pay9 (k0_pay6 x g)) (k0_pay10 wa) (k0_pay11 wa) (constant S128x128 .f32 0x00000000#32)

/-- The four input blocks, each whole at its contents. -/
abbrev entry (c : Dev nD) (a2 : Memref sig .tc .vmem S128x1024 .f32) (a3 : Memref sig .tc .vmem S1x1024 .f32)
    (a4 : Memref sig .tc .vmem S1x1024x1024 .f32) (a5 : Memref sig .tc .vmem S1x1024x128 .f32)
    (x : Vec F S128x1024 .f32) (g : Vec F S1x1024 .f32) (w : Vec F S1x1024x1024 .f32) (wa : Vec F S1x1024x128 .f32) : sProp 𝕄 :=
  iprop(owns (c : Thread nD τ) a2 fullShare x ∗ owns (c : Thread nD τ) a3 fullShare g ∗ owns (c : Thread nD τ) a4 fullShare w ∗ owns (c : Thread nD τ) a5 fullShare wa)

set_option maxHeartbeats 1000000 in
/-- The first column of blocks: the body fills both slots, and stores the gates and the block of the product. -/
theorem first (c : Dev nD) (i : grid0.Coords) {a2 : Memref sig .tc .vmem S128x1024 .f32} (h2 : a2.IsWhole) {a3 : Memref sig .tc .vmem S1x1024 .f32} (h3 : a3.IsWhole)
    {a4 : Memref sig .tc .vmem S1x1024x1024 .f32} (h4 : a4.IsWhole) {a5 : Memref sig .tc .vmem S1x1024x128 .f32} (h5 : a5.IsWhole)
    {a6 : Memref sig .tc .vmem S128x1024 .f32} (h6 : a6.IsWhole) {a7 : Memref sig .tc .vmem S128x128 .f32} (h7 : a7.IsWhole)
    {a8 : Memref sig .tc .vmem S2x128x1024 .bf16} (h8 : a8.IsWhole)
    (x : Vec F S128x1024 .f32) (g : Vec F S1x1024 .f32) (w : Vec F S1x1024x1024 .f32) (wa : Vec F S1x1024x128 .f32)
    (hc : k0_cond1 i = 1#1) (E : Set ℕ) (K : PUnit → sProp 𝕄) :
    iprop(entry c a2 a3 a4 a5 x g w wa ∗ (∃ d, owns (c : Thread nD τ) a6 fullShare d) ∗ (∃ d, owns (c : Thread nD τ) a7 fullShare d) ∗ (∃ d, owns (c : Thread nD τ) a8 fullShare d)
        ∗ (iprop(entry c a2 a3 a4 a5 x g w wa ∗ owns (c : Thread nD τ) a6 fullShare (k0_pay2 w (k0_pay5 x g) (k0_pay6 x g))
            ∗ owns (c : Thread nD τ) a7 fullShare (gates x g wa) ∗ Slots c a8 (k0_pay5 x g) (k0_pay6 x g)) -∗ K ⟨⟩))
      ⊢ wp frame (wpE (defs₀ (F := F)) Variants.none c none) E (cc0_mm i a2 h2 a3 h3 a4 h4 a5 h5 a6 h6 a7 h7 a8 h8) K := by
  unfold entry Slots
  simp only [cc0_mm_eq_skeleton]; unfold cc0_mm_skel
  simp only [k0_part1_eq_skeleton]; unfold k0_part1_skel
  unfold owns
  iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%d6, %f6, -, H6⟩, Hk⟩
  obtain rfl := h2.eq_unread hf0; obtain rfl := h3.eq_unread hf1; obtain rfl := h4.eq_unread hf2; obtain rfl := h5.eq_unread hf3
  sl_exec (disch := first | sl_exact hc)
  sl_step
  iapply Hk
  isplitl [H0 H1 H2 H3]
  · isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    iexists _; isplitr; · ipureintro; exact h5.read_unread _
    iexact H3
  isplitl [H4]
  · iexists _; isplitr
    swap; · iexact H4
    ipureintro
    refine (View.read_writes_full _ _ (s := S128x1024) (off := ![0, 0]) _ _ _).trans ?_
    unfold first.sl.v5 first.sl.v7 first.sl.H6_2
    rw [View.readCov_cons_toLoadRect, View.readCov_skip _ _ _ _ _ (by decide), View.readCov_cons_toLoadRect,
      read_block2 h2, read_block2 h3, read_block3 h4]
  isplitl [H5]
  · iexists _; isplitr
    swap; · iexact H5
    ipureintro
    refine (View.read_writes_full _ _ (s := S128x128) (off := ![0, 0]) _ _ _).trans ?_
    unfold first.sl.v46 first.sl.v48 first.sl.H6_2 first.sl.cst_34
    rw [View.readCov_cons_toLoadRect, View.readCov_skip _ _ _ _ _ (by decide), View.readCov_cons_toLoadRect,
      read_block2 h2, read_block2 h3, read_block3 h5]
    rfl
  iexists _; isplitr
  swap; · iexact H6
  ipureintro
  unfold first.sl.H6_2
  refine ⟨?_, ?_⟩
  · rw [View.readAt_writes_of_cover _ _ _ _ (fun j => ⟨_, List.mem_cons_of_mem _ List.mem_cons_self, in0 j⟩),
      View.readCov_skip _ _ _ _ _ (by decide), View.readCov_cons_toLoadRect, read_block2 h2, read_block2 h3]
  · rw [read_last _ _ _ _ _ in1, read_block2 h2, read_block2 h3]

set_option maxHeartbeats 1000000 in
/-- A later column of blocks: the body reads both slots and stores the block of the product; the rest stays. -/
theorem later (c : Dev nD) (i : grid0.Coords) {a2 : Memref sig .tc .vmem S128x1024 .f32} (h2 : a2.IsWhole) {a3 : Memref sig .tc .vmem S1x1024 .f32} (h3 : a3.IsWhole)
    {a4 : Memref sig .tc .vmem S1x1024x1024 .f32} (h4 : a4.IsWhole) {a5 : Memref sig .tc .vmem S1x1024x128 .f32} (h5 : a5.IsWhole)
    {a6 : Memref sig .tc .vmem S128x1024 .f32} (h6 : a6.IsWhole) {a7 : Memref sig .tc .vmem S128x128 .f32} (h7 : a7.IsWhole)
    {a8 : Memref sig .tc .vmem S2x128x1024 .bf16} (h8 : a8.IsWhole)
    (w : Vec F S1x1024x1024 .f32) (lo hi : Vec F S1x128x1024 .bf16)
    (hc : ¬k0_cond1 i = 1#1) (E : Set ℕ) (K : PUnit → sProp 𝕄) :
    iprop(owns (c : Thread nD τ) a4 fullShare w ∗ (∃ d, owns (c : Thread nD τ) a6 fullShare d) ∗ Slots c a8 lo hi
        ∗ (iprop(owns (c : Thread nD τ) a4 fullShare w ∗ owns (c : Thread nD τ) a6 fullShare (k0_pay2 w lo hi) ∗ Slots c a8 lo hi) -∗ K ⟨⟩))
      ⊢ wp frame (wpE (defs₀ (F := F)) Variants.none c none) E (cc0_mm i a2 h2 a3 h3 a4 h4 a5 h5 a6 h6 a7 h7 a8 h8) K := by
  unfold Slots
  simp only [cc0_mm_eq_skeleton]; unfold cc0_mm_skel
  unfold owns
  iintro ⟨⟨%f2, %hf2, H2⟩, ⟨%d4, %f4, -, H4⟩, ⟨%f6, %hf6, H6⟩, Hk⟩
  obtain rfl := h4.eq_unread hf2
  sl_exec (disch := first | sl_exact hc)
  sl_step
  iapply Hk
  isplitl [H2]
  · iexists _; isplitr; · ipureintro; exact h4.read_unread _
    iexact H2
  isplitl [H4]
  · iexists _; isplitr
    swap; · iexact H4
    ipureintro
    refine (View.read_writes_full _ _ (s := S128x1024) (off := ![0, 0]) _ _ _).trans ?_
    rw [read_block3 h4, hf6.1, hf6.2]
  iexists _; isplitr
  swap; · iexact H6
  ipureintro; exact hf6

end Cert.SampleInIdeal.Run

end
-- ==== Proof.SampleInIdealFrame.lean ====
/- The sample batch's input projection: the frame. The scratch is filled at the first column of blocks and carried to the
   later ones, and so is the gates' block, which is written back at the last; the argument arrays end as they were. -/
module

public import proofs.«01_k».proof.Proof.SampleInIdealRun
public import Idealize.ShloMosaic.Lib.Pipeline.TableIdle

@[expose] public section

set_option maxRecDepth 16384

noncomputable section

namespace Cert.SampleInIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SampleInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's data -/

/-- The scratch's two slots once filled: from the rows and the gain as the first point is handed them. -/
def lo (c : Dev nD) : Vec F S1x128x1024 .bf16 := k0_pay5 (iblk m c 0 t0_0) (iblk m c 1 t0_0)
def hi (c : Dev nD) : Vec F S1x128x1024 .bf16 := k0_pay6 (iblk m c 0 t0_0) (iblk m c 1 t0_0)

/-- The gates' block. -/
def side (c : Dev nD) : Vec F S128x128 .f32 := gates (iblk m c 0 t0_0) (iblk m c 1 t0_0) (iblk m c 3 t0_0)

/-- The product's block at a point. -/
def tile (c : Dev nD) (t : Fin cfg0.N) : Vec F S128x1024 .f32 := k0_pay2 (X0_2 m c t) (lo m c) (hi m c)

/-- The scratch as the body is handed it. -/
abbrev scr : Memref sig .tc .vmem S2x128x1024 .bf16 := Memref.whole cc0_scratch0

/-- What the core holds between two points: before the first the scratch at anything, later the scratch filled. -/
def inv (c : Dev nD) (n : ℕ) : sProp 𝕄 :=
  if n = 0 then Pipeline.ΦA spec0 c else iprop(Slots c scr (lo m c) (hi m c) ∗ (∃ r, prngReg c r))

/-- The pipeline's data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => tile m c t
    | ⟨5, _⟩ => side m c
  Φ t := inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = tile m c t := by dsimp only [dats]
theorem after_5 (c : Dev nD) (t : Fin cfg0.N) : (dats m 0 c).after 5 t = side m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The gates' buffer holds nothing known only at the first point. -/
theorem fresh_5 : ∀ t : Fin grid0.N, cfg0.fresh 5 t.val = decide (t.val = 0) := by decide +kernel

/-- After the first point the gates' buffer still holds the gates' block. -/
theorem before_5 (c : Dev nD) (t : Fin cfg0.N) (ht : t.val ≠ 0) (d) : (dats m 0 c).before 5 t d = side m c := by
  rw [(dats m 0 c).before_out_traj 5 rfl (fun _ _ => rfl) (fun t _ _ _ => by rw [after_5, after_5]) t.val t rfl d,
    fresh_5 t, if_neg (by simpa using ht), after_5]

/-- The first column of blocks is the first point. -/
theorem first_iff : ∀ t : Fin grid0.N, k0_cond1 (grid0.coords t) = 1#1 ↔ t.val = 0 := by decide +kernel

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- Before the first point: the scratch at anything. -/
theorem inv_zero (c : Dev nD) : inv m c 0 = iprop((∃ d, owns (c : Thread nD τ) scr fullShare d) ∗ (∃ r, prngReg c r)) := by
  unfold inv; rw [if_pos rfl]
  unfold Pipeline.ΦA; rw [scopedRest0_eq]; simp only [scr, owns_whole]; try rfl

/-- Later: the scratch filled. -/
theorem inv_pos (c : Dev nD) (n : ℕ) (hn : n ≠ 0) : inv m c n = iprop(Slots c scr (lo m c) (hi m c) ∗ (∃ r, prngReg c r)) := if_neg hn

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [after_0, after_1, after_2, after_3, after_4, after_5,
    show (dats m 0 c).Φ t.succ = inv m c (t.val + 1) from rfl, inv_pos m c _ (Nat.succ_ne_zero _),
    show (dats m 0 c).owesAt () t.succ = (dats m 0 c).owesAt () t.castSucc from rfl,
    show (dats m 0 c).Φ t.castSucc = inv m c t.val from rfl]
  by_cases h : t.val = 0
  · obtain rfl : t = t0_0 := Fin.ext h
    rw [show inv m c (t0_0 : Fin grid0.N).val = inv m c 0 from rfl, inv_zero]
    unfold tile side lo hi
    iintro ⟨⟨HS, Hg⟩, Ho, ⟨%d0, H0⟩, ⟨%d1, H1⟩, ⟨%d2, H2⟩, ⟨%d3, H3⟩, ⟨%d4, H4⟩, ⟨%d5, H5⟩⟩
    iapply (first c (grid0.coords t0_0) _ _ _ _ _ _ _ (iblk m c 0 t0_0) (iblk m c 1 t0_0) (X0_2 m c t0_0) (iblk m c 3 t0_0) ((first_iff _).mpr rfl) Set.univ _)
    isplitl [H0 H1 H2 H3]
    · isplitl [H0]; · iexact H0
      isplitl [H1]; · iexact H1
      isplitl [H2]; · iexact H2
      iexact H3
    isplitl [H4]; · iexists _; iexact H4
    isplitl [H5]; · iexists _; iexact H5
    isplitl [HS]; · iexact HS
    iintro ⟨⟨H0, H1, H2, H3⟩, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [inv_pos m c _ h]
    simp only [before_5 m c t h]
    unfold tile
    iintro ⟨⟨HS, Hg⟩, Ho, ⟨%d0, H0⟩, ⟨%d1, H1⟩, ⟨%d2, H2⟩, ⟨%d3, H3⟩, ⟨%d4, H4⟩, ⟨%d5, H5⟩⟩
    iapply (later c (grid0.coords t) _ _ _ _ _ _ _ (X0_2 m c t) (lo m c) (hi m c) (fun hc => h ((first_iff _).mp hc)) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body. -/
theorem defs₀_row (t : Fin cfg0.N) : defs₀ (F := F) .tc cfg0.body (cfg0.bodyArgs t (cfg0.slots t)) = bodyAt0 t := by
  unfold defs₀; rw [Defs.onTc_tc]

/-- At a point after the first that does not write the gates back, their buffer is handed back as it was found. -/
theorem kept_5 (c : Dev nD) (t : Fin cfg0.N) (ht : t.val ≠ 0) :
    owns (c : Thread nD τ) (st0_5 t) fullShare ((dats m 0 c).after 5 t)
      ⊢ (iprop(∃ d, owns (c : Thread nD τ) (st0_5 t) fullShare ((dats m 0 c).before 5 t d)) : sProp 𝕄) := by
  simp only [before_5 m c t ht, after_5]
  iintro H; iexists (side m c); iexact H

/-- The body obligation, at every point. -/
theorem body_obligation (c : Dev nD) : BodyObligation (dats (F := F) m 0 c) (defs₀ (F := F)) Variants.none () Set.univ := fun t => by
  rw [bigSep_W0, bigSep_W0, defs₀_row]
  have hi : ∀ t : Fin grid0.N, cfg0.idle 5 (cfg0.grid.coords t) = decide (t.val ≠ 0) := by decide +kernel
  have hf : ∀ t : Fin grid0.N, (cfg0.win 5).flush t = decide (t.val = 3) := by decide +kernel
  by_cases h0 : t.val = 0
  · rw [show cfg0.idle (5 : Fin 6) (cfg0.grid.coords t) = false from (hi t).trans (by simpa using h0)]
    exact triple_restated (sound_body m c t) rfl .rfl fun _ => .rfl
  · rw [show cfg0.idle (5 : Fin 6) (cfg0.grid.coords t) = true from (hi t).trans (by simpa using h0)]
    by_cases h3 : t.val = 3
    · rw [show (cfg0.win (5 : Fin 6)).flush t = true from (hf t).trans (by simpa using h3)]
      exact triple_restated (sound_body m c t) rfl .rfl fun _ => .rfl
    · rw [show (cfg0.win (5 : Fin 6)).flush t = false from (hf t).trans (by simpa using h3)]
      refine triple_restated (sound_body m c t) rfl .rfl fun _ => ?_
      unfold bodyPost
      iintro ⟨HP, Ho, H0, H1, H2, H3, H4, H5⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      iapply (kept_5 m c t h0); iexact H5

/-! ## The run and the frame -/

/-- Before the first point nothing is known of the scratch. -/
theorem inv_in (c : Dev nD) : (Pipeline.ΦA spec0 c : sProp 𝕄) ⊢ inv m c 0 := by
  unfold inv; rw [if_pos rfl]

/-- At the end the scratch holds something. -/
theorem inv_out (c : Dev nD) : inv m c 4 ⊢ (Pipeline.ΦA spec0 c : sProp 𝕄) := by
  rw [inv_pos m c 4 (by decide), show (Pipeline.ΦA spec0 c : sProp 𝕄) = inv m c 0 from (if_pos rfl).symm, inv_zero]
  unfold Slots owns
  iintro ⟨⟨%f, -, HS⟩, Hg⟩
  isplitl [HS]
  · iexists _; iexists _; isplitr
    swap; · iexact HS
    ipureintro; rfl
  iexact Hg

set_option backward.isDefEq.respectTransparency.types false in
set_option maxHeartbeats 800000 in
/-- Every weakly fair execution ends, with the pipeline's arrays as computed and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => (inv_in m c))
    (hout := fun c => inv_out m c)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The program runs, its argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.SampleInIdeal.Run

end
-- ==== Proof.SampleInBlock.lean ====
/- The sample batch's input projection: what the blocks store, from it the two whole result arrays, and the convolution's new
   state that the lines after the call make of the first and of the old state. -/
module

public import proofs.«01_k».proof.Proof.SampleInIdealFrame
public import proofs.«01_k».proof.Proof.Finite
public import Idealize.ShloMosaic.Lib.Pipeline.ValueKit
public import Idealize.ShloMosaic.Lib.Claim

@[expose] public section

set_option maxRecDepth 16384

noncomputable section

namespace Cert.SampleInIdeal.Blk

open Cert.SampleInIdeal Cert.SampleInIdeal.Gen Cert.SampleInIdeal.Run Idealize.ShloMosaic Idealize.ShloMosaic.TcCoe Idealize.SL.Sem
open Idealize.ShloMosaic.Pipeline (Dat)
open Cert.Dense

/-- The norm of row `r`. -/
def normAt (x : FVec Ideal S128x1024 .f32) (g : FVec Ideal S1024 .f32) (r : Fin 128) : Fin 1024 → EReal :=
  rms c1024 (fun k : Fin 1024 => x (ix2 r k)) (fun k => g (ix1 k))

/-- The product of the norm of row `r` with column `d` of the first layer's weight. -/
def prodAt (x : FVec Ideal S128x1024 .f32) (g : FVec Ideal S1024 .f32) (w : FVec Ideal S2x1024x4112 .f32)
    (r : Fin 128) (d : Fin 4112) : EReal :=
  dot (normAt x g r) (fun k => w (ix3 0 k d))

/-- The first result: the first 4096 columns of the product. -/
def out (x : FVec Ideal S128x1024 .f32) (g : FVec Ideal S1024 .f32) (w : FVec Ideal S2x1024x4112 .f32) :
    FVec Ideal S128x4096 .f32 := fun j => prodAt x g w (j 0) ⟨(j 1).val, lt_trans (j 1).isLt (by decide)⟩

/-- The second result at row `r`, column `d`: the last sixteen columns of the product, and zeros behind them. -/
def auxAt (x : FVec Ideal S128x1024 .f32) (g : FVec Ideal S1024 .f32) (w : FVec Ideal S2x1024x4112 .f32)
    (r : Fin 128) (d : Fin 128) : EReal :=
  if h : d.val < 16 then prodAt x g w r ⟨4096 + d.val, by omega⟩ else 0

/-- The second result. -/
def aux (x : FVec Ideal S128x1024 .f32) (g : FVec Ideal S1024 .f32) (w : FVec Ideal S2x1024x4112 .f32) :
    FVec Ideal S128x128 .f32 := fun j => auxAt x g w (j 0) (j 1)

/-- The convolution's new state at batch row `b`, position `r`, column `d`: the old one moved up by one position, and in the
    last position the first 3072 columns of the product. -/
def convAt (x : FVec Ideal S128x1024 .f32) (g : FVec Ideal S1024 .f32) (w : FVec Ideal S2x1024x4112 .f32)
    (v : FVec Ideal S128x3x3072 .f32) (b : Fin 128) (r : Fin 3) (d : Fin 3072) : EReal :=
  if p : 1 + r.val < 3 then v (ix3 b ⟨1 + r.val, p⟩ d) else prodAt x g w b ⟨d.val, by omega⟩

/-- The convolution's new state. -/
def conv (x : FVec Ideal S128x1024 .f32) (g : FVec Ideal S1024 .f32) (w : FVec Ideal S2x1024x4112 .f32)
    (v : FVec Ideal S128x3x3072 .f32) : FVec Ideal S128x3x3072 .f32 := fun j => convAt x g w v (j 0) (j 1) (j 2)

/-- The state is the last two old positions joined with the first result's columns. -/
theorem conv_eq (x : FVec Ideal S128x1024 .f32) (g : FVec Ideal S1024 .f32) (w : FVec Ideal S2x1024x4112 .f32)
    (v : FVec Ideal S128x3x3072 .f32) :
    concatenate S128x3x3072 1 [⟨S128x2x3072, extractStridedSlice S128x2x3072 ![0, 1, 0] v slices_S128x3x3072_S128x2x3072_0_1_0⟩,
      ⟨S128x1x3072, broadcastInDim S128x1x3072 ![0, 2] bcast_S128x3072_S128x1x3072_0_2
        (extractStridedSlice S128x3072 ![0, 0] (out x g w) slices_S128x4096_S128x3072_0_0)⟩]
      concatenates_S128x2x3072_S128x1x3072_S128x3x3072_d1 = conv x g w v := by
  funext j
  rw [eq_ix3 j]
  generalize j 0 = b
  generalize j 1 = r
  generalize j 2 = d
  have hb : b.val < 128 := b.isLt
  have hr : r.val < 3 := r.isLt
  have hd : d.val < 3072 := d.isLt
  refine Eq.trans (b := if p : r.val < 2 then v (ix3 b ⟨1 + r.val, by omega⟩ d) else out x g w (ix2 b ⟨d.val, by omega⟩)) ?_ ?_
  · generalize out x g w = y
    pointwise
  · show _ = convAt x g w v b r d
    unfold convAt
    by_cases h : r.val < 2
    · rw [dif_pos h, dif_pos (show 1 + r.val < 3 by omega)]
    · rw [dif_neg h, dif_neg (show ¬1 + r.val < 3 by omega)]; rfl

/-- One block's stored value at an index: the product of the two factors, and of each with the other's rest. -/
theorem pay_at (x : FVec Ideal S128x1024 .f32) (g : FVec Ideal S1x1024 .f32) (w : FVec Ideal S1x1024x1024 .f32)
    (r : Fin 128) (d : Fin 1024) :
    k0_pay2 (F := Ideal) w (k0_pay5 (F := Ideal) x g) (k0_pay6 (F := Ideal) x g) (ix2 r d)
      = (let n := rms c1024 (fun k : Fin 1024 => x (ix2 r k)) (fun k => g (ix2 0 k))
        ∑ k, n k * w (ix3 0 k d) + (∑ k, (n k - n k) * w (ix3 0 k d) + ∑ k, n k * (w (ix3 0 k d) - w (ix3 0 k d)))) := by
  pointwise [k0_pay2, k0_pay3, k0_pay4, k0_pay5, k0_pay6]
  rfl

/-- The gates' stored value at an index. -/
theorem gates_at (x : FVec Ideal S128x1024 .f32) (g : FVec Ideal S1x1024 .f32) (w : FVec Ideal S1x1024x128 .f32)
    (r : Fin 128) (d : Fin 128) :
    gates (F := Ideal) x g w (ix2 r d)
      = (let n := rms c1024 (fun k : Fin 1024 => x (ix2 r k)) (fun k => g (ix2 0 k))
        ∑ k, n k * w (ix3 0 k d) + (∑ k, (n k - n k) * w (ix3 0 k d) + ∑ k, n k * (w (ix3 0 k d) - w (ix3 0 k d)))) := by
  pointwise [gates, k0_pay1, k0_pay3, k0_pay4, k0_pay5, k0_pay6, k0_pay7, k0_pay8, k0_pay9, k0_pay10, k0_pay11]
  rfl

variable (m : (ℓ : Loc nD τ sig) → Buf (Elt Ideal) ℓ)

/-- Where every window's block sits, at every point of the grid. -/
theorem idx : ∀ t : Fin cfg0.N, win0_0.index t = ![0, 0] ∧ win0_1.index t = ![0, 0] ∧ win0_2.index t = ![0, 0, t.val] ∧ win0_3.index t = ![0, 0, 0] ∧ win0_4.index t = ![0, t.val] ∧ win0_5.index t = ![0, 0] :=
  (by decide +kernel : ∀ t : Fin grid0.N, _)

/-- The staged rows are the argument's rows. -/
theorem rows (c : Dev nD) (t : Fin cfg0.N) (r : Fin 128) (d : Fin 1024) :
    iblk m c 0 t (ix2 r d) = m ((c : Thread nD τ).loc main_arg0) (ix2 r d) := by
  unfold iblk
  simp only [V, V0, hostOps0, hostOps0_1, hostOps0_2, List.flatten_cons, List.flatten_nil, List.append_nil, List.cons_append, List.nil_append]
  entry_read
  blk_ext [idx t]

/-- The staged gain is the argument. -/
theorem gain (c : Dev nD) (t : Fin cfg0.N) (d : Fin 1024) :
    iblk m c 1 t (ix2 0 d) = m ((c : Thread nD τ).loc main_arg1) (ix1 d) := by
  unfold iblk
  simp only [V, V0, hostOps0, hostOps0_1, hostOps0_2, List.flatten_cons, List.flatten_nil, List.append_nil, List.cons_append, List.nil_append]
  entry_read
  blk_simp
  pointwise
  blk_ext [idx t]

/-- The staged weight is the first layer's columns at the place where the block sits. -/
theorem weight (c : Dev nD) (t : Fin cfg0.N) (r : Fin 1024) (d : Fin 1024) (e : Fin 4112) (he : e.val = t.val * 1024 + d.val) :
    X0_2 m c t (ix3 0 r d) = m ((c : Thread nD τ).loc main_arg2) (ix3 0 r e) := by
  unfold X0_2 Pipeline.Window.fill
  rw [dif_pos (moved0_2 t _)]
  unfold iblk
  simp only [V, V0, hostOps0, hostOps0_1, hostOps0_2, List.flatten_cons, List.flatten_nil, List.append_nil, List.cons_append, List.nil_append]
  entry_read
  blk_ext [idx t]

/-- The staged second weight is the first layer's last sixteen columns, padded with zeros. -/
theorem waux (c : Dev nD) (t : Fin cfg0.N) (r : Fin 1024) (d : Fin 128) :
    iblk m c 3 t (ix3 0 r d)
      = @dite EReal (d.val < 16) _ (fun h => m ((c : Thread nD τ).loc main_arg2) (ix3 0 r ⟨4096 + d.val, by omega⟩)) (fun _ => 0) := by
  unfold iblk
  simp only [V, V0, hostOps0, hostOps0_1, hostOps0_2, List.flatten_cons, List.flatten_nil, List.append_nil, List.cons_append, List.nil_append]
  entry_read
  show (pad S2x1024x128 ![0, 0, 0] ![0, 0, 112] ![0, 0, 0] (extractStridedSlice S2x1024x16 ![0, 0, 4096]
      (m ((c : Thread nD τ).loc main_arg2) : FVec Ideal S2x1024x4112 .f32) slices_S2x1024x4112_S2x1024x16_0_0_4096)
      (sitofp (F := Ideal) .f32 (constantI S_ 32 0#32)) pads_S2x1024x16_S2x1024x128_000_000_01120 h_S_ : FVec Ideal S2x1024x128 .f32)
      ((win0_3.blk t).view.emb (ix3 0 r d)) = _
  have he : (win0_3.blk t).view.emb (ix3 0 r d) = (ix3 0 r d : S2x1024x128.Idx) := by
    funext a
    match a with
    | ⟨0, _⟩ => exact Fin.ext (by blk_simp [idx t]; rfl)
    | ⟨1, _⟩ => exact Fin.ext (by blk_simp [idx t])
    | ⟨2, _⟩ => exact Fin.ext (by blk_simp [idx t])
  rw [he]
  pointwise
  rw [sitofp_zero]

/-- The gain and the first layer's weight hold no infinity. -/
structure Fine (c : Dev nD) : Prop where
  gain : ∀ k : Fin 1024, Finite (m ((c : Thread nD τ).loc main_arg1) (ix1 k))
  weight : ∀ (k : Fin 1024) (d : Fin 4112), Finite (m ((c : Thread nD τ).loc main_arg2) (ix3 0 k d))

variable {m}

/-- A block's stored value is the product at the place where the block sits. -/
theorem tile_at (c : Dev nD) (hf : Fine m c) (t : Fin cfg0.N) (r : Fin 128) (d : Fin 1024) (j : Fin 128) (e : Fin 4112)
    (hj : j = r) (he : e.val = t.val * 1024 + d.val) :
    tile m c t (ix2 r d)
      = prodAt (m ((c : Thread nD τ).loc main_arg0)) (m ((c : Thread nD τ).loc main_arg1)) (m ((c : Thread nD τ).loc main_arg2)) j e := by
  subst hj
  have hx : (fun k : Fin 1024 => iblk m c 0 t0_0 (ix2 j k)) = fun k => m ((c : Thread nD τ).loc main_arg0) (ix2 j k) :=
    funext fun k => rows m c t0_0 j k
  have hg : (fun k : Fin 1024 => iblk m c 1 t0_0 (ix2 0 k)) = fun k => m ((c : Thread nD τ).loc main_arg1) (ix1 k) :=
    funext fun k => gain m c t0_0 k
  have hw : ∀ k : Fin 1024, X0_2 m c t (ix3 0 k d) = m ((c : Thread nD τ).loc main_arg2) (ix3 0 k e) :=
    fun k => weight m c t k d e he
  unfold tile lo hi
  refine (pay_at _ _ _ j d).trans ?_
  rw [hx, hg]
  simp only [hw]
  exact dot_split (normAt _ _ j) _ (fun k => rms_finite _ _ k (hf.gain k)) fun k => hf.weight k e

/-- The gates' stored value is the second result. -/
theorem side_at (c : Dev nD) (hf : Fine m c) (r : Fin 128) (d : Fin 128) (j : Fin 128) (e : Fin 128) (hj : j = r) (he : e = d) :
    side m c (ix2 r d)
      = auxAt (m ((c : Thread nD τ).loc main_arg0)) (m ((c : Thread nD τ).loc main_arg1)) (m ((c : Thread nD τ).loc main_arg2)) j e := by
  subst hj he
  have hx : (fun k : Fin 1024 => iblk m c 0 t0_0 (ix2 j k)) = fun k => m ((c : Thread nD τ).loc main_arg0) (ix2 j k) :=
    funext fun k => rows m c t0_0 j k
  have hg : (fun k : Fin 1024 => iblk m c 1 t0_0 (ix2 0 k)) = fun k => m ((c : Thread nD τ).loc main_arg1) (ix1 k) :=
    funext fun k => gain m c t0_0 k
  unfold side
  refine (gates_at _ _ _ j e).trans ?_
  rw [hx, hg]
  unfold auxAt
  split
  · rename_i h
    have hw : ∀ k : Fin 1024, iblk m c 3 t0_0 (ix3 0 k e) = m ((c : Thread nD τ).loc main_arg2) (ix3 0 k ⟨4096 + e.val, by omega⟩) :=
      fun k => (waux m c t0_0 k e).trans (dif_pos h)
    simp only [hw]
    exact dot_split (normAt _ _ j) _ (fun k => rms_finite _ _ k (hf.gain k)) fun k => hf.weight k _
  · rename_i h
    have hw : ∀ k : Fin 1024, iblk m c 3 t0_0 (ix3 0 k e) = (0 : EReal) :=
      fun k => (waux m c t0_0 k e).trans (dif_neg h)
    simp only [hw]
    refine (dot_split (normAt _ _ j) (fun _ => 0) (fun k => rms_finite _ _ k (hf.gain k)) fun k => finite_coe 0).trans ?_
    exact Finset.sum_eq_zero fun k _ => mul_zero _

/-- THE RESULT ARRAY of a run: `out` of the arguments. -/
theorem final (c : Dev nD) (hf : Fine m c) : (dats m 0 c).arrAt 4 cfg0.N
    = out (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after_4]
  refine (congrArg _ (eq_ix2 y)).trans (tile_at c hf t (y 0) (y 1) _ _ ?_ ?_)
  · refine Fin.ext ?_; blk_simp [idx t] <;> try omega
  · blk_simp [idx t] <;> try omega

/-- THE RESULT ARRAY of a run: `aux` of the arguments. -/
theorem final2 (c : Dev nD) (hf : Fine m c) : (dats m 0 c).arrAt 5 cfg0.N
    = aux (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after_5]
  refine (congrArg _ (eq_ix2 y)).trans (side_at c hf (y 0) (y 1) _ _ ?_ ?_)
  · refine Fin.ext ?_; blk_simp [idx t] <;> try omega
  · refine Fin.ext ?_; blk_simp [idx t] <;> try omega

/-- What the lines after the kernel leave in the last buffer: the convolution's new state of the arguments. -/
theorem tail (c : Dev nD) (hf : Fine m c) : Pipeline.afterTail₀ cfgs (dats m) 0 (V0 m) [hostOps1] c main_v7
    = conv (m ((c : Thread nD τ).loc main_arg0)) (m ((c : Thread nD τ).loc main_arg1)) (m ((c : Thread nD τ).loc main_arg2))
      (m ((c : Thread nD τ).loc main_arg3)) := by
  have e : Pipeline.withArrays spec0 c (V0 m c) (fun w => (dats m 0 c).arrAt w cfg0.N) (Proc.devRef .tc main_arg3)
      = m ((c : Thread nD τ).loc main_arg3) :=
    (Pipeline.withArrays_of_ne _ c (V0 m c) _ main_arg3 (by decide)).trans (V_main_arg3 m c)
  refine Eq.trans ?_ (conv_eq _ _ _ _)
  rw [← final c hf, ← e, ← Pipeline.withArrays_arr spec0 launch0.win.arr_inj c (V0 m c) (fun w => (dats m 0 c).arrAt w cfg0.N) 4]
  unfold Pipeline.afterTail₀
  simp only [hostOps1, List.flatten_cons, List.flatten_nil, List.append_nil]
  after_results

/-- A run ends with the two result arrays and the convolution's new state, and keeps its arguments. -/
theorem run (ρ : Dev nD → PrngReg) (hf : ∀ c, Fine m c) : θ_run (defs (F := Ideal)) (onTc (τ := τ) (main (F := Ideal))) (s₀ m ρ) (fun r => ∀ c : Dev nD,
    r.2.mem ((c : Thread nD τ).loc main_v3_0)
      = out (m ((c : Thread nD τ).loc main_arg0)) (m ((c : Thread nD τ).loc main_arg1)) (m ((c : Thread nD τ).loc main_arg2))
    ∧ r.2.mem ((c : Thread nD τ).loc main_v3_1)
      = aux (m ((c : Thread nD τ).loc main_arg0)) (m ((c : Thread nD τ).loc main_arg1)) (m ((c : Thread nD τ).loc main_arg2))
    ∧ r.2.mem ((c : Thread nD τ).loc main_v7)
      = conv (m ((c : Thread nD τ).loc main_arg0)) (m ((c : Thread nD τ).loc main_arg1)) (m ((c : Thread nD τ).loc main_arg2))
        (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run _ _ _).mono (fun _ h c =>
    ⟨((h c).1 4).trans (final c (hf c)),
     ((h c).1 5).trans (final2 c (hf c)),
     ((h c).2 main_v7 (Pipeline.mem_restRefs_of main_v7 (by decide) (by decide))).trans (tail c (hf c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c))),
     ((h c).2 main_arg3 (Pipeline.mem_restRefs_of main_arg3 (by decide) (by decide))).trans (W_main_arg3 m (dats m) c)⟩)
    (run_main (F := Ideal) m ρ)

end Cert.SampleInIdeal.Blk

end
-- ==== Proof.SampleInEq.lean ====
/- The sample batch's input projection: its reference read at an index, the three pairs of arrays equal, and what the
   precondition says of the gain and the first layer's weight. -/
module

public import proofs.«01_k».proof.Defs
public import proofs.«01_k».proof.Proof.Gen.Pre_samplein_finite
public import proofs.«01_k».proof.Proof.Gen.SampleInRefIdeal.Read
public import proofs.«01_k».proof.Proof.SampleInBlock
public import Idealize.ShloMosaic.Lib.ReduceAll

@[expose] public section

set_option maxRecDepth 16384

noncomputable section

namespace Cert.SampleInRefIdeal.Rd

open Cert.SampleInRefIdeal Cert.SampleInRefIdeal.Gen Cert.SampleInRefIdeal.Read Idealize.ShloMosaic Idealize.ShloMosaic.TcCoe
open Cert.Dense
open Cert.SampleInIdeal.Blk (prodAt auxAt convAt)

variable (x : FVec Ideal S128x1024 .f32) (g : FVec Ideal S1024 .f32) (w : FVec Ideal S2x1024x4112 .f32)
  (v : FVec Ideal S128x3x3072 .f32)

/-- The norm of the rows. -/
theorem norm_at (r : Fin 128) (d : Fin 1024) : val_main_v12 (F := Ideal) x g (ix2 r d)
    = rms c1024 (fun k : Fin 1024 => x (ix2 r k)) (fun k => g (ix1 k)) d := by
  pointwise [val_main_v12, val_main_v11, val_main_v10, val_main_v9, val_main_v8, val_main_v7, val_main_v6,
    val_main_v5, val_main_v4, val_main_v3, val_main_v2, val_main_v1, val_main_v0, val_main_cst, val_main_cst_0,
    val_main_cst_1]
  rfl

/-- The first layer's weight. -/
theorem weight_at (k : Fin 1024) (d : Fin 4112) : val_main_v14 (F := Ideal) w (ix2 k d) = w (ix3 0 k d) := by
  pointwise [val_main_v14, val_main_v13]

/-- The product. -/
theorem prod_at (r : Fin 128) (d : Fin 4112) : val_main_v15 (F := Ideal) x g w (ix2 r d) = prodAt x g w r d := by
  have e : val_main_v15 (F := Ideal) x g w (ix2 r d)
      = ∑ k : Fin 1024, val_main_v12 (F := Ideal) x g (ix2 r k) * val_main_v14 (F := Ideal) w (ix2 k d) := by
    pointwise [val_main_v15]
  exact e.trans (Finset.sum_congr rfl fun k _ => congrArg₂ (· * ·) (norm_at x g r k) (weight_at w k d))

/-- The reference's first result is the kernel's. -/
theorem result : val_main_v21 (F := Ideal) x g w = Cert.SampleInIdeal.Blk.out x g w := by
  funext j
  rw [eq_ix2 j]
  generalize j 0 = r
  generalize hd : j 1 = d
  refine Eq.trans ?_ (prod_at x g w r ⟨d.val, lt_trans d.isLt (by decide)⟩)
  pointwise [val_main_v21]

/-- The reference's second result is the kernel's. -/
theorem result2 : val_main_v17 (F := Ideal) x g w = Cert.SampleInIdeal.Blk.aux x g w := by
  funext j
  rw [eq_ix2 j]
  generalize j 0 = r
  generalize hd : j 1 = d
  show _ = auxAt x g w r d
  unfold auxAt
  pointwise [val_main_v17, val_main_v16, val_main_call0_v0, val_main_c]
  rw [sitofp_zero]
  split
  · rename_i h
    exact prod_at x g w r ⟨4096 + d.val, by omega⟩
  · rfl

/-- The reference's new state of the convolution is the kernel's. -/
theorem result3 : val_main_v22 (F := Ideal) x g w v = Cert.SampleInIdeal.Blk.conv x g w v := by
  funext j
  rw [eq_ix3 j]
  generalize j 0 = b
  generalize j 1 = r
  generalize j 2 = d
  have hb : b.val < 128 := b.isLt
  have hr : r.val < 3 := r.isLt
  have hd : d.val < 3072 := d.isLt
  show _ = convAt x g w v b r d
  unfold convAt
  rw [← prod_at x g w b ⟨d.val, by omega⟩]
  unfold val_main_v22 val_main_v20 val_main_v19 val_main_v18
  generalize val_main_v15 (F := Ideal) x g w = y
  pointwise

end Cert.SampleInRefIdeal.Rd

namespace Cert.SampleInPre

open Cert.Pre_samplein_finite Cert.Pre_samplein_finite.Gen Idealize.ShloMosaic
open Cert.Dense

/-- The first layer's weight, read at an index. -/
theorem layer_at (w : FVec Ideal S2x1024x4112 .f32) (k : Fin 1024) (d : Fin 4112) :
    shapeCast S1024x4112 (extractStridedSlice S1x1024x4112 ![0, 0, 0] w Facts.slices_S2x1024x4112_S1x1024x4112_0_0_0)
      Facts.shapeCasts_S1x1024x4112_S1024x4112 (ix2 k d) = w (ix3 0 k d) := by
  pointwise

/-- The precondition, read back: no element of the gain or of the first layer's weight is an infinity. -/
theorem finite (x : FVec Ideal S128x1024 .f32) (g : FVec Ideal S1024 .f32) (w : FVec Ideal S2x1024x4112 .f32)
    (v : FVec Ideal S128x3x3072 .f32) (h : fn (F := Ideal) x g w v = fun _ => 1#1) :
    (∀ i, Finite (g i)) ∧ ∀ (k : Fin 1024) (d : Fin 4112), Finite (w (ix3 0 k d)) := by
  have u : Subsingleton S_.Idx := ⟨fun y z => funext fun a => a.elim0⟩
  have e := congrFun h fun a => a.elim0
  dsimp only [fn, andi] at e
  rw [IntOp.andi_eq_one] at e
  exact ⟨fun i => finite_of_cmp (Host.reduce_andi_all _ _ _ _ _ e.1 i),
    fun k d => (layer_at w k d) ▸ finite_of_cmp (Host.reduce_andi_all _ _ _ _ _ e.2 (ix2 k d))⟩

/-- The same of a memory that meets the precondition, on every device. -/
theorem fine (m : (ℓ : Loc Cert.SampleInIdeal.nD Cert.SampleInIdeal.τ Cert.SampleInIdeal.sig) → Buf (Elt Ideal) ℓ)
    (h : Cert.Pre_SampleInIdeal_samplein_finite (hPre_samplein_finite := Cert.Pre_samplein_finite.Gen.facts) m)
    (c : Dev Cert.SampleInIdeal.nD) : Cert.SampleInIdeal.Blk.Fine m c :=
  have f := finite _ _ _ _ (h c)
  ⟨fun k => f.1 _, fun k d => f.2 k d⟩

end Cert.SampleInPre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjRefIdeal.Read
public import proofs.«01_k».proof.Proof.Gen.Query.Frame
public import proofs.«01_k».proof.Proof.Gen.QueryIdeal.Frame
public import proofs.«01_k».proof.Proof.Gen.QueryIdeal.Value
public import proofs.«01_k».proof.Proof.Gen.QueryRefIdeal.Run
public import proofs.«01_k».proof.Proof.Gen.QueryRefIdeal.Read
public import proofs.«01_k».proof.Proof.Gen.AttOut.Frame
public import proofs.«01_k».proof.Proof.Gen.AttOutIdeal.Frame
public import proofs.«01_k».proof.Proof.Gen.AttOutIdeal.Value
public import proofs.«01_k».proof.Proof.Gen.AttOutRefIdeal.Run
public import proofs.«01_k».proof.Proof.Gen.AttOutRefIdeal.Read
public import proofs.«01_k».proof.Proof.Gen.GdnOut.Frame
public import proofs.«01_k».proof.Proof.Gen.GdnOutIdeal.Frame
public import proofs.«01_k».proof.Proof.Gen.GdnOutIdeal.Value
public import proofs.«01_k».proof.Proof.Gen.GdnOutRefIdeal.Run
public import proofs.«01_k».proof.Proof.Gen.GdnOutRefIdeal.Read
public import proofs.«01_k».proof.Proof.Gen.Shared.Frame
public import proofs.«01_k».proof.Proof.Gen.SharedIdeal.Frame
public import proofs.«01_k».proof.Proof.Gen.SharedRefIdeal.Run
public import proofs.«01_k».proof.Proof.Gen.SharedRefIdeal.Read
public import proofs.«01_k».proof.Proof.Gen.Pre_experts_named
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal.Run
public import proofs.«01_k».proof.Proof.Gen.ExpertsRefIdeal.Read
public import proofs.«01_k».proof.Proof.Gen.Pre_sample_finite
public import proofs.«01_k».proof.Proof.Gen.Sample.Frame
public import proofs.«01_k».proof.Proof.Gen.SampleIdeal.Frame
public import proofs.«01_k».proof.Proof.Gen.SampleRefIdeal.Run
public import proofs.«01_k».proof.Proof.Gen.SampleRefIdeal.Read
public import proofs.«01_k».proof.Proof.Gen.Pre_samplein_finite
public import proofs.«01_k».proof.Proof.Gen.SampleIn.Skeleton
public import proofs.«01_k».proof.Proof.Gen.SampleIn.Frame
public import proofs.«01_k».proof.Proof.Gen.SampleInIdeal.Skeleton
public import proofs.«01_k».proof.Proof.Gen.SampleInIdeal.Frame
public import proofs.«01_k».proof.Proof.Gen.SampleInRefIdeal.Run
public import proofs.«01_k».proof.Proof.Gen.SampleInRefIdeal.Read
public import proofs.«01_k».proof.Proof.SwaEq
public import proofs.«01_k».proof.Proof.FfnEq
public import proofs.«01_k».proof.Proof.ProjEq
public import proofs.«01_k».proof.Proof.QueryEq
public import proofs.«01_k».proof.Proof.AttOutEq
public import proofs.«01_k».proof.Proof.GdnOutEq
public import proofs.«01_k».proof.Proof.SharedEq
public import proofs.«01_k».proof.Proof.ExpertsEq
public import proofs.«01_k».proof.Proof.ExpertsNamed
public import proofs.«01_k».proof.Proof.SampleEq
public import proofs.«01_k».proof.Proof.SampleInEq
public import proofs.«01_k».proof.Proof.SampleInFrame
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments and, having no semaphore, ends with none raised. -/
theorem frame_ref : Cert.quiescent_ReferenceIdeal := fun m ρ _ =>
  (θ_run _ _ _).mono (fun _ h => ⟨fun c => (h c).2, sem_eq_zero_of_no_sems (by decide) _⟩)
    (Cert.ReferenceIdeal.Value.run (F := Ideal) m ρ)

/-- The windowed attention of the kernel and of the reference end with the same array. -/
theorem swa : Cert.algebraic_KernelIdeal_ReferenceIdeal := fun m ρ m' ρ' _ hag =>
  ⟨fun c => Cert.KernelIdeal.Swa.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run _ _ _).mono (fun _ h c => ⟨(h c).1.trans (Cert.KernelIdeal.Swa.final m c), (h c).2⟩)
      (Cert.KernelIdeal.Value.run_blocks (F := Ideal) m ρ),
    (θ_run _ _ _).mono (fun _ h c => ⟨(h c).1.trans (by
        rw [Cert.ReferenceIdeal.Read.val_main_v76_eq, (hag c).1, (hag c).2.1, (hag c).2.2.1, (hag c).2.2.2]
        exact Cert.Swa.result _ _ _ _), (h c).2⟩)
      (Cert.ReferenceIdeal.Value.run (F := Ideal) m' ρ')⟩

/-- The dense feed-forward call: its reference runs, keeps its arguments and ends with no semaphore raised. -/
theorem ffn_frame : Cert.quiescent_FfnRefIdeal := fun m ρ _ =>
  (θ_run _ _ _).mono (fun _ h => ⟨fun c => (h c).2, sem_eq_zero_of_no_sems (by decide) _⟩)
    (Cert.FfnRefIdeal.Value.run (F := Ideal) m ρ)

/-- The dense feed-forward call: kernel and reference end with the same array. -/
theorem ffn : Cert.algebraic_FfnIdeal_FfnRefIdeal := fun m ρ m' ρ' _ hag =>
  ⟨fun c => Cert.FfnIdeal.Blk.out
      (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3)),
    (θ_run _ _ _).mono (fun _ h c => ⟨(h c).1.trans (Cert.FfnIdeal.Blk.final m c), (h c).2⟩)
      (Cert.FfnIdeal.Value.run_blocks (F := Ideal) m ρ),
    (θ_run _ _ _).mono (fun _ h c => ⟨(h c).1.trans (by
        rw [Cert.FfnRefIdeal.Read.val_main_v19_eq, (hag c).1, (hag c).2.1, (hag c).2.2.1, (hag c).2.2.2]
        exact Cert.FfnRefIdeal.Rd.result _ _ _ _), (h c).2⟩)
      (Cert.FfnRefIdeal.Value.run (F := Ideal) m' ρ')⟩

/-- The input projection of the delta rule layer: its reference runs, keeps its arguments and ends with no semaphore raised. -/
theorem proj_frame : Cert.quiescent_ProjRefIdeal := fun m ρ _ =>
  (θ_run _ _ _).mono (fun _ h => ⟨fun c => (h c).2.2.2, sem_eq_zero_of_no_sems (by decide) _⟩)
    (Cert.ProjRefIdeal.Value.run (F := Ideal) m ρ)

/-- The input projection of the delta rule layer: kernel and reference end with the same three arrays. -/
theorem proj : Cert.algebraic_ProjIdeal_ProjRefIdeal := fun m ρ m' ρ' _ hag =>
  ⟨fun c => Cert.ProjIdeal.Blk.out
      (m ((c.tc : Thread Cert.ProjIdeal.nD Cert.ProjIdeal.τ).loc Cert.ProjIdeal.main_arg0))
      (m ((c.tc : Thread Cert.ProjIdeal.nD Cert.ProjIdeal.τ).loc Cert.ProjIdeal.main_arg1))
      (m ((c.tc : Thread Cert.ProjIdeal.nD Cert.ProjIdeal.τ).loc Cert.ProjIdeal.main_arg2)),
    fun c => Cert.ProjIdeal.Blk.aux
      (m ((c.tc : Thread Cert.ProjIdeal.nD Cert.ProjIdeal.τ).loc Cert.ProjIdeal.main_arg0))
      (m ((c.tc : Thread Cert.ProjIdeal.nD Cert.ProjIdeal.τ).loc Cert.ProjIdeal.main_arg1))
      (m ((c.tc : Thread Cert.ProjIdeal.nD Cert.ProjIdeal.τ).loc Cert.ProjIdeal.main_arg2)),
    fun c => Cert.ProjIdeal.Blk.conv
      (m ((c.tc : Thread Cert.ProjIdeal.nD Cert.ProjIdeal.τ).loc Cert.ProjIdeal.main_arg0))
      (m ((c.tc : Thread Cert.ProjIdeal.nD Cert.ProjIdeal.τ).loc Cert.ProjIdeal.main_arg1))
      (m ((c.tc : Thread Cert.ProjIdeal.nD Cert.ProjIdeal.τ).loc Cert.ProjIdeal.main_arg2)),
    Cert.ProjIdeal.Blk.run m ρ,
    (θ_run _ _ _).mono (fun _ h c => ⟨(h c).1.trans (by
        rw [Cert.ProjRefIdeal.Read.val_main_v18_eq, (hag c).1, (hag c).2.1, (hag c).2.2]
        exact Cert.ProjRefIdeal.Rd.result _ _ _), (h c).2.1.trans (by
        rw [Cert.ProjRefIdeal.Read.val_main_v15_eq, (hag c).1, (hag c).2.1, (hag c).2.2]
        exact Cert.ProjRefIdeal.Rd.result2 _ _ _), (h c).2.2.1.trans (by
        rw [Cert.ProjRefIdeal.Read.val_main_v19_eq, (hag c).1, (hag c).2.1, (hag c).2.2]
        exact Cert.ProjRefIdeal.Rd.result3 _ _ _), (h c).2.2.2⟩)
      (Cert.ProjRefIdeal.Value.run (F := Ideal) m' ρ')⟩

/-- The query projection: its reference runs, keeps its arguments and ends with no semaphore raised. -/
theorem query_frame : Cert.quiescent_QueryRefIdeal := fun m ρ _ =>
  (θ_run _ _ _).mono (fun _ h => ⟨fun c => (h c).2, sem_eq_zero_of_no_sems (by decide) _⟩)
    (Cert.QueryRefIdeal.Value.run (F := Ideal) m ρ)

/-- The query projection: kernel and reference end with the same array. -/
theorem query : Cert.algebraic_QueryIdeal_QueryRefIdeal := fun m ρ m' ρ' _ hag =>
  ⟨fun c => Cert.QueryIdeal.Blk.out
      (m ((c.tc : Thread Cert.QueryIdeal.nD Cert.QueryIdeal.τ).loc Cert.QueryIdeal.main_arg0))
      (m ((c.tc : Thread Cert.QueryIdeal.nD Cert.QueryIdeal.τ).loc Cert.QueryIdeal.main_arg1))
      (m ((c.tc : Thread Cert.QueryIdeal.nD Cert.QueryIdeal.τ).loc Cert.QueryIdeal.main_arg2)),
    (θ_run _ _ _).mono (fun _ h c => ⟨(h c).1.trans (Cert.QueryIdeal.Blk.final m c), (h c).2⟩)
      (Cert.QueryIdeal.Value.run_blocks (F := Ideal) m ρ),
    (θ_run _ _ _).mono (fun _ h c => ⟨(h c).1.trans (by
        rw [Cert.QueryRefIdeal.Read.val_main_v14_eq, (hag c).1, (hag c).2.1, (hag c).2.2]
        exact Cert.QueryRefIdeal.Rd.result _ _ _), (h c).2⟩)
      (Cert.QueryRefIdeal.Value.run (F := Ideal) m' ρ')⟩

/-- The output projection of attention: its reference runs, keeps its arguments and ends with no semaphore raised. -/
theorem attOut_frame : Cert.quiescent_AttOutRefIdeal := fun m ρ _ =>
  (θ_run _ _ _).mono (fun _ h => ⟨fun c => (h c).2, sem_eq_zero_of_no_sems (by decide) _⟩)
    (Cert.AttOutRefIdeal.Value.run (F := Ideal) m ρ)

/-- The output projection of attention: kernel and reference end with the same array. -/
theorem attOut : Cert.algebraic_AttOutIdeal_AttOutRefIdeal := fun m ρ m' ρ' _ hag =>
  ⟨fun c => Cert.AttOutIdeal.Blk.out
      (m ((c.tc : Thread Cert.AttOutIdeal.nD Cert.AttOutIdeal.τ).loc Cert.AttOutIdeal.main_arg0))
      (m ((c.tc : Thread Cert.AttOutIdeal.nD Cert.AttOutIdeal.τ).loc Cert.AttOutIdeal.main_arg1))
      (m ((c.tc : Thread Cert.AttOutIdeal.nD Cert.AttOutIdeal.τ).loc Cert.AttOutIdeal.main_arg2)),
    (θ_run _ _ _).mono (fun _ h c => ⟨(h c).1.trans (Cert.AttOutIdeal.Blk.final m c), (h c).2⟩)
      (Cert.AttOutIdeal.Value.run_blocks (F := Ideal) m ρ),
    (θ_run _ _ _).mono (fun _ h c => ⟨(h c).1.trans (by
        rw [Cert.AttOutRefIdeal.Read.val_main_v2_eq, (hag c).1, (hag c).2.1, (hag c).2.2]
        exact Cert.AttOutRefIdeal.Rd.result _ _ _), (h c).2⟩)
      (Cert.AttOutRefIdeal.Value.run (F := Ideal) m' ρ')⟩

/-- The gated output projection of the delta rule layer: its reference runs, keeps its arguments and ends with no semaphore raised. -/
theorem gdnOut_frame : Cert.quiescent_GdnOutRefIdeal := fun m ρ _ =>
  (θ_run _ _ _).mono (fun _ h => ⟨fun c => (h c).2, sem_eq_zero_of_no_sems (by decide) _⟩)
    (Cert.GdnOutRefIdeal.Value.run (F := Ideal) m ρ)

/-- The gated output projection of the delta rule layer: kernel and reference end with the same array. -/
theorem gdnOut : Cert.algebraic_GdnOutIdeal_GdnOutRefIdeal := fun m ρ m' ρ' _ hag =>
  ⟨fun c => Cert.GdnOutIdeal.Blk.out
      (m ((c.tc : Thread Cert.GdnOutIdeal.nD Cert.GdnOutIdeal.τ).loc Cert.GdnOutIdeal.main_arg0))
      (m ((c.tc : Thread Cert.GdnOutIdeal.nD Cert.GdnOutIdeal.τ).loc Cert.GdnOutIdeal.main_arg1))
      (m ((c.tc : Thread Cert.GdnOutIdeal.nD Cert.GdnOutIdeal.τ).loc Cert.GdnOutIdeal.main_arg2))
      (m ((c.tc : Thread Cert.GdnOutIdeal.nD Cert.GdnOutIdeal.τ).loc Cert.GdnOutIdeal.main_arg3))
      (m ((c.tc : Thread Cert.GdnOutIdeal.nD Cert.GdnOutIdeal.τ).loc Cert.GdnOutIdeal.main_arg4)),
    (θ_run _ _ _).mono (fun _ h c => ⟨(h c).1.trans (Cert.GdnOutIdeal.Blk.final m c), (h c).2⟩)
      (Cert.GdnOutIdeal.Value.run_blocks (F := Ideal) m ρ),
    (θ_run _ _ _).mono (fun _ h c => ⟨(h c).1.trans (by
        rw [Cert.GdnOutRefIdeal.Read.val_main_v21_eq, (hag c).1, (hag c).2.1, (hag c).2.2.1, (hag c).2.2.2.1, (hag c).2.2.2.2]
        exact Cert.GdnOutRefIdeal.Rd.result _ _ _ _ _), (h c).2⟩)
      (Cert.GdnOutRefIdeal.Value.run (F := Ideal) m' ρ')⟩

/-- The shared key and value projection: its reference runs, keeps its arguments and ends with no semaphore raised. -/
theorem shared_frame : Cert.quiescent_SharedRefIdeal := fun m ρ _ =>
  (θ_run _ _ _).mono (fun _ h => ⟨fun c => (h c).2.2, sem_eq_zero_of_no_sems (by decide) _⟩)
    (Cert.SharedRefIdeal.Value.run (F := Ideal) m ρ)

/-- The shared key and value projection: kernel and reference end with the same two arrays. -/
theorem shared : Cert.algebraic_SharedIdeal_SharedRefIdeal := fun m ρ m' ρ' _ hag =>
  ⟨fun c => Cert.SharedIdeal.Blk.out
      (m ((c.tc : Thread Cert.SharedIdeal.nD Cert.SharedIdeal.τ).loc Cert.SharedIdeal.main_arg0))
      (m ((c.tc : Thread Cert.SharedIdeal.nD Cert.SharedIdeal.τ).loc Cert.SharedIdeal.main_arg1))
      (m ((c.tc : Thread Cert.SharedIdeal.nD Cert.SharedIdeal.τ).loc Cert.SharedIdeal.main_arg2)),
    fun c => Cert.SharedIdeal.Blk.win
      (m ((c.tc : Thread Cert.SharedIdeal.nD Cert.SharedIdeal.τ).loc Cert.SharedIdeal.main_arg0))
      (m ((c.tc : Thread Cert.SharedIdeal.nD Cert.SharedIdeal.τ).loc Cert.SharedIdeal.main_arg1))
      (m ((c.tc : Thread Cert.SharedIdeal.nD Cert.SharedIdeal.τ).loc Cert.SharedIdeal.main_arg2)),
    Cert.SharedIdeal.Blk.run m ρ,
    (θ_run _ _ _).mono (fun _ h c => ⟨(h c).1.trans (by
        rw [Cert.SharedRefIdeal.Read.val_main_v13_eq, (hag c).1, (hag c).2.1, (hag c).2.2]
        exact Cert.SharedRefIdeal.Rd.result _ _ _), (h c).2.1.trans (by
        rw [Cert.SharedRefIdeal.Read.val_main_v16_eq, (hag c).1, (hag c).2.1, (hag c).2.2]
        exact Cert.SharedRefIdeal.Rd.result2 _ _ _), (h c).2.2⟩)
      (Cert.SharedRefIdeal.Value.run (F := Ideal) m' ρ')⟩

/-- The grouped experts: the precondition bounds the two tables. -/
theorem experts_named (m : (ℓ : Loc Cert.Experts.nD Cert.Experts.τ Cert.Experts.sig) → Buf (Elt Bits) ℓ)
    (h : Cert.Pre_Experts (hPre_experts_named := Cert.Pre_experts_named.Gen.facts) m) : Cert.Experts.Run.Named m :=
  have b := Cert.ExpertsTables.bounds (F := Bits) _ _ _ _ _ (h 0)
  ⟨b.1, b.2⟩

/-- The same of the idealized program. -/
theorem experts_named_ideal (m : (ℓ : Loc Cert.ExpertsIdeal.nD Cert.ExpertsIdeal.τ Cert.ExpertsIdeal.sig) → Buf (Elt Ideal) ℓ)
    (h : Cert.Pre_ExpertsIdeal (hPre_experts_named := Cert.Pre_experts_named.Gen.facts) m) : Cert.ExpertsIdeal.Run.Named m :=
  have b := Cert.ExpertsTables.bounds (F := Ideal) _ _ _ _ _ (h 0)
  ⟨b.1, b.2⟩

/-- The grouped experts: the reference runs, keeps its arguments and ends with no semaphore raised. -/
theorem experts_frame : Cert.quiescent_ExpertsRefIdeal := fun m ρ _ =>
  (θ_run _ _ _).mono (fun _ h => ⟨fun c => (h c).2, sem_eq_zero_of_no_sems (by decide) _⟩)
    (Cert.ExpertsRefIdeal.Value.run (F := Ideal) m ρ)

/-- The grouped experts: kernel and reference end with the same array. -/
theorem experts : Cert.algebraic_ExpertsIdeal_ExpertsRefIdeal := fun m ρ m' ρ' hp hag =>
  have hn := experts_named_ideal m hp
  ⟨fun c => Cert.ExpertsIdeal.Blk.out
      (m ((c.tc : Thread Cert.ExpertsIdeal.nD Cert.ExpertsIdeal.τ).loc Cert.ExpertsIdeal.main_arg0))
      (m ((c.tc : Thread Cert.ExpertsIdeal.nD Cert.ExpertsIdeal.τ).loc Cert.ExpertsIdeal.main_arg1))
      (m ((c.tc : Thread Cert.ExpertsIdeal.nD Cert.ExpertsIdeal.τ).loc Cert.ExpertsIdeal.main_arg2))
      (m ((c.tc : Thread Cert.ExpertsIdeal.nD Cert.ExpertsIdeal.τ).loc Cert.ExpertsIdeal.main_arg3))
      (m ((c.tc : Thread Cert.ExpertsIdeal.nD Cert.ExpertsIdeal.τ).loc Cert.ExpertsIdeal.main_arg4)),
    (θ_run _ _ _).mono (fun _ h c => ⟨(h c).1.trans (Cert.ExpertsIdeal.Blk.final m hn c), (h c).2⟩)
      (Cert.ExpertsIdeal.Run.run_result (F := Ideal) m ρ (Cert.ExpertsIdeal.Run.ok hn)),
    (θ_run _ _ _).mono (fun _ h c => ⟨(h c).1.trans (by
        rw [Cert.ExpertsRefIdeal.Read.val_main_v27_eq, (hag c).1, (hag c).2.1, (hag c).2.2.1, (hag c).2.2.2.1, (hag c).2.2.2.2]
        obtain rfl : c = 0 := Subsingleton.elim _ _
        exact Cert.ExpertsRefIdeal.Rd.result _ _ _ _ _ hn.name), (h c).2⟩)
      (Cert.ExpertsRefIdeal.Value.run (F := Ideal) m' ρ')⟩

/-- The sample batch's shared key and value projection: its reference runs, keeps its arguments and ends with no semaphore raised. -/
theorem sample_frame : Cert.quiescent_SampleRefIdeal := fun m ρ _ =>
  (θ_run _ _ _).mono (fun _ h => ⟨fun c => (h c).2.2, sem_eq_zero_of_no_sems (by decide) _⟩)
    (Cert.SampleRefIdeal.Value.run (F := Ideal) m ρ)

/-- The sample batch's shared key and value projection: kernel and reference end with the same two arrays, where the gain
    and the weight hold no infinity. -/
theorem sample : Cert.algebraic_SampleIdeal_SampleRefIdeal_pre_sample_finite (hPre_sample_finite := Cert.Pre_sample_finite.Gen.facts) :=
  fun m ρ m' ρ' hp hag =>
  ⟨fun c => Cert.SampleIdeal.Blk.out
      (m ((c.tc : Thread Cert.SampleIdeal.nD Cert.SampleIdeal.τ).loc Cert.SampleIdeal.main_arg0))
      (m ((c.tc : Thread Cert.SampleIdeal.nD Cert.SampleIdeal.τ).loc Cert.SampleIdeal.main_arg1))
      (m ((c.tc : Thread Cert.SampleIdeal.nD Cert.SampleIdeal.τ).loc Cert.SampleIdeal.main_arg2)),
    fun c => Cert.SampleIdeal.Blk.win
      (m ((c.tc : Thread Cert.SampleIdeal.nD Cert.SampleIdeal.τ).loc Cert.SampleIdeal.main_arg0))
      (m ((c.tc : Thread Cert.SampleIdeal.nD Cert.SampleIdeal.τ).loc Cert.SampleIdeal.main_arg1))
      (m ((c.tc : Thread Cert.SampleIdeal.nD Cert.SampleIdeal.τ).loc Cert.SampleIdeal.main_arg2))
      (m ((c.tc : Thread Cert.SampleIdeal.nD Cert.SampleIdeal.τ).loc Cert.SampleIdeal.main_arg3)),
    Cert.SampleIdeal.Blk.run ρ (Cert.SamplePre.fine m hp),
    (θ_run _ _ _).mono (fun _ h c => ⟨(h c).1.trans (by
        rw [Cert.SampleRefIdeal.Read.val_main_v13_eq, (hag c).1, (hag c).2.1, (hag c).2.2.1]
        exact Cert.SampleRefIdeal.Rd.result _ _ _), (h c).2.1.trans (by
        rw [Cert.SampleRefIdeal.Read.val_main_v17_eq, (hag c).1, (hag c).2.1, (hag c).2.2.1, (hag c).2.2.2]
        exact Cert.SampleRefIdeal.Rd.result2 _ _ _ _), (h c).2.2⟩)
      (Cert.SampleRefIdeal.Value.run (F := Ideal) m' ρ')⟩

/-- The sample batch's input projection: its reference runs, keeps its arguments and ends with no semaphore raised. -/
theorem sampleIn_frame : Cert.quiescent_SampleInRefIdeal := fun m ρ _ =>
  (θ_run _ _ _).mono (fun _ h => ⟨fun c => (h c).2.2.2, sem_eq_zero_of_no_sems (by decide) _⟩)
    (Cert.SampleInRefIdeal.Value.run (F := Ideal) m ρ)

/-- The sample batch's input projection: kernel and reference end with the same three arrays, where the gain and the first
    layer's weight hold no infinity. -/
theorem sampleIn : Cert.algebraic_SampleInIdeal_SampleInRefIdeal_pre_samplein_finite (hPre_samplein_finite := Cert.Pre_samplein_finite.Gen.facts) :=
  fun m ρ m' ρ' hp hag =>
  ⟨fun c => Cert.SampleInIdeal.Blk.out
      (m ((c.tc : Thread Cert.SampleInIdeal.nD Cert.SampleInIdeal.τ).loc Cert.SampleInIdeal.main_arg0))
      (m ((c.tc : Thread Cert.SampleInIdeal.nD Cert.SampleInIdeal.τ).loc Cert.SampleInIdeal.main_arg1))
      (m ((c.tc : Thread Cert.SampleInIdeal.nD Cert.SampleInIdeal.τ).loc Cert.SampleInIdeal.main_arg2)),
    fun c => Cert.SampleInIdeal.Blk.aux
      (m ((c.tc : Thread Cert.SampleInIdeal.nD Cert.SampleInIdeal.τ).loc Cert.SampleInIdeal.main_arg0))
      (m ((c.tc : Thread Cert.SampleInIdeal.nD Cert.SampleInIdeal.τ).loc Cert.SampleInIdeal.main_arg1))
      (m ((c.tc : Thread Cert.SampleInIdeal.nD Cert.SampleInIdeal.τ).loc Cert.SampleInIdeal.main_arg2)),
    fun c => Cert.SampleInIdeal.Blk.conv
      (m ((c.tc : Thread Cert.SampleInIdeal.nD Cert.SampleInIdeal.τ).loc Cert.SampleInIdeal.main_arg0))
      (m ((c.tc : Thread Cert.SampleInIdeal.nD Cert.SampleInIdeal.τ).loc Cert.SampleInIdeal.main_arg1))
      (m ((c.tc : Thread Cert.SampleInIdeal.nD Cert.SampleInIdeal.τ).loc Cert.SampleInIdeal.main_arg2))
      (m ((c.tc : Thread Cert.SampleInIdeal.nD Cert.SampleInIdeal.τ).loc Cert.SampleInIdeal.main_arg3)),
    Cert.SampleInIdeal.Blk.run ρ (Cert.SampleInPre.fine m hp),
    (θ_run _ _ _).mono (fun _ h c => ⟨(h c).1.trans (by
        rw [Cert.SampleInRefIdeal.Read.val_main_v21_eq, (hag c).1, (hag c).2.1, (hag c).2.2.1]
        exact Cert.SampleInRefIdeal.Rd.result _ _ _), (h c).2.1.trans (by
        rw [Cert.SampleInRefIdeal.Read.val_main_v17_eq, (hag c).1, (hag c).2.1, (hag c).2.2.1]
        exact Cert.SampleInRefIdeal.Rd.result2 _ _ _), (h c).2.2.1.trans (by
        rw [Cert.SampleInRefIdeal.Read.val_main_v22_eq, (hag c).1, (hag c).2.1, (hag c).2.2.1, (hag c).2.2.2]
        exact Cert.SampleInRefIdeal.Rd.result3 _ _ _ _), (h c).2.2.2⟩)
      (Cert.SampleInRefIdeal.Value.run (F := Ideal) m' ρ')⟩

/-- Everything claimed. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Proj.Gen.facts, Cert.ProjIdeal.Gen.facts, Cert.ProjRefIdeal.Gen.facts,
  Cert.Query.Gen.facts, Cert.QueryIdeal.Gen.facts, Cert.QueryRefIdeal.Gen.facts,
  Cert.AttOut.Gen.facts, Cert.AttOutIdeal.Gen.facts, Cert.AttOutRefIdeal.Gen.facts,
  Cert.GdnOut.Gen.facts, Cert.GdnOutIdeal.Gen.facts, Cert.GdnOutRefIdeal.Gen.facts,
  Cert.Shared.Gen.facts, Cert.SharedIdeal.Gen.facts, Cert.SharedRefIdeal.Gen.facts,
  Cert.Experts.Gen.facts, Cert.ExpertsIdeal.Gen.facts, Cert.ExpertsRefIdeal.Gen.facts,
  Cert.Sample.Gen.facts, Cert.SampleIdeal.Gen.facts, Cert.SampleRefIdeal.Gen.facts,
  Cert.SampleIn.Gen.facts, Cert.SampleInIdeal.Gen.facts, Cert.SampleInRefIdeal.Gen.facts,
  Cert.Pre_experts_named.Gen.facts, Cert.Pre_sample_finite.Gen.facts, Cert.Pre_samplein_finite.Gen.facts,
  fun m ρ _ => Cert.Kernel.Gen.frame m ρ, fun m ρ _ => Cert.KernelIdeal.Gen.frame m ρ, frame_ref,
  fun m ρ _ => Cert.Ffn.Gen.frame m ρ, fun m ρ _ => Cert.FfnIdeal.Gen.frame m ρ, ffn_frame,
  fun m ρ _ => Cert.Proj.Gen.frame m ρ, fun m ρ _ => Cert.ProjIdeal.Gen.frame m ρ, proj_frame,
  fun m ρ _ => Cert.Query.Gen.frame m ρ, fun m ρ _ => Cert.QueryIdeal.Gen.frame m ρ, query_frame,
  fun m ρ _ => Cert.AttOut.Gen.frame m ρ, fun m ρ _ => Cert.AttOutIdeal.Gen.frame m ρ, attOut_frame,
  fun m ρ _ => Cert.GdnOut.Gen.frame m ρ, fun m ρ _ => Cert.GdnOutIdeal.Gen.frame m ρ, gdnOut_frame,
  fun m ρ _ => Cert.Shared.Gen.frame m ρ, fun m ρ _ => Cert.SharedIdeal.Gen.frame m ρ, shared_frame,
  fun m ρ h => Cert.Experts.Run.frame m ρ (Cert.Experts.Run.ok (experts_named m h)),
  fun m ρ h => Cert.ExpertsIdeal.Run.frame m ρ (Cert.ExpertsIdeal.Run.ok (experts_named_ideal m h)),
  experts_frame, fun m ρ _ => experts_frame m ρ trivial,
  fun m ρ _ => Cert.Sample.Gen.frame m ρ, fun m ρ _ => Cert.SampleIdeal.Gen.frame m ρ,
  fun m ρ _ => Cert.SampleIdeal.Gen.frame m ρ, sample_frame, fun m ρ _ => sample_frame m ρ trivial,
  fun m ρ _ => Cert.SampleIn.Run.frame m ρ, fun m ρ _ => Cert.SampleInIdeal.Run.frame m ρ,
  fun m ρ _ => Cert.SampleInIdeal.Run.frame m ρ, sampleIn_frame, fun m ρ _ => sampleIn_frame m ρ trivial,
  trivial, swa, trivial, ffn, trivial, proj, trivial, query, trivial, attOut, trivial, gdnOut, trivial, shared, trivial, experts, trivial, sample,
  trivial, sampleIn⟩

end Cert.Proof

end
